-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)
  ∧ IdealRules.named_const.Statement Cert.KernelIdeal.κ "dead" .f32 0x431EB24B#32 ⊤

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v18_0)) (v1 : (c : Dev Cert.Kernel6Ideal.nD) → Buf (Elt Ideal) ((c.tc : Thread Cert.Kernel6Ideal.nD Cert.Kernel6Ideal.τ).loc Cert.Kernel6Ideal.main_v18_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18_0) = v0 c
          ∧ r.2.mem ((c.tc : Thread Cert.Kernel6Ideal.nD Cert.Kernel6Ideal.τ).loc Cert.Kernel6Ideal.main_v18_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_scores.lean ====
abbrev S2x8192x6144 : Shape := ⟨3, ![2, 8192, 6144]⟩
abbrev S2x8192x2048 : Shape := ⟨3, ![2, 8192, 2048]⟩
abbrev S2x8192x4096 : Shape := ⟨3, ![2, 8192, 4096]⟩
abbrev S_ : Shape := ⟨0, ![]⟩

class Facts : Prop where
  slices_S2x8192x6144_S2x8192x4096_0_0_0 : S2x8192x6144.Slices ![0, 0, 0] S2x8192x4096
  bitsLt_bf16_f32 : FTy.bits .bf16 < FTy.bits .f32
  bcast_S_S2x8192x4096 : S_.BroadcastsInDim S2x8192x4096 (![] : Fin 0 → Fin S2x8192x4096.rank)

variable [Facts]

def fn {F : FTy → Type} [FloatOps F] (main_arg0 : FVec F S2x8192x6144 .bf16) (main_arg1 : FVec F S2x8192x2048 .f32) : IVec S2x8192x4096 1 :=
  let main_v0 : FVec F S2x8192x4096 .bf16 := (extractStridedSlice S2x8192x4096 ![0, 0, 0] · slices_S2x8192x6144_S2x8192x4096_0_0_0) main_arg0
  let main_v1 : FVec F S2x8192x4096 .f32 := (extf .f32 · bitsLt_bf16_f32) main_v0
  let main_v2 : FVec F S2x8192x4096 .f32 := Host.absf main_v1
  let main_cst : FVec F S_ .f32 := constant S_ .f32 0x7F800000#32
  let main_v3 : FVec F S2x8192x4096 .f32 := broadcastInDim S2x8192x4096 ![] bcast_S_S2x8192x4096 main_cst
  let main_v4 : IVec S2x8192x4096 1 := cmpf .olt main_v2 main_v3
  main_v4
-- ==== Kernel.lean ====
abbrev S2x8192x6144 : Shape := ⟨3, ![2, 8192, 6144]⟩
abbrev S2x8192x2048 : Shape := ⟨3, ![2, 8192, 2048]⟩
abbrev S1x256x512 : Shape := ⟨3, ![1, 256, 512]⟩
abbrev S1x8192x512 : Shape := ⟨3, ![1, 8192, 512]⟩
abbrev S4x256x128 : Shape := ⟨3, ![4, 256, 128]⟩
abbrev S256x256 : Shape := ⟨2, ![256, 256]⟩
abbrev S512x256 : Shape := ⟨2, ![512, 256]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1x4x256x128 : Shape := ⟨4, ![1, 4, 256, 128]⟩
abbrev S1 : Shape := ⟨1, ![1]⟩
abbrev S1x1x1x1 : Shape := ⟨4, ![1, 1, 1, 1]⟩

abbrev nBuf : Space → Nat
  | .hbm => 3
  | .vmem => 12
  | .smem => 0
  | _ => 0

abbrev bufTy : (tb : Table) → Fin (tcTables nBuf tb) → BufTy
  | .hbm, ⟨0, _⟩ => ⟨S2x8192x6144, .bf16⟩
  | .hbm, ⟨1, _⟩ => ⟨S2x8192x2048, .f32⟩
  | .hbm, ⟨2, _⟩ => ⟨S2x8192x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256x512, .f32⟩
  | .local _ .vmem, ⟨7, _⟩ => ⟨S1x256x512, .f32⟩
  | .local _ .vmem, ⟨8, _⟩ => ⟨S1x256x512, .bf16⟩
  | .local _ .vmem, ⟨9, _⟩ => ⟨S1x256x512, .bf16⟩
  | .local _ .vmem, ⟨10, _⟩ => ⟨S4x256x128, .f32⟩
  | .local _ .vmem, ⟨11, _⟩ => ⟨S4x256x128, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c256_i32 : BitVec 32 := 256#32
  let v17 : BitVec 32 := Scalar.muli arg2 c256_i32
  v17
def k0_off1 (i : grid0.Coords) : Fin 3 → Nat :=
  let c0_11 : Index := 0#32
  let arg2 : BitVec 32 := BitVec.ofNat 32 (i 2).val
  let c256_i32 : BitVec 32 := 256#32
  let v17 : BitVec 32 := Scalar.muli arg2 c256_i32
  let v18 : BitVec 32 := v17
  let v21 : Index := Scalar.indexCast v18
  let c0_12 : Index := 0#32
  ![0, v21.toNat, 0]
def k0_off2 (i : grid0.Coords) : Fin 3 → Nat :=
  let c0_16 : Index := 0#32
  let arg2 : BitVec 32 := BitVec.ofNat 32 (i 2).val
  let c256_i32 : BitVec 32 := 256#32
  let v17 : BitVec 32 := Scalar.muli arg2 c256_i32
  let v18 : BitVec 32 := v17
  let v27 : Index := Scalar.indexCast v18
  let c128_17 : Index := 128#32
  ![0, v27.toNat, 128]
def k0_off3 (i : grid0.Coords) : Fin 3 → Nat :=
  let c0_21 : Index := 0#32
  let arg2 : BitVec 32 := BitVec.ofNat 32 (i 2).val
  let c256_i32 : BitVec 32 := 256#32
  let v17 : BitVec 32 := Scalar.muli arg2 c256_i32
  let v18 : BitVec 32 := v17
  let v33 : Index := Scalar.indexCast v18
  let c256_22 : Index := 256#32
  ![0, v33.toNat, 256]
def k0_off4 (i : grid0.Coords) : Fin 3 → Nat :=
  let c0_26 : Index := 0#32
  let arg2 : BitVec 32 := BitVec.ofNat 32 (i 2).val
  let c256_i32 : BitVec 32 := 256#32
  let v17 : BitVec 32 := Scalar.muli arg2 c256_i32
  let v18 : BitVec 32 := v17
  let v39 : Index := Scalar.indexCast v18
  let c384_27 : Index := 384#32
  ![0, v39.toNat, 384]
def k0_mult2 (arg10 : BitVec 32) : BitVec 32 :=
  let c256_i32_174 : BitVec 32 := 256#32
  let v298 : BitVec 32 := Scalar.muli arg10 c256_i32_174
  v298

def k0_off5 (arg10 : BitVec 32) : Fin 3 → Nat :=
  let c0_178 : Index := 0#32
  let c256_i32_174 : BitVec 32 := 256#32
  let v298 : BitVec 32 := Scalar.muli arg10 c256_i32_174
  let v299 : BitVec 32 := v298
  let v302 : Index := Scalar.indexCast v299
  let c0_179 : Index := 0#32
  ![0, v302.toNat, 0]
def k0_off6 (arg10 : BitVec 32) : Fin 3 → Nat :=
  let c0_184 : Index := 0#32
  let c256_i32_174 : BitVec 32 := 256#32
  let v298 : BitVec 32 := Scalar.muli arg10 c256_i32_174
  let v299 : BitVec 32 := v298
  let v308 : Index := Scalar.indexCast v299
  let c128_185 : Index := 128#32
  ![0, v308.toNat, 128]
def k0_off7 (arg10 : BitVec 32) : Fin 3 → Nat :=
  let c0_190 : Index := 0#32
  let c256_i32_174 : BitVec 32 := 256#32
  let v298 : BitVec 32 := Scalar.muli arg10 c256_i32_174
  let v299 : BitVec 32 := v298
  let v314 : Index := Scalar.indexCast v299
  let c256_191 : Index := 256#32
  ![0, v314.toNat, 256]
def k0_off8 (arg10 : BitVec 32) : Fin 3 → Nat :=
  let c0_196 : Index := 0#32
  let c256_i32_174 : BitVec 32 := 256#32
  let v298 : BitVec 32 := Scalar.muli arg10 c256_i32_174
  let v299 : BitVec 32 := v298
  let v320 : Index := Scalar.indexCast v299
  let c384_197 : Index := 384#32
  ![0, v320.toNat, 384]

def k0_chk1 (arg10 : BitVec 32) : Prop :=
  (256 ∣ (k0_mult2 arg10).toNat) ∧
  (∀ a, (k0_off5 arg10) a + S1x256x128.size a ≤ S1x8192x512.size a) ∧
  (∀ a, (k0_off6 arg10) a + S1x256x128.size a ≤ S1x8192x512.size a) ∧
  (∀ a, (k0_off7 arg10) a + S1x256x128.size a ≤ S1x8192x512.size a) ∧
  (∀ a, (k0_off8 arg10) a + S1x256x128.size a ≤ S1x8192x512.size a)
theorem k0_mult2_dvd : ∀ (arg10 : BitVec 32) (k0_hw1 : k0_chk1 arg10), 256 ∣ (k0_mult2 arg10).toNat := fun arg10 k0_hw1 => k0_hw1.1
theorem k0_off5_inb : ∀ (arg10 : BitVec 32) (k0_hw1 : k0_chk1 arg10), ∀ a, (k0_off5 arg10) a + S1x256x128.size a ≤ S1x8192x512.size a := fun arg10 k0_hw1 => k0_hw1.2.1
theorem k0_off6_inb : ∀ (arg10 : BitVec 32) (k0_hw1 : k0_chk1 arg10), ∀ a, (k0_off6 arg10) a + S1x256x128.size a ≤ S1x8192x512.size a := fun arg10 k0_hw1 => k0_hw1.2.2.1
theorem k0_off7_inb : ∀ (arg10 : BitVec 32) (k0_hw1 : k0_chk1 arg10), ∀ a, (k0_off7 arg10) a + S1x256x128.size a ≤ S1x8192x512.size a := fun arg10 k0_hw1 => k0_hw1.2.2.2.1
theorem k0_off8_inb : ∀ (arg10 : BitVec 32) (k0_hw1 : k0_chk1 arg10), ∀ a, (k0_off8 arg10) a + S1x256x128.size a ≤ S1x8192x512.size a := fun arg10 k0_hw1 => k0_hw1.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "dead" => some ⊤
  | "inv_ln2" => some (((Real.log 2)⁻¹ : ℝ) : EReal)
  | _ => none
-- ==== ReferenceIdeal.lean ====
abbrev S2x8192x6144 : Shape := ⟨3, ![2, 8192, 6144]⟩
abbrev S2x8192x2048 : Shape := ⟨3, ![2, 8192, 2048]⟩
abbrev S2x8192x16x128 : Shape := ⟨4, ![2, 8192, 16, 128]⟩
abbrev S2x16x8192x8192 : Shape := ⟨4, ![2, 16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x16x128x8192 : Shape := ⟨4, ![2, 16, 128, 8192]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S2x8192x2048, .f32⟩
  | .hbm, ⟨2, _⟩ => ⟨S2x8192x6144, .f32⟩
  | .hbm, ⟨3, _⟩ => ⟨S2x8192x2048, .f32⟩
  | .hbm, ⟨4, _⟩ => ⟨S2x8192x2048, .f32⟩
  | .hbm, ⟨5, _⟩ => ⟨S2x8192x2048, .f32⟩
  | .hbm, ⟨6, _⟩ => ⟨S2x8192x16x128, .f32⟩
  | .hbm, ⟨7, _⟩ => ⟨S2x8192x16x128, .f32⟩
  | .hbm, ⟨8, _⟩ => ⟨S2x8192x16x128, .f32⟩
  | .hbm, ⟨9, _⟩ => ⟨S2x16x8192x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16x8192x8192, .f32⟩
  | .hbm, ⟨14, _⟩ => ⟨S2x16x8192x8192, .f32⟩
  | .hbm, ⟨15, _⟩ => ⟨S8192, .i32⟩
  | .hbm, ⟨16, _⟩ => ⟨S1x8192, .i32⟩
  | .hbm, ⟨17, _⟩ => ⟨S8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S2x16x8192x8192, .f32⟩
  | .hbm, ⟨23, _⟩ => ⟨S2x16x8192x8192, .f32⟩
  | .hbm, ⟨24, _⟩ => ⟨S_, .f32⟩
  | .hbm, ⟨25, _⟩ => ⟨S2x16x8192x8192, .f32⟩
  | .hbm, ⟨26, _⟩ => ⟨S2x16x8192x8192, .f32⟩
  | .hbm, ⟨27, _⟩ => ⟨S2x16x8192x8192, .f32⟩
  | .hbm, ⟨28, _⟩ => ⟨S2x16x8192x8192, .f32⟩
  | .hbm, ⟨29, _⟩ => ⟨S2x16x8192x8192, .i1⟩
  | .hbm, ⟨30, _⟩ => ⟨S2x16x8192x8192, .f32⟩
  | .hbm, ⟨31, _⟩ => ⟨S2x16x8192x8192, .f32⟩
  | .hbm, ⟨32, _⟩ => ⟨S2x16x8192x8192, .f32⟩
  | .hbm, ⟨33, _⟩ => ⟨S2x16x8192x8192, .f32⟩
  | .hbm, ⟨34, _⟩ => ⟨S2x16x8192x8192, .f32⟩
  | .hbm, ⟨35, _⟩ => ⟨S2x16x8192x8192, .f32⟩
  | .hbm, ⟨36, _⟩ => ⟨S2x16x8192x8192, .f32⟩
  | .hbm, ⟨37, _⟩ => ⟨S2x16x8192x8192, .f32⟩
  | .hbm, ⟨38, _⟩ => ⟨S2x16x8192x8192, .f32⟩
  | .hbm, ⟨39, _⟩ => ⟨S_, .f32⟩
  | .hbm, ⟨40, _⟩ => ⟨S_, .f32⟩
  | .hbm, ⟨41, _⟩ => ⟨S2x16x8192x8192, .i1⟩
  | .hbm, ⟨42, _⟩ => ⟨S2x16x8192x8192, .f32⟩
  | .hbm, ⟨43, _⟩ => ⟨S2x16x8192x8192, .f32⟩
  | .hbm, ⟨44, _⟩ => ⟨S_, .f32⟩
  | .hbm, ⟨45, _⟩ => ⟨S_, .f32⟩
  | .hbm, ⟨46, _⟩ => ⟨S2x16x8192x8192, .f32⟩
  | .hbm, ⟨47, _⟩ => ⟨S2x16x8192x8192, .f32⟩
  | .hbm, ⟨48, _⟩ => ⟨S2x16x8192x8192, .f32⟩
  | .hbm, ⟨49, _⟩ => ⟨S_, .f32⟩
  | .hbm, ⟨50, _⟩ => ⟨S2x16x8192x8192, .f32⟩
  | .hbm, ⟨51, _⟩ => ⟨S2x16x8192x8192, .f32⟩
  | .hbm, ⟨52, _⟩ => ⟨S2x16x8192x8192, .f32⟩
  | .hbm, ⟨53, _⟩ => ⟨S2x16x8192x8192, .f32⟩
  | .hbm, ⟨54, _⟩ => ⟨S2x16x8192x8192, .i1⟩
  | .hbm, ⟨55, _⟩ => ⟨S2x16x8192x8192, .f32⟩
  | .hbm, ⟨56, _⟩ => ⟨S2x16x8192x8192, .f32⟩
  | .hbm, ⟨57, _⟩ => ⟨S2x16x8192x8192, .f32⟩
  | .hbm, ⟨58, _⟩ => ⟨S2x16x8192x8192, .f32⟩
  | .hbm, ⟨59, _⟩ => ⟨S2x16x8192x8192, .f32⟩
  | .hbm, ⟨60, _⟩ => ⟨S2x16x8192x8192, .f32⟩
  | .hbm, ⟨61, _⟩ => ⟨S2x16x8192x8192, .f32⟩
  | .hbm, ⟨62, _⟩ => ⟨S2x16x8192x8192, .f32⟩
  | .hbm, ⟨63, _⟩ => ⟨S2x16x8192x8192, .f32⟩
  | .hbm, ⟨64, _⟩ => ⟨S2x16x8192x8192, .f32⟩
  | .hbm, ⟨65, _⟩ => ⟨S2x16x8192x8192, .f32⟩
  | .hbm, ⟨66, _⟩ => ⟨S_, .f32⟩
  | .hbm, ⟨67, _⟩ => ⟨S_, .f32⟩
  | .hbm, ⟨68, _⟩ => ⟨S2x16x8192x8192, .i1⟩
  | .hbm, ⟨69, _⟩ => ⟨S2x16x8192x8192, .f32⟩
  | .hbm, ⟨70, _⟩ => ⟨S2x16x8192x8192, .f32⟩
  | .hbm, ⟨71, _⟩ => ⟨S2x16x128x8192, .f32⟩
  | .hbm, ⟨72, _⟩ => ⟨S2x8192x16x128, .f32⟩
  | .hbm, ⟨73, _⟩ => ⟨S2x8192x2048, .f32⟩
  | .hbm, ⟨74, _⟩ => ⟨S2x8192x2048, .f32⟩
  | .hbm, ⟨75, _⟩ => ⟨S2x8192x2048, .f32⟩
  | .hbm, ⟨76, _⟩ => ⟨S_, .f32⟩
  | .hbm, ⟨77, _⟩ => ⟨S2x8192x2048, .f32⟩
  | .hbm, ⟨78, _⟩ => ⟨S2x8192x2048, .f32⟩
  | .hbm, ⟨79, _⟩ => ⟨S_, .f32⟩
  | .hbm, ⟨80, _⟩ => ⟨S2x8192x2048, .f32⟩
  | .hbm, ⟨81, _⟩ => ⟨S2x8192x2048, .f32⟩
  | .hbm, ⟨82, _⟩ => ⟨S2x8192x2048, .f32⟩
  | .hbm, ⟨83, _⟩ => ⟨S2x8192x2048, .f32⟩
  | .hbm, ⟨84, _⟩ => ⟨S2x8192x2048, .bf16⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v20 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_call5_v0 : Ref sig .tc := ⟨.hbm, 74, rfl⟩
abbrev main_call5_v1 : Ref sig .tc := ⟨.hbm, 75, rfl⟩
abbrev main_call5_cst : Ref sig .tc := ⟨.hbm, 76, rfl⟩
abbrev main_call5_v2 : Ref sig .tc := ⟨.hbm, 77, rfl⟩
abbrev main_call5_v3 : Ref sig .tc := ⟨.hbm, 78, rfl⟩
abbrev main_call5_cst_0 : Ref sig .tc := ⟨.hbm, 79, rfl⟩
abbrev main_call5_v4 : Ref sig .tc := ⟨.hbm, 80, rfl⟩
abbrev main_call5_v5 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2x2048x8192 : Shape := ⟨3, ![2, 2048, 8192]⟩
abbrev S_ : Shape := ⟨0, ![]⟩
abbrev S6144 : Shape := ⟨1, ![6144]⟩
abbrev S8192 : Shape := ⟨1, ![8192]⟩
abbrev S1x2048 : Shape := ⟨2, ![1, 2048]⟩
abbrev S1x8192 : Shape := ⟨2, ![1, 8192]⟩
abbrev S16384x6144 : Shape := ⟨2, ![16384, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x8192, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S6144, .f32⟩
  | .hbm, ⟨7, _⟩ => ⟨S8192, .f32⟩
  | .hbm, ⟨8, _⟩ => ⟨S2x2048x8192, .bf16⟩
  | .hbm, ⟨9, _⟩ => ⟨S1x2048, .f32⟩
  | .hbm, ⟨10, _⟩ => ⟨S1x8192, .f32⟩
  | .hbm, ⟨11, _⟩ => ⟨S16384x6144, .bf16⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c6_i32 : BitVec 32 := 6#32
  let v3 : BitVec 1 := Scalar.cmpi .slt arg1 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c6_i32_2 : BitVec 32 := 6#32
  let v6 : BitVec 1 := Scalar.cmpi .sge arg1 c6_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x2048 : Shape := ⟨2, ![16384, 2048]⟩
abbrev S2048 : Shape := ⟨1, ![2048]⟩
abbrev S2x2048x8192 : Shape := ⟨3, ![2, 2048, 8192]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S16384x6144 : Shape := ⟨2, ![16384, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x8192, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x8192, .f32⟩
  | .hbm, ⟨20, _⟩ => ⟨S2048x8192, .f32⟩
  | .hbm, ⟨21, _⟩ => ⟨S16384x8192, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x6144, .f32⟩
  | .hbm, ⟨30, _⟩ => ⟨S16384x6144, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S16384x2048 : Shape := ⟨2, ![16384, 2048]⟩
abbrev S4x2x8192x256 : Shape := ⟨4, ![4, 2, 8192, 256]⟩
abbrev S2x2048x2048 : Shape := ⟨3, ![2, 2048, 2048]⟩
abbrev S4x2048x2048 : Shape := ⟨3, ![4, 2048, 2048]⟩
abbrev S4x256x2048 : Shape := ⟨3, ![4, 256, 2048]⟩
abbrev S2048 : Shape := ⟨1, ![2048]⟩
abbrev S4x16384x256 : Shape := ⟨3, ![4, 16384, 256]⟩
abbrev S1x2048 : Shape := ⟨2, ![1, 2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S512x256 : Shape := ⟨2, ![512, 256]⟩
abbrev S256x2048 : Shape := ⟨2, ![256, 2048]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2x8192x256, .f32⟩
  | .hbm, ⟨3, _⟩ => ⟨S2x2048x2048, .f32⟩
  | .hbm, ⟨4, _⟩ => ⟨S4x2048x2048, .f32⟩
  | .hbm, ⟨5, _⟩ => ⟨S4x256x2048, .f32⟩
  | .hbm, ⟨6, _⟩ => ⟨S2048, .f32⟩
  | .hbm, ⟨7, _⟩ => ⟨S4x16384x256, .f32⟩
  | .hbm, ⟨8, _⟩ => ⟨S2x2048x2048, .bf16⟩
  | .hbm, ⟨9, _⟩ => ⟨S4x2048x2048, .bf16⟩
  | .hbm, ⟨10, _⟩ => ⟨S4x256x2048, .bf16⟩
  | .hbm, ⟨11, _⟩ => ⟨S1x2048, .f32⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x512x256, .f32⟩
  | .local _ .vmem, ⟨5, _⟩ => ⟨S1x512x256, .f32⟩
  | .local _ .vmem, ⟨6, _⟩ => ⟨S1x2048x2048, .bf16⟩
  | .local _ .vmem, ⟨7, _⟩ => ⟨S1x2048x2048, .bf16⟩
  | .local _ .vmem, ⟨8, _⟩ => ⟨S1x256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x2048 : Shape := ⟨2, ![16384, 2048]⟩
abbrev S4x2x8192x256 : Shape := ⟨4, ![4, 2, 8192, 256]⟩
abbrev S2x2048x2048 : Shape := ⟨3, ![2, 2048, 2048]⟩
abbrev S4x2048x2048 : Shape := ⟨3, ![4, 2048, 2048]⟩
abbrev S4x256x2048 : Shape := ⟨3, ![4, 256, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x2x8192x256 : Shape := ⟨4, ![1, 2, 8192, 256]⟩
abbrev S2x8192x256 : Shape := ⟨3, ![2, 8192, 256]⟩
abbrev S16384x256 : Shape := ⟨2, ![16384, 256]⟩
abbrev S1x256x2048 : Shape := ⟨3, ![1, 256, 2048]⟩
abbrev S256x2048 : Shape := ⟨2, ![256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2x8192x256, .f32⟩
  | .hbm, ⟨3, _⟩ => ⟨S2x2048x2048, .f32⟩
  | .hbm, ⟨4, _⟩ => ⟨S4x2048x2048, .f32⟩
  | .hbm, ⟨5, _⟩ => ⟨S4x256x2048, .f32⟩
  | .hbm, ⟨6, _⟩ => ⟨S2048, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S1x2048x2048, .f32⟩
  | .hbm, ⟨13, _⟩ => ⟨S2048x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S1x2x8192x256, .f32⟩
  | .hbm, ⟨24, _⟩ => ⟨S2x8192x256, .f32⟩
  | .hbm, ⟨25, _⟩ => ⟨S16384x256, .f32⟩
  | .hbm, ⟨26, _⟩ => ⟨S1x256x2048, .f32⟩
  | .hbm, ⟨27, _⟩ => ⟨S256x2048, .f32⟩
  | .hbm, ⟨28, _⟩ => ⟨S16384x2048, .f32⟩
  | .hbm, ⟨29, _⟩ => ⟨S16384x2048, .f32⟩
  | .hbm, ⟨30, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S16384x2048 : Shape := ⟨2, ![16384, 2048]⟩
abbrev S4x2x8192x256 : Shape := ⟨4, ![4, 2, 8192, 256]⟩
abbrev S2x2048x2048 : Shape := ⟨3, ![2, 2048, 2048]⟩
abbrev S4x2048x2048 : Shape := ⟨3, ![4, 2048, 2048]⟩
abbrev S4x256x2048 : Shape := ⟨3, ![4, 256, 2048]⟩
abbrev S2048 : Shape := ⟨1, ![2048]⟩
abbrev S4x16384x256 : Shape := ⟨3, ![4, 16384, 256]⟩
abbrev S1x2048 : Shape := ⟨2, ![1, 2048]⟩
abbrev S512x2048 : Shape := ⟨2, ![512, 2048]⟩
abbrev S1x512x256 : Shape := ⟨3, ![1, 512, 256]⟩
abbrev S1x2048x2048 : Shape := ⟨3, ![1, 2048, 2048]⟩
abbrev S1x256x2048 : Shape := ⟨3, ![1, 256, 2048]⟩
abbrev S2048x2048 : Shape := ⟨2, ![2048, 2048]⟩
abbrev S512x256 : Shape := ⟨2, ![512, 256]⟩
abbrev S256x2048 : Shape := ⟨2, ![256, 2048]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2x8192x256, .f32⟩
  | .hbm, ⟨3, _⟩ => ⟨S2x2048x2048, .f32⟩
  | .hbm, ⟨4, _⟩ => ⟨S4x2048x2048, .f32⟩
  | .hbm, ⟨5, _⟩ => ⟨S4x256x2048, .f32⟩
  | .hbm, ⟨6, _⟩ => ⟨S2048, .f32⟩
  | .hbm, ⟨7, _⟩ => ⟨S4x16384x256, .f32⟩
  | .hbm, ⟨8, _⟩ => ⟨S2x2048x2048, .bf16⟩
  | .hbm, ⟨9, _⟩ => ⟨S4x2048x2048, .bf16⟩
  | .hbm, ⟨10, _⟩ => ⟨S4x256x2048, .bf16⟩
  | .hbm, ⟨11, _⟩ => ⟨S1x2048, .f32⟩
  | .hbm, ⟨12, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x512x256, .f32⟩
  | .local _ .vmem, ⟨5, _⟩ => ⟨S1x512x256, .f32⟩
  | .local _ .vmem, ⟨6, _⟩ => ⟨S1x2048x2048, .bf16⟩
  | .local _ .vmem, ⟨7, _⟩ => ⟨S1x2048x2048, .bf16⟩
  | .local _ .vmem, ⟨8, _⟩ => ⟨S1x256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x2048 : Shape := ⟨2, ![16384, 2048]⟩
abbrev S4x2x8192x256 : Shape := ⟨4, ![4, 2, 8192, 256]⟩
abbrev S2x2048x2048 : Shape := ⟨3, ![2, 2048, 2048]⟩
abbrev S4x2048x2048 : Shape := ⟨3, ![4, 2048, 2048]⟩
abbrev S4x256x2048 : Shape := ⟨3, ![4, 256, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x2x8192x256 : Shape := ⟨4, ![1, 2, 8192, 256]⟩
abbrev S2x8192x256 : Shape := ⟨3, ![2, 8192, 256]⟩
abbrev S16384x256 : Shape := ⟨2, ![16384, 256]⟩
abbrev S1x256x2048 : Shape := ⟨3, ![1, 256, 2048]⟩
abbrev S256x2048 : Shape := ⟨2, ![256, 2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x2x8192x256, .f32⟩
  | .hbm, ⟨3, _⟩ => ⟨S2x2048x2048, .f32⟩
  | .hbm, ⟨4, _⟩ => ⟨S4x2048x2048, .f32⟩
  | .hbm, ⟨5, _⟩ => ⟨S4x256x2048, .f32⟩
  | .hbm, ⟨6, _⟩ => ⟨S2048, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S1x2048x2048, .f32⟩
  | .hbm, ⟨13, _⟩ => ⟨S2048x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S1x2x8192x256, .f32⟩
  | .hbm, ⟨24, _⟩ => ⟨S2x8192x256, .f32⟩
  | .hbm, ⟨25, _⟩ => ⟨S16384x256, .f32⟩
  | .hbm, ⟨26, _⟩ => ⟨S1x256x2048, .f32⟩
  | .hbm, ⟨27, _⟩ => ⟨S256x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S1x2048x6144 : Shape := ⟨3, ![1, 2048, 6144]⟩
abbrev S_ : Shape := ⟨0, ![]⟩
abbrev S6144 : Shape := ⟨1, ![6144]⟩
abbrev S1x2048 : Shape := ⟨2, ![1, 2048]⟩
abbrev S1x6144 : Shape := ⟨2, ![1, 6144]⟩
abbrev S16384x6144 : Shape := ⟨2, ![16384, 6144]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x6144, .f32⟩
  | .hbm, ⟨3, _⟩ => ⟨S1x2048x6144, .bf16⟩
  | .hbm, ⟨4, _⟩ => ⟨S_, .f32⟩
  | .hbm, ⟨5, _⟩ => ⟨S6144, .f32⟩
  | .hbm, ⟨6, _⟩ => ⟨S1x2048, .f32⟩
  | .hbm, ⟨7, _⟩ => ⟨S1x6144, .f32⟩
  | .hbm, ⟨8, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x2048 : Shape := ⟨2, ![16384, 2048]⟩
abbrev S2048 : Shape := ⟨1, ![2048]⟩
abbrev S1x2048x6144 : Shape := ⟨3, ![1, 2048, 6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x6144 : Shape := ⟨2, ![2048, 6144]⟩
abbrev S16384x6144 : Shape := ⟨2, ![16384, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x6144, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x6144, .f32⟩
  | .hbm, ⟨20, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S2048x7216 : Shape := ⟨2, ![2048, 7216]⟩
abbrev S2048x48 : Shape := ⟨2, ![2048, 48]⟩
abbrev S2048x3x4x4 : Shape := ⟨4, ![2048, 3, 4, 4]⟩
abbrev S2048x4x3x4 : Shape := ⟨4, ![2048, 4, 3, 4]⟩
abbrev S2048x4x12 : Shape := ⟨3, ![2048, 4, 12]⟩
abbrev S_ : Shape := ⟨0, ![]⟩
abbrev S2048x4x128 : Shape := ⟨3, ![2048, 4, 128]⟩
abbrev S2048x512 : Shape := ⟨2, ![2048, 512]⟩
abbrev S2048x2048 : Shape := ⟨2, ![2048, 2048]⟩
abbrev S2048x1024 : Shape := ⟨2, ![2048, 1024]⟩
abbrev S2048x7680 : Shape := ⟨2, ![2048, 7680]⟩
abbrev S5632 : Shape := ⟨1, ![5632]⟩
abbrev S7680 : Shape := ⟨1, ![7680]⟩
abbrev S1x2048x7680 : Shape := ⟨3, ![1, 2048, 7680]⟩
abbrev S1x2048 : Shape := ⟨2, ![1, 2048]⟩
abbrev S1x7680 : Shape := ⟨2, ![1, 7680]⟩
abbrev S16384x4096 : Shape := ⟨2, ![16384, 4096]⟩
abbrev S16384x3584 : Shape := ⟨2, ![16384, 3584]⟩
abbrev S1024x2048 : Shape := ⟨2, ![1024, 2048]⟩
abbrev S1x2048x512 : Shape := ⟨3, ![1, 2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 27
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7216, .f32⟩
  | .hbm, ⟨3, _⟩ => ⟨S2048x48, .f32⟩
  | .hbm, ⟨4, _⟩ => ⟨S2048x3x4x4, .f32⟩
  | .hbm, ⟨5, _⟩ => ⟨S2048x4x3x4, .f32⟩
  | .hbm, ⟨6, _⟩ => ⟨S2048x4x12, .f32⟩
  | .hbm, ⟨7, _⟩ => ⟨S_, .i32⟩
  | .hbm, ⟨8, _⟩ => ⟨S_, .f32⟩
  | .hbm, ⟨9, _⟩ => ⟨S2048x4x128, .f32⟩
  | .hbm, ⟨10, _⟩ => ⟨S2048x512, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x1024, .f32⟩
  | .hbm, ⟨15, _⟩ => ⟨S2048x7680, .f32⟩
  | .hbm, ⟨16, _⟩ => ⟨S2048x7680, .bf16⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S5632, .f32⟩
  | .hbm, ⟨21, _⟩ => ⟨S7680, .f32⟩
  | .hbm, ⟨22, _⟩ => ⟨S1x2048x7680, .bf16⟩
  | .hbm, ⟨23, _⟩ => ⟨S1x2048, .f32⟩
  | .hbm, ⟨24, _⟩ => ⟨S1x7680, .f32⟩
  | .hbm, ⟨25, _⟩ => ⟨S16384x4096, .bf16⟩
  | .hbm, ⟨26, _⟩ => ⟨S16384x3584, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 15], ![false, false]⟩

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .sge arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x2048 : Shape := ⟨2, ![16384, 2048]⟩
abbrev S2048 : Shape := ⟨1, ![2048]⟩
abbrev S2048x7216 : Shape := ⟨2, ![2048, 7216]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x7216 : Shape := ⟨2, ![16384, 7216]⟩
abbrev S16384x512 : Shape := ⟨2, ![16384, 512]⟩
abbrev S16384x48 : Shape := ⟨2, ![16384, 48]⟩
abbrev S16384x3x4x4 : Shape := ⟨4, ![16384, 3, 4, 4]⟩
abbrev S16384x4x3x4 : Shape := ⟨4, ![16384, 4, 3, 4]⟩
abbrev S16384x4x12 : Shape := ⟨3, ![16384, 4, 12]⟩
abbrev S16384x4x128 : Shape := ⟨3, ![16384, 4, 128]⟩
abbrev S16384x4096 : Shape := ⟨2, ![16384, 4096]⟩
abbrev S16384x3584 : Shape := ⟨2, ![16384, 3584]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x7216, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x7216, .f32⟩
  | .hbm, ⟨20, _⟩ => ⟨S16384x2048, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x48, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x3x4x4, .f32⟩
  | .hbm, ⟨33, _⟩ => ⟨S16384x4x3x4, .f32⟩
  | .hbm, ⟨34, _⟩ => ⟨S16384x4x12, .f32⟩
  | .hbm, ⟨35, _⟩ => ⟨S_, .i32⟩
  | .hbm, ⟨36, _⟩ => ⟨S_, .f32⟩
  | .hbm, ⟨37, _⟩ => ⟨S16384x4x128, .f32⟩
  | .hbm, ⟨38, _⟩ => ⟨S16384x512, .f32⟩
  | .hbm, ⟨39, _⟩ => ⟨S16384x4096, .f32⟩
  | .hbm, ⟨40, _⟩ => ⟨S16384x4096, .bf16⟩
  | .hbm, ⟨41, _⟩ => ⟨S16384x3584, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel7.lean ====
abbrev S16384x6144 : Shape := ⟨2, ![16384, 6144]⟩
abbrev S2048 : Shape := ⟨1, ![2048]⟩
abbrev S16x128x128 : Shape := ⟨3, ![16, 128, 128]⟩
abbrev S16x128 : Shape := ⟨2, ![16, 128]⟩
abbrev S1x2048 : Shape := ⟨2, ![1, 2048]⟩
abbrev S128x16 : Shape := ⟨2, ![128, 16]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x6144, .f32⟩
  | .hbm, ⟨1, _⟩ => ⟨S2048, .f32⟩
  | .hbm, ⟨2, _⟩ => ⟨S16x128x128, .f32⟩
  | .hbm, ⟨3, _⟩ => ⟨S16x128, .f32⟩
  | .hbm, ⟨4, _⟩ => ⟨S1x2048, .f32⟩
  | .hbm, ⟨5, _⟩ => ⟨S128x16, .f32⟩
  | .hbm, ⟨6, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S16x128x128, .f32⟩
  | .local _ .vmem, ⟨8, _⟩ => ⟨S128x16, .f32⟩
  | .local _ .vmem, ⟨9, _⟩ => ⟨S256x2048, .bf16⟩
  | .local _ .vmem, ⟨10, _⟩ => ⟨S256x2048, .bf16⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16384x6144 : Shape := ⟨2, ![16384, 6144]⟩
abbrev S2048 : Shape := ⟨1, ![2048]⟩
abbrev S16x128x128 : Shape := ⟨3, ![16, 128, 128]⟩
abbrev S16x128 : Shape := ⟨2, ![16, 128]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2x64x128x16x128 : Shape := ⟨5, ![2, 64, 128, 16, 128]⟩
abbrev S128x128 : Shape := ⟨2, ![128, 128]⟩
abbrev S16x2x64x128x128 : Shape := ⟨5, ![16, 2, 64, 128, 128]⟩
abbrev S128x16 : Shape := ⟨2, ![128, 16]⟩
abbrev S128x16x1 : Shape := ⟨3, ![128, 16, 1]⟩
abbrev S1x1x128x16x1 : Shape := ⟨5, ![1, 1, 128, 16, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S2048, .f32⟩
  | .hbm, ⟨2, _⟩ => ⟨S16x128x128, .f32⟩
  | .hbm, ⟨3, _⟩ => ⟨S16x128, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S1x2048, .f32⟩
  | .hbm, ⟨39, _⟩ => ⟨S16384x2048, .f32⟩
  | .hbm, ⟨40, _⟩ => ⟨S16384x2048, .f32⟩
  | .hbm, ⟨41, _⟩ => ⟨S2x64x128x16x128, .f32⟩
  | .hbm, ⟨42, _⟩ => ⟨S_, .i1⟩
  | .hbm, ⟨43, _⟩ => ⟨S128x128, .i1⟩
  | .hbm, ⟨44, _⟩ => ⟨S128x128, .i32⟩
  | .hbm, ⟨45, _⟩ => ⟨S_, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S_, .i1⟩
  | .hbm, ⟨51, _⟩ => ⟨S128x128, .i1⟩
  | .hbm, ⟨52, _⟩ => ⟨S128x128, .i1⟩
  | .hbm, ⟨53, _⟩ => ⟨S_, .f32⟩
  | .hbm, ⟨54, _⟩ => ⟨S_, .f32⟩
  | .hbm, ⟨55, _⟩ => ⟨S16x128x128, .i1⟩
  | .hbm, ⟨56, _⟩ => ⟨S16x128x128, .f32⟩
  | .hbm, ⟨57, _⟩ => ⟨S16x128x128, .f32⟩
  | .hbm, ⟨58, _⟩ => ⟨S16x2x64x128x128, .f32⟩
  | .hbm, ⟨59, _⟩ => ⟨S2x64x128x16x128, .f32⟩
  | .hbm, ⟨60, _⟩ => ⟨S128x16, .f32⟩
  | .hbm, ⟨61, _⟩ => ⟨S128x16x1, .f32⟩
  | .hbm, ⟨62, _⟩ => ⟨S1x1x128x16x1, .f32⟩
  | .hbm, ⟨63, _⟩ => ⟨S2x64x128x16x128, .f32⟩
  | .hbm, ⟨64, _⟩ => ⟨S2x64x128x16x128, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S_, .f32⟩
  | .hbm, ⟨70, _⟩ => ⟨S16384x2048, .f32⟩
  | .hbm, ⟨71, _⟩ => ⟨S16384x2048, .f32⟩
  | .hbm, ⟨72, _⟩ => ⟨S_, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .bf16⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_v31 : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_c_0 : Ref sig .tc := ⟨.hbm, 50, rfl⟩
abbrev main_call0_v5 : Ref sig .tc := ⟨.hbm, 51, rfl⟩
abbrev main_v32 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_v0 : Ref sig .tc := ⟨.hbm, 67, rfl⟩
abbrev main_call2_v1 : Ref sig .tc := ⟨.hbm, 68, rfl⟩
abbrev main_call2_cst : Ref sig .tc := ⟨.hbm, 69, rfl⟩
abbrev main_call2_v2 : Ref sig .tc := ⟨.hbm, 70, rfl⟩
abbrev main_call2_v3 : Ref sig .tc := ⟨.hbm, 71, rfl⟩
abbrev main_call2_cst_0 : Ref sig .tc := ⟨.hbm, 72, rfl⟩
abbrev main_call2_v4 : Ref sig .tc := ⟨.hbm, 73, rfl⟩
abbrev main_call2_v5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== Proof.Tile.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value

/-!
# What one tile of keys does to the two scratch buffers

The carry and the accumulator hold one 256 × 128 slab for each of the four heads of a block. A tile of keys updates
every slab by the same two formulas, so each is stated once, for a head.
-/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The columns of head `h` in a window 512 columns wide. -/
def headRect (h : Fin 4) : Rect S1x256x512 :=
  Rect.unit (s := S1x256x512) ![0, 0, 128 * h.val] S1x256x128.size (by
    intro a; fin_cases h <;> fin_cases a <;> decide)

/-- The slab of head `h` in a scratch buffer. -/
def slabRect (h : Fin 4) : Rect S4x256x128 :=
  Rect.unit (s := S4x256x128) ![h.val, 0, 0] S1x256x128.size (by
    intro a; fin_cases h <;> fin_cases a <;> decide)

/-- The rows of tile `kt` and the columns of head `h` in a window of 8192 rows. -/
def tileRect (kt : BitVec 32) (hkt : k0_chk1 kt) : Fin 4 → Rect S1x8192x512
  | 0 => Rect.unit (s := S1x8192x512) (k0_off5 kt) S1x256x128.size (k0_off5_inb kt hkt)
  | 1 => Rect.unit (s := S1x8192x512) (k0_off6 kt) S1x256x128.size (k0_off6_inb kt hkt)
  | 2 => Rect.unit (s := S1x8192x512) (k0_off7 kt) S1x256x128.size (k0_off7_inb kt hkt)
  | 3 => Rect.unit (s := S1x8192x512) (k0_off8 kt) S1x256x128.size (k0_off8_inb kt hkt)

/-- The rows of the diagonal tile and the columns of head `h` in a window of 8192 rows. -/
def diagRect (i : grid0.Coords) : Fin 4 → Rect S1x8192x512
  | 0 => Rect.unit (s := S1x8192x512) (k0_off1 i) S1x256x128.size (k0_off1_inb i)
  | 1 => Rect.unit (s := S1x8192x512) (k0_off2 i) S1x256x128.size (k0_off2_inb i)
  | 2 => Rect.unit (s := S1x8192x512) (k0_off3 i) S1x256x128.size (k0_off3_inb i)
  | 3 => Rect.unit (s := S1x8192x512) (k0_off4 i) S1x256x128.size (k0_off4_inb i)

/-- The queries of head `h`. -/
def qHead (q : Vec F S1x256x512 .bf16) (h : Fin 4) : Vec F S1x256x128 .bf16 := fun x => q ((headRect h).idx x)

/-- The gate of head `h`. -/
def zHead (z : Vec F S1x256x512 .f32) (h : Fin 4) : Vec F S1x256x128 .f32 := fun x => z ((headRect h).idx x)

/-- The slab of head `h`. -/
def slab (X : Vec F S4x256x128 .f32) (h : Fin 4) : Vec F S1x256x128 .f32 := fun x => X ((slabRect h).idx x)

/-- Four slabs as one buffer. -/
def ofSlabs (G : Fin 4 → Vec F S1x256x128 .f32) : Vec F S4x256x128 .f32 :=
  fun y => G (y 0) (fun a => match a with | 0 => (0 : Fin 1) | 1 => y 1 | 2 => y 2)

/-- Four heads as one window. -/
def ofHeads (G : Fin 4 → Vec F S1x256x128 .bf16) : Vec F S1x256x512 .bf16 :=
  fun y => G ⟨(y 2).val / 128, Nat.div_lt_of_lt_mul (y 2).isLt⟩
    (fun a => match a with | 0 => (0 : Fin 1) | 1 => y 1 | 2 => ⟨(y 2).val % 128, Nat.mod_lt _ (by decide)⟩)

/-- A head's rows of one tile of keys or values. -/
def tileHead (k : Vec F S1x8192x512 .bf16) (kt : BitVec 32) (hkt : k0_chk1 kt) : Fin 4 → Vec F S1x256x128 .bf16
  | 0 => fun x => k ((tileRect kt hkt 0).idx x)
  | 1 => fun x => k ((tileRect kt hkt 1).idx x)
  | 2 => fun x => k ((tileRect kt hkt 2).idx x)
  | 3 => fun x => k ((tileRect kt hkt 3).idx x)

/-- A head's rows of the diagonal tile of keys or values. -/
def diagHead (k : Vec F S1x8192x512 .bf16) (i : grid0.Coords) : Fin 4 → Vec F S1x256x128 .bf16
  | 0 => fun x => k ((diagRect i 0).idx x)
  | 1 => fun x => k ((diagRect i 1).idx x)
  | 2 => fun x => k ((diagRect i 2).idx x)
  | 3 => fun x => k ((diagRect i 3).idx x)

/-- The softplus of a tile of scores, base two. -/
def lmOff (z : FVec F S256x256 .f32) : FVec F S256x256 .f32 := k0_pay54 z (k0_pay46 z)

/-- The same on the diagonal tile, zero where a key is not before the query. -/
def lmDiag (z : FVec F S256x256 .f32) : FVec F S256x256 .f32 := k0_pay20 k0_pay4 z (k0_pay46 z)

/-- A slab of the carry after a tile of keys wholly before the queries. -/
def carryOff (q k : Vec F S1x256x128 .bf16) (cr : Vec F S1x256x128 .f32) : Vec F S1x256x128 .f32 :=
  k0_pay64 (lmOff (k0_pay40 q k)) cr

/-- A slab of the accumulator after such a tile. -/
def accOff (w : FVec F S512x256 .bf16) (q k v : Vec F S1x256x128 .bf16) (cr ac : Vec F S1x256x128 .f32) :
    Vec F S1x256x128 .f32 :=
  k0_pay63 (k0_pay40 q k) (k0_pay46 (k0_pay40 q k)) (k0_pay23 w (lmOff (k0_pay40 q k))) cr ac v

/-- A slab of the carry after the diagonal tile. -/
def carryDiag (q k : Vec F S1x256x128 .bf16) (cr : Vec F S1x256x128 .f32) : Vec F S1x256x128 .f32 :=
  k0_pay25 (lmDiag (k0_pay40 q k)) cr

/-- A slab of the accumulator after the diagonal tile. -/
def accDiag (w : FVec F S512x256 .bf16) (q k v : Vec F S1x256x128 .bf16) (cr ac : Vec F S1x256x128 .f32) :
    Vec F S1x256x128 .f32 :=
  k0_pay24 k0_pay4 (k0_pay40 q k) (k0_pay46 (k0_pay40 q k)) (k0_pay23 w (lmDiag (k0_pay40 q k))) cr ac v

/-- The carry after one trip of the loop. -/
def stepC (q : Vec F S1x256x512 .bf16) (k : Vec F S1x8192x512 .bf16) (kt : BitVec 32) (hkt : k0_chk1 kt)
    (cr : Vec F S4x256x128 .f32) : Vec F S4x256x128 .f32 :=
  ofSlabs fun h => carryOff (qHead q h) (tileHead k kt hkt h) (slab cr h)

/-- The accumulator after one trip of the loop. -/
def stepA (w : FVec F S512x256 .bf16) (q : Vec F S1x256x512 .bf16) (k v : Vec F S1x8192x512 .bf16) (kt : BitVec 32)
    (hkt : k0_chk1 kt) (cr ac : Vec F S4x256x128 .f32) : Vec F S4x256x128 .f32 :=
  ofSlabs fun h => accOff w (qHead q h) (tileHead k kt hkt h) (tileHead v kt hkt h) (slab cr h) (slab ac h)

/-- The carry after the diagonal tile. -/
def startC (i : grid0.Coords) (q : Vec F S1x256x512 .bf16) (k : Vec F S1x8192x512 .bf16) : Vec F S4x256x128 .f32 :=
  ofSlabs fun h => carryDiag (qHead q h) (diagHead k i h) (slab k0_pay5 h)

/-- The accumulator after the diagonal tile. -/
def startA (i : grid0.Coords) (q : Vec F S1x256x512 .bf16) (k v : Vec F S1x8192x512 .bf16) : Vec F S4x256x128 .f32 :=
  ofSlabs fun h => accDiag k0_pay3 (qHead q h) (diagHead k i h) (diagHead v i h) (slab k0_pay5 h) (slab k0_pay6 h)

/-- The block of the result: each head's accumulator, gated. -/
def outBlock (z : Vec F S1x256x512 .f32) (ac : Vec F S4x256x128 .f32) : Vec F S1x256x512 .bf16 :=
  ofHeads fun h => k0_pay38 (slab ac h) (zHead z h)

/-- Four slabs as one buffer, read in the slab of head `h`. -/
theorem ofSlabs_emb (G : Fin 4 → Vec F S1x256x128 .f32) (h : Fin 4) (x : (slabRect h).shape.Idx) :
    ofSlabs G ((slabRect h).emb x) = G h x := by
  have e0 : ((slabRect h).emb x) 0 = h := by
    apply Fin.ext
    show h.val + 1 * (x 0).val = h.val
    have := (x 0).isLt
    have h1 : (x 0).val < 1 := this
    omega
  unfold ofSlabs
  rw [e0]
  congr 1
  funext a
  match a with
  | 0 => exact Subsingleton.elim (α := Fin 1) _ _
  | 1 => exact Fin.ext (by show 0 + 1 * (x 1).val = (x 1).val; omega)
  | 2 => exact Fin.ext (by show 0 + 1 * (x 2).val = (x 2).val; omega)

/-- An element of another head's slab is not in the slab of head `h`. -/
theorem notMem_slab {h h' : Fin 4} (hne : h ≠ h') (x : (slabRect h').shape.Idx) :
    (slabRect h').emb x ∉ (slabRect h).set := by
  intro hm
  obtain ⟨x', hx⟩ := (slabRect h).exists_idx_of_mem hm
  have e := congrArg (fun y => (y 0).val) hx
  have e' : h.val + 1 * (x' 0).val = h'.val + 1 * (x 0).val := e
  have h1 : (x' 0).val < 1 := (x' 0).isLt
  have h2 : (x 0).val < 1 := (x 0).isLt
  exact hne (Fin.ext (by omega))

/-- Every element is in the slab its first coordinate names. -/
theorem exists_slab (y : S4x256x128.Idx) : ∃ (h : Fin 4) (x : (slabRect h).shape.Idx), (slabRect h).emb x = y := by
  refine ⟨y 0, (fun a => match a with | 0 => (0 : Fin 1) | 1 => y 1 | 2 => y 2), ?_⟩
  funext a
  match a with
  | 0 => exact Fin.ext (by show (y 0).val + 1 * 0 = (y 0).val; omega)
  | 1 => exact Fin.ext (by show 0 + 1 * (y 1).val = (y 1).val; omega)
  | 2 => exact Fin.ext (by show 0 + 1 * (y 2).val = (y 2).val; omega)

/-- A store to another slab is not seen. -/
theorem canon_skip {h h' : Fin 4} (hne : h ≠ h') (x : (slabRect h').shape.Idx) (g : Vec F S1x256x128 .f32)
    (L : List (View.Piece (Elt F) S4x256x128 .f32)) :
    View.canon ((⟨slabRect h, g⟩ : View.Piece (Elt F) S4x256x128 .f32) :: L) ((slabRect h').emb x)
      = View.canon L ((slabRect h').emb x) :=
  View.canon_cons_of_not_mem _ _ (notMem_slab hne x)

/-- The last store to a slab is what the slab holds. -/
theorem canon_hit (h : Fin 4) (x : (slabRect h).shape.Idx) (g : Vec F S1x256x128 .f32)
    (L : List (View.Piece (Elt F) S4x256x128 .f32)) :
    View.canon ((⟨slabRect h, g⟩ : View.Piece (Elt F) S4x256x128 .f32) :: L) ((slabRect h).emb x) = g x :=
  View.canon_cons_emb (slabRect h) g L x

/-- Four stores, one to each slab, leave the buffer of the four slabs, whatever was stored before. -/
theorem canon_slabs (G : Fin 4 → Vec F S1x256x128 .f32) (tail : List (View.Piece (Elt F) S4x256x128 .f32)) :
    View.canon ((⟨slabRect 3, G 3⟩ : View.Piece (Elt F) S4x256x128 .f32) :: ⟨slabRect 2, G 2⟩ :: ⟨slabRect 1, G 1⟩
      :: ⟨slabRect 0, G 0⟩ :: tail) = ofSlabs G := by
  funext y
  obtain ⟨h, x, rfl⟩ := exists_slab y
  rw [ofSlabs_emb]
  by_cases e3 : 3 = h
  · subst e3; exact canon_hit 3 x (G 3) _
  refine (canon_skip e3 x (G 3) _).trans ?_
  by_cases e2 : 2 = h
  · subst e2; exact canon_hit 2 x (G 2) _
  refine (canon_skip e2 x (G 2) _).trans ?_
  by_cases e1 : 1 = h
  · subst e1; exact canon_hit 1 x (G 1) _
  refine (canon_skip e1 x (G 1) _).trans ?_
  have e0 : 0 = h := by omega
  subst e0
  exact canon_hit 0 x (G 0) _

/-- What a slab reads of a buffer stored whole, after stores to the slabs of smaller heads. -/
theorem load_slab0 {sg : RefSig} (v : View sg .tc .vmem S4x256x128 .f32) (X : Vec F S4x256x128 .f32)
    (inb : ∀ a, (![0, 0, 0] : Fin 3 → Nat) a + S4x256x128.size a ≤ S4x256x128.size a) :
    v.readCov [(⟨Rect.unit (s := S4x256x128) ![0, 0, 0] S4x256x128.size inb, X⟩ : View.Piece (Elt F) S4x256x128 .f32)]
      (slabRect 0).toLoadRect = slab X 0 := by
  rw [View.readCov_eq_canon', View.canon_unit_zero (by funext a; fin_cases a <;> rfl)]
  rfl

theorem load_slab1 {sg : RefSig} (v : View sg .tc .vmem S4x256x128 .f32) (X : Vec F S4x256x128 .f32)
    (g0 : Vec F S1x256x128 .f32)
    (inb : ∀ a, (![0, 0, 0] : Fin 3 → Nat) a + S4x256x128.size a ≤ S4x256x128.size a) :
    v.readCov ((⟨slabRect 0, g0⟩ : View.Piece (Elt F) S4x256x128 .f32)
      :: [⟨Rect.unit (s := S4x256x128) ![0, 0, 0] S4x256x128.size inb, X⟩])
      (slabRect 1).toLoadRect = slab X 1 := by
  rw [View.readCov_eq_canon']
  funext j
  refine (canon_skip (h := 0) (h' := 1) (by decide) j g0 _).trans ?_
  rw [View.canon_unit_zero (by funext a; fin_cases a <;> rfl)]
  rfl

theorem load_slab2 {sg : RefSig} (v : View sg .tc .vmem S4x256x128 .f32) (X : Vec F S4x256x128 .f32)
    (g0 g1 : Vec F S1x256x128 .f32)
    (inb : ∀ a, (![0, 0, 0] : Fin 3 → Nat) a + S4x256x128.size a ≤ S4x256x128.size a) :
    v.readCov ((⟨slabRect 1, g1⟩ : View.Piece (Elt F) S4x256x128 .f32) :: ⟨slabRect 0, g0⟩
      :: [⟨Rect.unit (s := S4x256x128) ![0, 0, 0] S4x256x128.size inb, X⟩])
      (slabRect 2).toLoadRect = slab X 2 := by
  rw [View.readCov_eq_canon']
  funext j
  refine (canon_skip (h := 1) (h' := 2) (by decide) j g1 _).trans ?_
  refine (canon_skip (h := 0) (h' := 2) (by decide) j g0 _).trans ?_
  rw [View.canon_unit_zero (by funext a; fin_cases a <;> rfl)]
  rfl

theorem load_slab3 {sg : RefSig} (v : View sg .tc .vmem S4x256x128 .f32) (X : Vec F S4x256x128 .f32)
    (g0 g1 g2 : Vec F S1x256x128 .f32)
    (inb : ∀ a, (![0, 0, 0] : Fin 3 → Nat) a + S4x256x128.size a ≤ S4x256x128.size a) :
    v.readCov ((⟨slabRect 2, g2⟩ : View.Piece (Elt F) S4x256x128 .f32) :: ⟨slabRect 1, g1⟩ :: ⟨slabRect 0, g0⟩
      :: [⟨Rect.unit (s := S4x256x128) ![0, 0, 0] S4x256x128.size inb, X⟩])
      (slabRect 3).toLoadRect = slab X 3 := by
  rw [View.readCov_eq_canon']
  funext j
  refine (canon_skip (h := 2) (h' := 3) (by decide) j g2 _).trans ?_
  refine (canon_skip (h := 1) (h' := 3) (by decide) j g1 _).trans ?_
  refine (canon_skip (h := 0) (h' := 3) (by decide) j g0 _).trans ?_
  rw [View.canon_unit_zero (by funext a; fin_cases a <;> rfl)]
  rfl

/-- Every element of a window of four heads is in the columns of one. -/
theorem exists_head (y : S1x256x512.Idx) : ∃ (h : Fin 4) (x : (headRect h).shape.Idx), (headRect h).emb x = y := by
  have h2 : (y 2).val < 512 := (y 2).isLt
  refine ⟨⟨(y 2).val / 128, Nat.div_lt_of_lt_mul h2⟩,
    (fun a => match a with | 0 => (0 : Fin 1) | 1 => y 1 | 2 => ⟨(y 2).val % 128, Nat.mod_lt _ (by decide)⟩), ?_⟩
  funext a
  match a with
  | 0 => exact Subsingleton.elim (α := Fin 1) _ _
  | 1 => exact Fin.ext (by show 0 + 1 * (y 1).val = (y 1).val; omega)
  | 2 => exact Fin.ext (by show 128 * ((y 2).val / 128) + 1 * ((y 2).val % 128) = (y 2).val; omega)

/-- Four heads as one window, read in the columns of head `h`. -/
theorem ofHeads_emb (G : Fin 4 → Vec F S1x256x128 .bf16) (h : Fin 4) (x : (headRect h).shape.Idx) :
    ofHeads G ((headRect h).emb x) = G h x := by
  have h2 : (x 2).val < 128 := (x 2).isLt
  have e2 : (((headRect h).emb x) 2).val = 128 * h.val + 1 * (x 2).val := rfl
  have e0 : (⟨(((headRect h).emb x) 2).val / 128, Nat.div_lt_of_lt_mul (((headRect h).emb x) 2).isLt⟩ : Fin 4) = h :=
    Fin.ext (by show (((headRect h).emb x) 2).val / 128 = h.val; omega)
  unfold ofHeads
  rw [e0]
  congr 1
  funext a
  match a with
  | 0 => exact Subsingleton.elim (α := Fin 1) _ _
  | 1 => exact Fin.ext (by show 0 + 1 * (x 1).val = (x 1).val; omega)
  | 2 => exact Fin.ext (by show (((headRect h).emb x) 2).val % 128 = (x 2).val; omega)

/-- An element of another head's columns is not in the columns of head `h`. -/
theorem notMem_head {h h' : Fin 4} (hne : h ≠ h') (x : (headRect h').shape.Idx) :
    (headRect h').emb x ∉ (headRect h).set := by
  intro hm
  obtain ⟨x', hx⟩ := (headRect h).exists_idx_of_mem hm
  have e := congrArg (fun y => (y 2).val) hx
  have e' : 128 * h.val + 1 * (x' 2).val = 128 * h'.val + 1 * (x 2).val := e
  have h1 : (x' 2).val < 128 := (x' 2).isLt
  have h2 : (x 2).val < 128 := (x 2).isLt
  exact hne (Fin.ext (by omega))

/-- A store to another head's columns is not seen. -/
theorem canon_skipHead {h h' : Fin 4} (hne : h ≠ h') (x : (headRect h').shape.Idx) (g : Vec F S1x256x128 .bf16)
    (L : List (View.Piece (Elt F) S1x256x512 .bf16)) :
    View.canon ((⟨headRect h, g⟩ : View.Piece (Elt F) S1x256x512 .bf16) :: L) ((headRect h').emb x)
      = View.canon L ((headRect h').emb x) :=
  View.canon_cons_of_not_mem _ _ (notMem_head hne x)

/-- The last store to a head's columns is what they hold. -/
theorem canon_hitHead (h : Fin 4) (x : (headRect h).shape.Idx) (g : Vec F S1x256x128 .bf16)
    (L : List (View.Piece (Elt F) S1x256x512 .bf16)) :
    View.canon ((⟨headRect h, g⟩ : View.Piece (Elt F) S1x256x512 .bf16) :: L) ((headRect h).emb x) = g x :=
  View.canon_cons_emb (headRect h) g L x

/-- Four stores, one to each head's columns, leave the window of the four heads. -/
theorem canon_heads (G : Fin 4 → Vec F S1x256x128 .bf16) (tail : List (View.Piece (Elt F) S1x256x512 .bf16)) :
    View.canon ((⟨headRect 3, G 3⟩ : View.Piece (Elt F) S1x256x512 .bf16) :: ⟨headRect 2, G 2⟩ :: ⟨headRect 1, G 1⟩
      :: ⟨headRect 0, G 0⟩ :: tail) = ofHeads G := by
  funext y
  obtain ⟨h, x, rfl⟩ := exists_head y
  rw [ofHeads_emb]
  by_cases e3 : 3 = h
  · subst e3; exact canon_hitHead 3 x (G 3) _
  refine (canon_skipHead e3 x (G 3) _).trans ?_
  by_cases e2 : 2 = h
  · subst e2; exact canon_hitHead 2 x (G 2) _
  refine (canon_skipHead e2 x (G 2) _).trans ?_
  by_cases e1 : 1 = h
  · subst e1; exact canon_hitHead 1 x (G 1) _
  refine (canon_skipHead e1 x (G 1) _).trans ?_
  have e0 : 0 = h := by omega
  subst e0
  exact canon_hitHead 0 x (G 0) _

end Cert.KernelIdeal.Hand
-- ==== Proof.Scores.lean ====
module

public import Mathlib.Analysis.SpecialFunctions.Log.Basic
public import Mathlib.Analysis.SpecialFunctions.Pow.Real
public import Mathlib.Data.EReal.Operations
public import Mathlib.Algebra.BigOperators.Fin
public import Mathlib.Algebra.BigOperators.Intervals

/-!
# The mathematics of stick-breaking attention

A score `s` is in base two: its sigmoid is `2 ^ low s`, and one minus its sigmoid is `2 ^ (- soft s)`. A query at row
`row` gives key `j` the weight `2 ^ (low (s j) - ∑ soft (s j'))`, the sum over the keys between `j` and `row`.
-/

@[expose] public section

noncomputable section

namespace Cert.Stick

/-- `log₂ (1 + 2 ^ (-|s|))`. -/
def bend (s : ℝ) : ℝ := Real.log (1 + Real.rpow 2 (-|s|)) * (Real.log 2)⁻¹

/-- `-log₂ (1 - sigmoid)`. -/
def soft (s : ℝ) : ℝ := max s 0 + bend s

/-- `log₂ sigmoid`. -/
def low (s : ℝ) : ℝ := min s 0 - bend s

/-- `soft` of the scores of the keys before `row`, zero at the others. -/
def softs (s : ℕ → ℝ) (row j : ℕ) : ℝ := if j < row then soft (s j) else 0

/-- The weight of key `j`, where the keys from `top` on are at `row` or after. -/
def weight (s : ℕ → ℝ) (row top j : ℕ) : ℝ :=
  if j < row then Real.rpow 2 (low (s j) - ∑ i ∈ Finset.Ico (j + 1) top, softs s row i) else 0

/-- The attention over the keys from `lo` on. -/
def attend (s : ℕ → ℝ) (v : ℕ → EReal) (row top lo : ℕ) : EReal :=
  ∑ j ∈ Finset.Ico lo top, (weight s row top j : EReal) * v j

/-- A sum over an interval of 256 numbers. -/
theorem sum_tile {M : Type*} [AddCommMonoid M] (f : ℕ → M) (b : ℕ) :
    ∑ j ∈ Finset.Ico b (b + 256), f j = ∑ x : Fin 256, f (b + x.val) := by
  rw [Finset.sum_Ico_eq_sum_range, Nat.add_sub_cancel_left, ← Fin.sum_univ_eq_sum_range (fun n => f (b + n))]

/-- A sum from a tile on is the tile's and the rest. -/
theorem sum_from {M : Type*} [AddCommMonoid M] (f : ℕ → M) {b top : ℕ} (h : b + 256 ≤ top) :
    ∑ j ∈ Finset.Ico b top, f j = ∑ x : Fin 256, f (b + x.val) + ∑ j ∈ Finset.Ico (b + 256) top, f j := by
  rw [← sum_tile, Finset.sum_Ico_consecutive _ (by omega) h]

/-- What follows position `x` of a tile: the rest of the tile, and the later tiles. -/
theorem sum_after (f : ℕ → ℝ) {b top : ℕ} (h : b + 256 ≤ top) (x : Fin 256) :
    ∑ j ∈ Finset.Ico (b + x.val + 1) top, f j
      = ∑ y : Fin 256, (if x.val < y.val then f (b + y.val) else 0) + ∑ j ∈ Finset.Ico (b + 256) top, f j := by
  have hx := x.isLt
  rw [← Finset.sum_Ico_consecutive f (show b + x.val + 1 ≤ b + 256 by omega) h]
  congr 1
  have e : ∀ y : Fin 256, (if x.val < y.val then f (b + y.val) else 0)
      = (fun j => if b + x.val < j then f j else 0) (b + y.val) := fun y => by
    by_cases hy : x.val < y.val
    · rw [if_pos hy]; exact (if_pos (by omega)).symm
    · rw [if_neg hy]; exact (if_neg (by omega)).symm
  rw [Finset.sum_congr rfl fun y _ => e y, ← sum_tile (fun j => if b + x.val < j then f j else 0) b, ← Finset.sum_filter]
  refine Finset.sum_congr (Finset.ext fun j => ?_) fun _ _ => rfl
  rw [Finset.mem_Ico, Finset.mem_filter, Finset.mem_Ico]
  omega

/-- The coercion of a sum of real numbers. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The weights do not depend on how far past the row the keys are counted. -/
theorem sum_softs_top (s : ℕ → ℝ) {row top top' lo : ℕ} (h : row ≤ top) (h' : top ≤ top') :
    ∑ i ∈ Finset.Ico lo top', softs s row i = ∑ i ∈ Finset.Ico lo top, softs s row i := by
  refine (Finset.sum_subset (fun i hi => ?_) fun i hi hn => ?_).symm
  · rw [Finset.mem_Ico] at hi ⊢; omega
  · rw [Finset.mem_Ico] at hi hn
    exact if_neg (by omega)

theorem weight_top (s : ℕ → ℝ) {row top top' : ℕ} (h : row ≤ top) (h' : top ≤ top') (j : ℕ) :
    weight s row top' j = weight s row top j := by
  unfold weight
  rw [sum_softs_top s h h']

/-- Nor does the attention. -/
theorem attend_top (s : ℕ → ℝ) (v : ℕ → EReal) {row top top' : ℕ} (h : row ≤ top) (h' : top ≤ top') (lo : ℕ) :
    attend s v row top' lo = attend s v row top lo := by
  unfold attend
  rw [Finset.sum_congr rfl fun j _ => by rw [weight_top s h h' j]]
  refine (Finset.sum_subset (fun i hi => ?_) fun i hi hn => ?_).symm
  · rw [Finset.mem_Ico] at hi ⊢; omega
  · rw [Finset.mem_Ico] at hi hn
    rw [weight, if_neg (by omega), EReal.coe_zero, zero_mul]

end Cert.Stick
-- ==== Proof.Elem.lean ====
module

public import proofs.«01_k».proof.Proof.Tile
public import proofs.«01_k».proof.Proof.Scores
public import Idealize.ShloMosaic.Lib.Pointwise
public import Idealize.ShloMosaic.Lib.WordCmp

/-!
# The body's arithmetic at an element

Over the extended reals, where the scores and the carry are real.
-/

@[expose] public section

set_option maxRecDepth 16384

noncomputable section

namespace Cert.KernelIdeal.Hand

open Cert.KernelIdeal Cert.KernelIdeal.Gen
open Idealize.ShloMosaic Cert.Stick

/-- The named constant is `1 / ln 2`. -/
theorem inv_ln2_eq (b : BitVec FTy.f32.bits) :
    (Named.named κ "inv_ln2" b : Ideal .f32) = (((Real.log 2)⁻¹ : ℝ) : EReal) := rfl

/-- The logarithm of one plus a power of two. -/
theorem bend_coe (s : ℝ) :
    Ideal.log (1 + FloatOps.exp2 (F := Ideal) (φ := .f32) (0 - FloatOps.absf (F := Ideal) (φ := .f32) (s : EReal)))
      * (((Real.log 2)⁻¹ : ℝ) : EReal) = (bend s : EReal) := by
  have e1 : (FloatOps.absf (F := Ideal) (φ := .f32) (s : EReal) : EReal) = ((|s| : ℝ) : EReal) := by
    show max (s : EReal) (-(s : EReal)) = _
    rw [← EReal.coe_neg, ← EReal.coe_strictMono.monotone.map_max]
    rfl
  have e2 : (0 : EReal) - ((|s| : ℝ) : EReal) = ((-|s| : ℝ) : EReal) := by
    rw [← EReal.coe_zero, ← EReal.coe_sub, zero_sub]
  have e3 : (FloatOps.exp2 (F := Ideal) (φ := .f32) ((-|s| : ℝ) : EReal) : EReal) = (Real.rpow 2 (-|s|) : EReal) := rfl
  have hp : ¬ (1 + Real.rpow 2 (-|s|)) ≤ 0 := not_le.mpr (add_pos one_pos (Real.rpow_pos_of_pos two_pos _))
  rw [e1, e2, e3, ← EReal.coe_one, ← EReal.coe_add, Ideal.log_coe, if_neg hp, ← EReal.coe_mul]
  rfl

theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm
theorem exp2_real (a : ℝ) : (FloatOps.exp2 (F := Ideal) (φ := .f32) (a : EReal) : EReal) = (Real.rpow 2 a : EReal) := rfl

/-- A comparison of two positions of a tile. -/
theorem select_lt {α : Type} (a b : Fin 256) (x y : α) :
    Scalar.select (IntOp.cmpi .slt (BitVec.ofNat 32 a.val) (BitVec.ofNat 32 b.val)) x y = if a.val < b.val then x else y := by
  have := a.isLt; have := b.isLt
  rw [WordCmp.cmpi_slt_ofNat (by omega) (by omega)]
  by_cases h : a.val < b.val <;> simp [Scalar.select, h]
theorem select_gt {α : Type} (a b : Fin 256) (x y : α) :
    Scalar.select (IntOp.cmpi .sgt (BitVec.ofNat 32 a.val) (BitVec.ofNat 32 b.val)) x y = if b.val < a.val then x else y := by
  have := a.isLt; have := b.isLt
  rw [WordCmp.cmpi_sgt_ofNat (by omega) (by omega)]
  by_cases h : b.val < a.val <;> simp [Scalar.select, h]

/-- The scores of a tile. -/
theorem score_apply (q k : Vec Ideal S1x256x128 .bf16) (q' k' : Fin 256 → Fin 128 → ℝ)
    (hq : ∀ r d, q (ix3 0 r d) = (q' r d : EReal)) (hk : ∀ r d, k (ix3 0 r d) = (k' r d : EReal)) (r c : Fin 256) :
    k0_pay40 q k (ix2 r c) = ((∑ d, q' r d * k' c d : ℝ) : EReal) := by
  pointwise [k0_pay40]
  rw [coe_sum]
  exact Finset.sum_congr rfl fun d _ => by rw [hq, hk, EReal.coe_mul]

section Tiles

variable (z : FVec Ideal S256x256 .f32) (s : Fin 256 → Fin 256 → ℝ) (hz : ∀ r c, z (ix2 r c) = (s r c : EReal))
include hz

theorem bend_apply (r c : Fin 256) : k0_pay46 z (ix2 r c) = (bend (s r c) : EReal) := by
  pointwise [k0_pay46]
  rw [hz, inv_ln2_eq]
  exact bend_coe _

theorem lmOff_apply (r c : Fin 256) : lmOff z (ix2 r c) = (soft (s r c) : EReal) := by
  unfold lmOff
  pointwise [k0_pay54]
  rw [bend_apply z s hz, hz, ← EReal.coe_zero, max_coe, ← EReal.coe_add]
  rfl

theorem lmDiag_apply (r c : Fin 256) : lmDiag z (ix2 r c) = ((if c.val < r.val then soft (s r c) else 0 : ℝ) : EReal) := by
  unfold lmDiag
  pointwise [k0_pay20, k0_pay4]
  rw [select_lt, bend_apply z s hz, hz, ← EReal.coe_zero, max_coe, ← EReal.coe_add]
  split <;> rfl

/-- The sum of what follows in the tile, in two parts of which the second is zero. -/
theorem tail_apply (r c : Fin 256) :
    k0_pay23 k0_pay3 z (ix2 r c) = ((∑ x : Fin 256, (if c.val < x.val then s r x else 0) : ℝ) : EReal) := by
  pointwise [k0_pay23, k0_pay3]
  have e1 : ∀ x : Fin 256, Scalar.select (IntOp.cmpi .sgt (BitVec.ofNat 32 x.val) (BitVec.ofNat 32 c.val)) (z (ix2 r x)) 0
      = (((if c.val < x.val then s r x else 0 : ℝ)) : EReal) := fun x => by
    rw [select_gt, hz]; split <;> rfl
  have e2 : ∀ x : Fin 256, Scalar.select (IntOp.cmpi .sgt (BitVec.ofNat 32 x.val) (BitVec.ofNat 32 c.val))
      (z (ix2 r x) - z (ix2 r x)) 0 = (0 : EReal) := fun x => by
    rw [select_gt, hz, ← EReal.coe_sub, sub_self]; split <;> rfl
  rw [Finset.sum_congr rfl fun x _ => e1 x, Finset.sum_congr rfl fun x _ => e2 x, Finset.sum_const_zero, coe_sum]
  exact add_zero _

/-- A slab of the carry: what it was and the sum of the row. -/
theorem carry64_apply (cr : Vec Ideal S1x256x128 .f32) (r : Fin 256) (c : Fin 128) (x : ℝ) (hx : cr (ix3 0 r c) = (x : EReal)) :
    k0_pay64 z cr (ix3 0 r c) = ((x + ∑ y, s r y : ℝ) : EReal) := by
  pointwise [k0_pay64]
  rw [hx, EReal.coe_add, coe_sum]
  exact congrArg _ (Finset.sum_congr rfl fun y _ => hz r y)

theorem carry25_apply (cr : Vec Ideal S1x256x128 .f32) (r : Fin 256) (c : Fin 128) (x : ℝ) (hx : cr (ix3 0 r c) = (x : EReal)) :
    k0_pay25 z cr (ix3 0 r c) = ((x + ∑ y, s r y : ℝ) : EReal) := by
  pointwise [k0_pay25]
  rw [hx, EReal.coe_add, coe_sum]
  exact congrArg _ (Finset.sum_congr rfl fun y _ => hz r y)

/-- A slab of the accumulator after a tile wholly before the queries. -/
theorem acc63_apply (t : FVec Ideal S256x256 .f32) (u : Fin 256 → Fin 256 → ℝ) (ht : ∀ r c, t (ix2 r c) = (u r c : EReal))
    (cr ac : Vec Ideal S1x256x128 .f32) (v : Vec Ideal S1x256x128 .bf16) (r : Fin 256) (x : ℝ)
    (hx : ∀ l, cr (ix3 0 r l) = (x : EReal)) (d : Fin 128) :
    k0_pay63 z (k0_pay46 z) t cr ac v (ix3 0 r d) = ac (ix3 0 r d)
      + ∑ y : Fin 256, ((Real.rpow 2 (low (s r y) - u r y - x) : ℝ) : EReal) * v (ix3 0 y d) := by
  have e : ∀ y : Fin 256, FloatOps.exp2 (F := Ideal) (φ := .f32)
      (min (z (ix2 r y)) 0 - k0_pay46 z (ix2 r y) - t (ix2 r y) - (x : EReal))
      = ((Real.rpow 2 (low (s r y) - u r y - x) : ℝ) : EReal) := fun y => by
    rw [bend_apply z s hz, hz, ht, ← EReal.coe_zero, min_coe, ← EReal.coe_sub, ← EReal.coe_sub, ← EReal.coe_sub]
    rfl
  rw [Finset.sum_congr rfl fun y _ => by rw [← e y], Fin.sum_univ_two_halves 128 128 rfl]
  pointwise [k0_pay63]
  simp only [hx]

/-- A slab of the accumulator after the diagonal tile. -/
theorem acc24_apply (t : FVec Ideal S256x256 .f32) (u : Fin 256 → Fin 256 → ℝ) (ht : ∀ r c, t (ix2 r c) = (u r c : EReal))
    (cr ac : Vec Ideal S1x256x128 .f32) (v : Vec Ideal S1x256x128 .bf16) (r : Fin 256) (x : ℝ)
    (hx : ∀ l, cr (ix3 0 r l) = (x : EReal)) (d : Fin 128) :
    k0_pay24 k0_pay4 z (k0_pay46 z) t cr ac v (ix3 0 r d) = ac (ix3 0 r d)
      + ∑ y : Fin 256, ((if y.val < r.val then Real.rpow 2 (low (s r y) - u r y - x) else 0 : ℝ) : EReal) * v (ix3 0 y d) := by
  have e : ∀ y : Fin 256, ((if y.val < r.val then Real.rpow 2 (low (s r y) - u r y - x) else 0 : ℝ) : EReal) * v (ix3 0 y d)
      = Scalar.select (IntOp.cmpi .slt (BitVec.ofNat 32 y.val) (BitVec.ofNat 32 r.val))
      (FloatOps.exp2 (F := Ideal) (φ := .f32)
      (min (z (ix2 r y)) 0 - k0_pay46 z (ix2 r y) - t (ix2 r y) - (x : EReal)) * v (ix3 0 y d)) 0 := fun y => by
    rw [select_lt, bend_apply z s hz, hz, ht, ← EReal.coe_zero, min_coe, ← EReal.coe_sub, ← EReal.coe_sub, ← EReal.coe_sub]
    split
    · rfl
    · rw [EReal.coe_zero, zero_mul]
  rw [Finset.sum_congr rfl fun y _ => e y, Fin.sum_univ_two_halves 128 128 rfl]
  pointwise [k0_pay24, k0_pay4]
  simp only [hx]

end Tiles

/-- The gated output of a head. -/
theorem gate_apply (ac z : Vec Ideal S1x256x128 .f32) (r : Fin 256) (d : Fin 128) :
    k0_pay38 ac z (ix3 0 r d) = ac (ix3 0 r d) * (z (ix3 0 r d) * Ideal.logistic (z (ix3 0 r d))) := by
  pointwise [k0_pay38]

/-- The scratch buffers start at zero. -/
theorem zero5_apply (h : Fin 4) (r : Fin 256) (d : Fin 128) : k0_pay5 (F := Ideal) (ix3 h r d) = ((0 : ℝ) : EReal) := by
  pointwise [k0_pay5]
  rfl
theorem zero6_apply (h : Fin 4) (r : Fin 256) (d : Fin 128) : k0_pay6 (F := Ideal) (ix3 h r d) = (0 : EReal) := by
  pointwise [k0_pay6]

/-- The smallest entry of a real carry lets the loop go on. -/
theorem alive_real (cr : Vec Ideal S4x256x128 .f32) (hc : ∀ h r d, ∃ x : ℝ, cr (ix3 h r d) = (x : EReal)) :
    k0_pay2 (k0_pay68 cr) < (⊤ : EReal) := by
  pointwise [k0_pay2, k0_pay68]
  rw [Finset.fold_min_lt]
  right
  refine ⟨ix4 0 0 0 0, ?_, ?_⟩
  · rw [Finset.mem_filter]
    exact ⟨Finset.mem_univ _, funext fun a => match a with | 0 => Subsingleton.elim (α := Fin 1) _ _⟩
  · obtain ⟨x, hx⟩ := hc 0 0 0
    exact lt_of_eq_of_lt hx (EReal.coe_lt_top x)

end Cert.KernelIdeal.Hand
-- ==== Proof.Trip.lean ====
module

public import proofs.«01_k».proof.Proof.Tile

/-!
# One trip of the loop over the earlier tiles of keys
-/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the rounds library's, for the pipeline's cells. -/
abbrev UR (nD : Nat) (τ : Topo) : Type := URounds (GSem nD τ sig) Unit

local notation "𝕄" => MT nD τ sig Unit (Elt F) ℕ (UR nD τ) ℕ

/-- Variants: the loop label is entered at the number of trips left. -/
abbrev 𝒱₀ : Variants := Variants.nat

/-- A trip reads its windows, leaves `stepC` in the carry and `stepA` in the accumulator, and returns the next tile's
number with the carry it has just left. -/
theorem trip (c : Dev nD) (i : grid0.Coords)
    (M3 : Memref sig .tc .vmem S1x256x512 .bf16) (h3 : M3.IsWhole)
    (M4 : Memref sig .tc .vmem S1x8192x512 .bf16) (h4 : M4.IsWhole)
    (w : FVec F S512x256 .bf16)
    (M8 : Memref sig .tc .vmem S4x256x128 .f32) (h8 : M8.IsWhole)
    (M9 : Memref sig .tc .vmem S4x256x128 .f32) (h9 : M9.IsWhole)
    (M5 : Memref sig .tc .vmem S1x8192x512 .bf16) (h5 : M5.IsWhole)
    (kt : BitVec 32) (cm : F .f32) (hkt : k0_chk1 kt)
    (q : Vec F S1x256x512 .bf16) (k v : Vec F S1x8192x512 .bf16) (cr ac : Vec F S4x256x128 .f32)
    (b : Option ℕ) (E : Set ℕ) (K : (Σ' (_ : BitVec 32), FVec F S1x4x256x128 .f32) → sProp 𝕄) :
    iprop(owns (c : Thread nD τ) M3 fullShare q ∗ owns (c : Thread nD τ) M4 fullShare k
        ∗ owns (c : Thread nD τ) M5 fullShare v
        ∗ owns (c : Thread nD τ) M8 fullShare cr ∗ owns (c : Thread nD τ) M9 fullShare ac
        ∗ (owns (c : Thread nD τ) M3 fullShare q -∗ owns (c : Thread nD τ) M4 fullShare k
          -∗ owns (c : Thread nD τ) M5 fullShare v
          -∗ owns (c : Thread nD τ) M8 fullShare (stepC q k kt hkt cr)
          -∗ owns (c : Thread nD τ) M9 fullShare (stepA w q k v kt hkt cr ac)
          -∗ K ⟨Scalar.subi kt 1#32, k0_pay68 (stepC q k kt hkt cr)⟩))
      ⊢ wp frame (wpE (defs₀ (F := F)) 𝒱₀ c b) E (k0_part14 i M3 h3 M4 h4 w M8 h8 M9 h9 M5 h5 kt cm) K := by
  unfold owns
  iintro ⟨⟨%f3, %hf3, H3⟩, ⟨%f4, %hf4, H4⟩, ⟨%f5, %hf5, H5⟩, ⟨%f8, %hf8, H8⟩, ⟨%f9, %hf9, H9⟩, Hk⟩
  subst hf3; subst hf4; subst hf5; subst hf8; subst hf9
  sl_exec_parts!
  sl_step
  have e8 : View.canon (trip.sl.H8_4 c M3 M4 M8 kt hkt f3 f4 f8)
      = stepC (View.read (Elt F) M3.view f3) (View.read (Elt F) M4.view f4) kt hkt (View.read (Elt F) M8.view f8) :=
    canon_slabs (fun h => carryOff (qHead (View.read (Elt F) M3.view f3) h)
      (tileHead (View.read (Elt F) M4.view f4) kt hkt h) (slab (View.read (Elt F) M8.view f8) h)) []
  have e9 : View.canon (trip.sl.H9_4 c M3 M4 w M8 M9 M5 kt hkt f3 f4 f5 f8 f9)
      = stepA w (View.read (Elt F) M3.view f3) (View.read (Elt F) M4.view f4) (View.read (Elt F) M5.view f5) kt hkt
        (View.read (Elt F) M8.view f8) (View.read (Elt F) M9.view f9) :=
    canon_slabs (fun h => accOff w (qHead (View.read (Elt F) M3.view f3) h)
      (tileHead (View.read (Elt F) M4.view f4) kt hkt h) (tileHead (View.read (Elt F) M5.view f5) kt hkt h)
      (slab (View.read (Elt F) M8.view f8) h) (slab (View.read (Elt F) M9.view f9) h)) []
  have ev : trip.sl.v513 c M3 M4 M8 kt hkt f3 f4 f8
      = stepC (View.read (Elt F) M3.view f3) (View.read (Elt F) M4.view f4) kt hkt (View.read (Elt F) M8.view f8) := by
    rw [← e8]
    exact (View.readCov_eq_canon' M8.view _ _).trans (View.ld_unit_zero (by funext a; fin_cases a <;> rfl) _ _)
  rw [ev, show trip.sl.v512 kt = Scalar.subi kt 1#32 from rfl]
  iapply Hk $$ [H3] [H4] [H5] [H8] [H9]
  · iexists f3; isplitr [H3]; · ipureintro; rfl
    · iexact H3
  · iexists f4; isplitr [H4]; · ipureintro; rfl
    · iexact H4
  · iexists f5; isplitr [H5]; · ipureintro; rfl
    · iexact H5
  · iexists _; isplitr [H8]; · ipureintro; exact (View.read_writes_junk_eq_canon M8.view _).trans e8
    · iexact H8
  · iexists _; isplitr [H9]; · ipureintro; exact (View.read_writes_junk_eq_canon M9.view _).trans e9
    · iexact H9

end Cert.KernelIdeal.Hand
-- ==== Proof.Loop.lean ====
module

public import proofs.«01_k».proof.Proof.Trip

/-!
# The loop over the earlier tiles of keys

It runs from the tile before the diagonal one down to tile 0, and stops early once the smallest carry has reached the
limit beyond which nothing more is added.
-/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The number of a tile, as the loop's counter holds it. -/
def tileWord (n : ℕ) : BitVec 32 := BitVec.ofNat 32 (n % 32)

/-- Every tile lies inside the windows. -/
theorem chk_tile (n : ℕ) : k0_chk1 (tileWord n) := by
  have h : ∀ j : Fin 32, k0_chk1 (BitVec.ofNat 32 j.val) := by decide +kernel
  exact h ⟨n % 32, Nat.mod_lt _ (by decide)⟩

/-- The smallest entry of the carry, as the loop tests it. -/
def minC (cr : Vec F S4x256x128 .f32) : F .f32 := k0_pay2 (k0_pay68 cr)

/-- The loop's float test. -/
def alive (cm : F .f32) : BitVec 1 := Scalar.cmpf .olt cm (Named.named κ "dead" 0x431EB24B#32)

/-- The carry and the accumulator after the loop, with `n` tiles left. -/
def loop (w : FVec F S512x256 .bf16) (q : Vec F S1x256x512 .bf16) (k v : Vec F S1x8192x512 .bf16) :
    ℕ → Vec F S4x256x128 .f32 × Vec F S4x256x128 .f32 → Vec F S4x256x128 .f32 × Vec F S4x256x128 .f32
  | 0, s => s
  | n + 1, s =>
    if alive (minC s.1) = 1#1 then
      loop w q k v n (stepC q k (tileWord n) (chk_tile n) s.1, stepA w q k v (tileWord n) (chk_tile n) s.1 s.2)
    else s

theorem loop_succ (w : FVec F S512x256 .bf16) (q : Vec F S1x256x512 .bf16) (k v : Vec F S1x8192x512 .bf16) (n : ℕ)
    (s : Vec F S4x256x128 .f32 × Vec F S4x256x128 .f32) :
    loop w q k v (n + 1) s = if alive (minC s.1) = 1#1 then
      loop w q k v n (stepC q k (tileWord n) (chk_tile n) s.1, stepA w q k v (tileWord n) (chk_tile n) s.1 s.2)
    else s := rfl

/-- The counter with `n` tiles left. -/
def counter (n : ℕ) : BitVec 32 := Scalar.subi (BitVec.ofNat 32 n) 1#32

theorem counter_facts (n : ℕ) (hn : n < 32) :
    counter (n + 1) = tileWord n ∧ Scalar.cmpi .sge (counter (n + 1)) 0#32 = 1#1
      ∧ Scalar.subi (counter (n + 1)) 1#32 = counter n := by
  have h : ∀ j : Fin 32, counter (j.val + 1) = tileWord j.val ∧ Scalar.cmpi .sge (counter (j.val + 1)) 0#32 = 1#1
      ∧ Scalar.subi (counter (j.val + 1)) 1#32 = counter j.val := by decide +kernel
  exact h ⟨n, hn⟩

theorem counter_zero : Scalar.cmpi .sge (counter 0) 0#32 = 0#1 := by decide +kernel

/-- Conjunction with the bit one is the other bit, with zero is zero. -/
theorem andi_one (b : BitVec 1) : Scalar.andi 1#1 b = b := by revert b; decide
theorem andi_zero (b : BitVec 1) : Scalar.andi 0#1 b = 0#1 := by revert b; decide

section Label

variable (c : Dev nD) (i : grid0.Coords)
    (M3 : Memref sig .tc .vmem S1x256x512 .bf16) (h3 : M3.IsWhole)
    (M4 : Memref sig .tc .vmem S1x8192x512 .bf16) (h4 : M4.IsWhole)
    (w : FVec F S512x256 .bf16)
    (M8 : Memref sig .tc .vmem S4x256x128 .f32) (h8 : M8.IsWhole)
    (M9 : Memref sig .tc .vmem S4x256x128 .f32) (h9 : M9.IsWhole)
    (M5 : Memref sig .tc .vmem S1x8192x512 .bf16) (h5 : M5.IsWhole)
    (q : Vec F S1x256x512 .bf16) (k v : Vec F S1x8192x512 .bf16)

/-- The buffers the loop reads and writes. -/
def held (s : Vec F S4x256x128 .f32 × Vec F S4x256x128 .f32) : sProp 𝕄 :=
  iprop(owns (c : Thread nD τ) M3 fullShare q ∗ owns (c : Thread nD τ) M4 fullShare k
    ∗ owns (c : Thread nD τ) M5 fullShare v
    ∗ owns (c : Thread nD τ) M8 fullShare s.1 ∗ owns (c : Thread nD τ) M9 fullShare s.2)

/-- The loop's specification with `n` tiles left. -/
def spec (n : ℕ) (s : Vec F S4x256x128 .f32 × Vec F S4x256x128 .f32) : sWPT 𝕄 (BitVec 32 × F .f32) := do
  sWPT.consume (held c M3 M4 M8 M9 M5 q k v s)
  let r ← sWPT.arbitrary
  sWPT.produce (held c M3 M4 M8 M9 M5 q k v (loop w q k v n s))
  pure r

theorem spec_apply (n : ℕ) (s : Vec F S4x256x128 .f32 × Vec F S4x256x128 .f32)
    (K : BitVec 32 × F .f32 → sProp 𝕄) :
    spec c M3 M4 w M8 M9 M5 q k v n s K
      = iprop(held c M3 M4 M8 M9 M5 q k v s
          ∗ ∀ r : BitVec 32 × F .f32, held c M3 M4 M8 M9 M5 q k v (loop w q k v n s) -∗ K r) := rfl

/-- The loop's label meets the specification, by induction on the tiles left. -/
theorem spec_le (E : Set ℕ) :
    ∀ n, n ≤ 32 → ∀ (s : Vec F S4x256x128 .f32 × Vec F S4x256x128 .f32) (K : BitVec 32 × F .f32 → sProp 𝕄),
      spec c M3 M4 w M8 M9 M5 q k v n s K
      ⊢ wp frame (wpE (defs₀ (F := F)) 𝒱₀ (c : Thread nD τ) (some n)) E
          (defs₀ (F := F) .tc 1 ⟨i, M3, h3, M4, h4, w, M8, h8, M9, h9, M5, h5, counter n, minC s.1⟩) K := by
  intro n
  induction n with
  | zero =>
    intro _ s K
    rw [spec_apply]
    show _ ⊢ wp frame (wpE (defs₀ (F := F)) 𝒱₀ (c : Thread nD τ) (some 0)) E
      (cc0_while1 i M3 h3 M4 h4 w M8 h8 M9 h9 M5 h5 (counter 0) (minC s.1)) K
    simp only [cc0_while1_eq_skeleton]; unfold cc0_while1_skel
    have htest : ¬ (0#1 : BitVec 1) = 1#1 := by decide
    simp only [counter_zero, andi_zero, htest, ↓reduceIte, Prog.pure_eq_ret]
    iintro ⟨H, Hk⟩
    rw [wp_ret]; imodintro
    iapply Hk
    iexact H
  | succ n ih =>
    intro hn s K
    obtain ⟨hw, hs, hd⟩ := counter_facts n (by omega)
    rw [spec_apply]
    show _ ⊢ wp frame (wpE (defs₀ (F := F)) 𝒱₀ (c : Thread nD τ) (some (n + 1))) E
      (cc0_while1 i M3 h3 M4 h4 w M8 h8 M9 h9 M5 h5 (counter (n + 1)) (minC s.1)) K
    simp only [cc0_while1_eq_skeleton]; unfold cc0_while1_skel
    simp only [hs, andi_one]
    by_cases htest : alive (minC s.1) = 1#1
    · rw [loop_succ, if_pos htest]
      rw [if_pos (show Scalar.cmpf .olt (minC s.1) (Named.named κ "dead" 0x431EB24B#32) = 1#1 from htest)]
      rw [hw] at hd ⊢
      rw [wp_bind]
      unfold held
      iintro ⟨⟨H3, H4, H5, H8, H9⟩, Hk⟩
      iapply (trip c i M3 h3 M4 h4 w M8 h8 M9 h9 M5 h5 (tileWord n) (minC s.1) (chk_tile n) q k v s.1 s.2
        (some (n + 1)) E _)
      isplitl [H3]; · iexact H3
      isplitl [H4]; · iexact H4
      isplitl [H5]; · iexact H5
      isplitl [H8]; · iexact H8
      isplitl [H9]; · iexact H9
      iintro H3 H4 H5 H8 H9
      simp only [hd, Prog.lift]
      iapply (wp_call_spec 𝒱₀ (c : Thread nD τ) (some (n + 1)) E
        (spec c M3 M4 w M8 M9 M5 q k v n
          (stepC q k (tileWord n) (chk_tile n) s.1, stepA w q k v (tileWord n) (chk_tile n) s.1 s.2)) n
        (fun u hu => by cases hu; exact Nat.lt_succ_self n) (ih (by omega) _))
      rw [spec_apply]; unfold held
      isplitl [H3 H4 H5 H8 H9]
      · isplitl [H3]; · iexact H3
        isplitl [H4]; · iexact H4
        isplitl [H5]; · iexact H5
        isplitl [H8]; · iexact H8
        iexact H9
      iintro %r H
      rw [wp_ret]; imodintro
      iapply Hk
      iexact H
    · rw [loop_succ, if_neg htest]
      rw [if_neg (show ¬ Scalar.cmpf .olt (minC s.1) (Named.named κ "dead" 0x431EB24B#32) = 1#1 from htest)]
      iintro ⟨H, Hk⟩
      simp only [Prog.pure_eq_ret]
      rw [wp_ret]; imodintro
      iapply Hk
      iexact H

end Label

end Cert.KernelIdeal.Hand
-- ==== Proof.Body.lean ====
module

public import proofs.«01_k».proof.Proof.Loop

/-!
# The kernel's body at one point of the grid

The diagonal tile of keys, the loop over the earlier tiles, and the gated result.
-/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-- The block of the result the body leaves at a point of the grid. -/
def blockOut (i : grid0.Coords) (q : Vec F S1x256x512 .bf16) (k v : Vec F S1x8192x512 .bf16)
    (z : Vec F S1x256x512 .f32) : Vec F S1x256x512 .bf16 :=
  outBlock z (loop k0_pay3 q k v (i 2).val (startC i q k, startA i q k v)).2

/-- The body reads its four input windows and leaves the block of the result; the two scratch buffers may hold
anything before and after. -/
theorem body (c : Dev nD) (i : grid0.Coords)
    (M3 : Memref sig .tc .vmem S1x256x512 .bf16) (h3 : M3.IsWhole)
    (M4 : Memref sig .tc .vmem S1x8192x512 .bf16) (h4 : M4.IsWhole)
    (M5 : Memref sig .tc .vmem S1x8192x512 .bf16) (h5 : M5.IsWhole)
    (M6 : Memref sig .tc .vmem S1x256x512 .f32) (h6 : M6.IsWhole)
    (M7 : Memref sig .tc .vmem S1x256x512 .bf16) (h7 : M7.IsWhole)
    (M8 : Memref sig .tc .vmem S4x256x128 .f32) (h8 : M8.IsWhole)
    (M9 : Memref sig .tc .vmem S4x256x128 .f32) (h9 : M9.IsWhole)
    (q : Vec F S1x256x512 .bf16) (k v : Vec F S1x8192x512 .bf16) (z : Vec F S1x256x512 .f32)
    (o : Vec F S1x256x512 .bf16) (cr ac : Vec F S4x256x128 .f32) (K : PUnit → sProp 𝕄) :
    iprop(owns (c : Thread nD τ) M3 fullShare q ∗ owns (c : Thread nD τ) M4 fullShare k
        ∗ owns (c : Thread nD τ) M5 fullShare v ∗ owns (c : Thread nD τ) M6 fullShare z
        ∗ owns (c : Thread nD τ) M7 fullShare o
        ∗ owns (c : Thread nD τ) M8 fullShare cr ∗ owns (c : Thread nD τ) M9 fullShare ac
        ∗ (owns (c : Thread nD τ) M3 fullShare q -∗ owns (c : Thread nD τ) M4 fullShare k
          -∗ owns (c : Thread nD τ) M5 fullShare v -∗ owns (c : Thread nD τ) M6 fullShare z
          -∗ owns (c : Thread nD τ) M7 fullShare (blockOut i q k v z)
          -∗ (∃ x, owns (c : Thread nD τ) M8 fullShare x) -∗ (∃ x, owns (c : Thread nD τ) M9 fullShare x)
          -∗ K ⟨⟩))
      ⊢ wp frame (wpE (defs₀ (F := F)) 𝒱₀ c none) Set.univ
          (cc0_sb_attention i M3 h3 M4 h4 M5 h5 M6 h6 M7 h7 M8 h8 M9 h9) K := by
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, Hk⟩
  subst hf3; subst hf4; subst hf5; subst hf6; subst hf7; subst hf8; subst hf9
  sl_exec_parts!
  have c0 : body.sl.v126 (F := F) c M8 = slab k0_pay5 0 := load_slab0 _ _ _
  have c1 : body.sl.v157 c i M3 M4 M8 f3 f4 = slab k0_pay5 1 := load_slab1 _ _ _ _
  have c2 : body.sl.v188 c i M3 M4 M8 f3 f4 = slab k0_pay5 2 := load_slab2 _ _ _ _ _
  have c3 : body.sl.v219 c i M3 M4 M8 f3 f4 = slab k0_pay5 3 := load_slab3 _ _ _ _ _ _
  have a0 : body.sl.v134 (F := F) c M9 = slab k0_pay6 0 := load_slab0 _ _ _
  have a1 : body.sl.v165 c i M3 M4 M5 M8 M9 f3 f4 f5 = slab k0_pay6 1 := load_slab1 _ _ _ _
  have a2 : body.sl.v196 c i M3 M4 M5 M8 M9 f3 f4 f5 = slab k0_pay6 2 := load_slab2 _ _ _ _ _
  have a3 : body.sl.v227 c i M3 M4 M5 M8 M9 f3 f4 f5 = slab k0_pay6 3 := load_slab3 _ _ _ _ _ _
  have e8 : View.canon (body.sl.H8_5 c i M3 M4 M8 f3 f4)
      = startC i (View.read (Elt F) M3.view f3) (View.read (Elt F) M4.view f4) := by
    refine (canon_slabs (fun h => carryDiag (qHead (View.read (Elt F) M3.view f3) h)
      (diagHead (View.read (Elt F) M4.view f4) i h) (match h with
        | 0 => body.sl.v126 (F := F) c M8
        | 1 => body.sl.v157 c i M3 M4 M8 f3 f4
        | 2 => body.sl.v188 c i M3 M4 M8 f3 f4
        | 3 => body.sl.v219 c i M3 M4 M8 f3 f4)) [_]).trans ?_
    unfold startC
    congr 1
    funext h
    congr 1
    match h with
    | 0 => exact c0
    | 1 => exact c1
    | 2 => exact c2
    | 3 => exact c3
  have e9 : View.canon (body.sl.H9_5 c i M3 M4 M5 M8 M9 f3 f4 f5)
      = startA i (View.read (Elt F) M3.view f3) (View.read (Elt F) M4.view f4) (View.read (Elt F) M5.view f5) := by
    refine (canon_slabs (fun h => accDiag k0_pay3 (qHead (View.read (Elt F) M3.view f3) h)
      (diagHead (View.read (Elt F) M4.view f4) i h) (diagHead (View.read (Elt F) M5.view f5) i h) (match h with
        | 0 => body.sl.v126 (F := F) c M8
        | 1 => body.sl.v157 c i M3 M4 M8 f3 f4
        | 2 => body.sl.v188 c i M3 M4 M8 f3 f4
        | 3 => body.sl.v219 c i M3 M4 M8 f3 f4) (match h with
        | 0 => body.sl.v134 (F := F) c M9
        | 1 => body.sl.v165 c i M3 M4 M5 M8 M9 f3 f4 f5
        | 2 => body.sl.v196 c i M3 M4 M5 M8 M9 f3 f4 f5
        | 3 => body.sl.v227 c i M3 M4 M5 M8 M9 f3 f4 f5)) [_]).trans ?_
    unfold startA
    congr 1
    funext h
    congr 1
    · match h with
      | 0 => exact c0
      | 1 => exact c1
      | 2 => exact c2
      | 3 => exact c3
    · match h with
      | 0 => exact a0
      | 1 => exact a1
      | 2 => exact a2
      | 3 => exact a3
  have ev : body.sl.v252 c i M3 M4 M8 f3 f4
      = minC (startC i (View.read (Elt F) M3.view f3) (View.read (Elt F) M4.view f4)) := by
    rw [← e8]
    have er : M8.view.readCov (body.sl.H8_5 c i M3 M4 M8 f3 f4)
        (Rect.unit (s := S4x256x128) ![0, 0, 0] S4x256x128.size inb_S4x256x128_S4x256x128_0_0_0).toLoadRect
          = View.canon (body.sl.H8_5 c i M3 M4 M8 f3 f4) :=
      (View.readCov_eq_canon' M8.view _ _).trans (View.ld_unit_zero (by funext a; fin_cases a <;> rfl) _ _)
    exact congrArg minC er
  rw [ev, show body.sl.v247 i = counter (i 2).val from rfl, show body.sl.v7 (F := F) = k0_pay3 from rfl]
  have hn : (i 2).val ≤ 32 := Nat.le_of_lt (i 2).isLt
  iapply (wp_call_spec 𝒱₀ (c : Thread nD τ) none Set.univ
    (spec c M3 M4 k0_pay3 M8 M9 M5 (View.read (Elt F) M3.view f3) (View.read (Elt F) M4.view f4)
      (View.read (Elt F) M5.view f5) (i 2).val
      (startC i (View.read (Elt F) M3.view f3) (View.read (Elt F) M4.view f4),
        startA i (View.read (Elt F) M3.view f3) (View.read (Elt F) M4.view f4) (View.read (Elt F) M5.view f5)))
    (i 2).val (fun u hu => nomatch hu)
    (spec_le c i M3 h3 M4 h4 k0_pay3 M8 h8 M9 h9 M5 h5 _ _ _ Set.univ (i 2).val hn _))
  rw [spec_apply]; unfold held owns
  isplitl [H3 H4 H5 H8 H9]
  · isplitl [H3]
    · iexists f3; isplitr [H3]; · ipureintro; rfl
      · iexact H3
    isplitl [H4]
    · iexists f4; isplitr [H4]; · ipureintro; rfl
      · iexact H4
    isplitl [H5]
    · iexists f5; isplitr [H5]; · ipureintro; rfl
      · iexact H5
    isplitl [H8]
    · iexists _; isplitr [H8]; · ipureintro; exact (View.read_writes_junk_eq_canon M8.view _).trans e8
      · iexact H8
    · iexists _; isplitr [H9]; · ipureintro; exact (View.read_writes_junk_eq_canon M9.view _).trans e9
      · iexact H9
  iintro %r ⟨⟨%g3, %hg3, H3⟩, ⟨%g4, %hg4, H4⟩, ⟨%g5, %hg5, H5⟩, ⟨%g8, %hg8, H8⟩, ⟨%g9, %hg9, H9⟩⟩
  sl_exec_parts!
  have e7 : View.canon (body.sl.H7_4 c M6 M9 f6 g9)
      = blockOut i (View.read (Elt F) M3.view f3) (View.read (Elt F) M4.view f4) (View.read (Elt F) M5.view f5)
        (View.read (Elt F) M6.view f6) := by
    unfold blockOut
    rw [← hg9]
    exact canon_heads (fun h => k0_pay38 (slab (View.read (Elt F) M9.view g9) h)
      (zHead (View.read (Elt F) M6.view f6) h)) []
  rw [wp_ret]; imodintro
  iapply Hk $$ [H3] [H4] [H5] [H6] [H7] [H8] [H9]
  · iexists g3; isplitr [H3]; · ipureintro; exact hg3
    · iexact H3
  · iexists g4; isplitr [H4]; · ipureintro; exact hg4
    · iexact H4
  · iexists g5; isplitr [H5]; · ipureintro; exact hg5
    · iexact H5
  · iexists f6; isplitr [H6]; · ipureintro; rfl
    · iexact H6
  · iexists _; isplitr [H7]; · ipureintro; exact (View.read_writes_junk_eq_canon M7.view _).trans e7
    · iexact H7
  · iexists _; iexists g8; isplitr [H8]; · ipureintro; rfl
    · iexact H8
  · iexists _; iexists g9; isplitr [H9]; · ipureintro; rfl
    · iexact H9

end Cert.KernelIdeal.Hand
-- ==== Proof.Block.lean ====
module

public import proofs.«01_k».proof.Proof.Elem
public import proofs.«01_k».proof.Proof.Body

/-!
# The block of the result

With real queries and keys the carry is real at every tile, so the loop runs down to the first tile, and the block is
the attention of its rows over every key before them.
-/

@[expose] public section

set_option maxRecDepth 16384

noncomputable section

namespace Cert.KernelIdeal.Hand

open Cert.KernelIdeal Cert.KernelIdeal.Gen
open Idealize.ShloMosaic Cert.Stick

/-- Column `d` of head `h`. -/
abbrev col (h : Fin 4) (d : Fin 128) : Fin 512 := ⟨128 * h.val + d.val, by omega⟩

/-- The row of key `j`. -/
abbrev key (j : ℕ) : Fin 8192 := ⟨j % 8192, Nat.mod_lt _ (by decide)⟩

/-- The word of a tile's first row. -/
theorem first_row (n : ℕ) (hn : n < 32) :
    (Scalar.indexCast (Scalar.muli (BitVec.ofNat 32 n) 256#32) : BitVec 32).toNat = 256 * n := by
  have h : ∀ j : Fin 32, (Scalar.indexCast (Scalar.muli (BitVec.ofNat 32 j.val) 256#32) : BitVec 32).toNat = 256 * j.val := by
    decide +kernel
  exact h ⟨n, hn⟩

theorem tileWord_eq (n : ℕ) (hn : n < 32) : tileWord n = BitVec.ofNat 32 n := by
  unfold tileWord
  rw [Nat.mod_eq_of_lt hn]

theorem qHead_apply (q : Vec Ideal S1x256x512 .bf16) (h : Fin 4) (r : Fin 256) (d : Fin 128) :
    qHead q h (ix3 0 r d) = q (ix3 0 r (col h d)) := by
  refine congrArg q (funext fun a => ?_)
  match a with
  | 0 => exact Subsingleton.elim (α := Fin 1) _ _
  | 1 => exact Fin.ext (by show 0 + 1 * r.val = r.val; omega)
  | 2 => exact Fin.ext (by show 128 * h.val + 1 * d.val = 128 * h.val + d.val; omega)

theorem zHead_apply (z : Vec Ideal S1x256x512 .f32) (h : Fin 4) (r : Fin 256) (d : Fin 128) :
    zHead z h (ix3 0 r d) = z (ix3 0 r (col h d)) := by
  refine congrArg z (funext fun a => ?_)
  match a with
  | 0 => exact Subsingleton.elim (α := Fin 1) _ _
  | 1 => exact Fin.ext (by show 0 + 1 * r.val = r.val; omega)
  | 2 => exact Fin.ext (by show 128 * h.val + 1 * d.val = 128 * h.val + d.val; omega)

theorem slab_apply (X : Vec Ideal S4x256x128 .f32) (h : Fin 4) (r : Fin 256) (d : Fin 128) :
    slab X h (ix3 0 r d) = X (ix3 h r d) := by
  refine congrArg X (funext fun a => ?_)
  match a with
  | 0 => exact Fin.ext (by show h.val + 1 * 0 = h.val; omega)
  | 1 => exact Fin.ext (by show 0 + 1 * r.val = r.val; omega)
  | 2 => exact Fin.ext (by show 0 + 1 * d.val = d.val; omega)

theorem ofSlabs_apply (G : Fin 4 → Vec Ideal S1x256x128 .f32) (h : Fin 4) (r : Fin 256) (d : Fin 128) :
    ofSlabs G (ix3 h r d) = G h (ix3 0 r d) := by
  refine congrArg (G h) (funext fun a => ?_)
  match a with
  | 0 => rfl
  | 1 => rfl
  | 2 => rfl

/-- An element of a rectangle of 256 rows and a head's columns. -/
theorem rect_apply (k : Vec Ideal S1x8192x512 .bf16) (n : ℕ) (hn : n < 32) (h : Fin 4) (off : Fin 3 → ℕ)
    (inb : ∀ a, off a + S1x256x128.size a ≤ S1x8192x512.size a) (h1 : off 1 = 256 * n) (h2 : off 2 = 128 * h.val)
    (x : Fin 256) (d : Fin 128) :
    k ((Rect.unit (s := S1x8192x512) off S1x256x128.size inb).idx (ix3 0 x d)) = k (ix3 0 (key (256 * n + x.val)) (col h d)) := by
  refine congrArg k (funext fun a => ?_)
  have hx := x.isLt
  match a with
  | 0 => exact Subsingleton.elim (α := Fin 1) _ _
  | 1 => exact Fin.ext (by show off 1 + 1 * x.val = (256 * n + x.val) % 8192; rw [h1, Nat.mod_eq_of_lt (by omega)]; omega)
  | 2 => exact Fin.ext (by show off 2 + 1 * d.val = 128 * h.val + d.val; rw [h2]; omega)

theorem tileHead_apply (k : Vec Ideal S1x8192x512 .bf16) (n : ℕ) (hn : n < 32) (h : Fin 4) (x : Fin 256) (d : Fin 128) :
    tileHead k (tileWord n) (chk_tile n) h (ix3 0 x d) = k (ix3 0 (key (256 * n + x.val)) (col h d)) := by
  have hw := first_row n hn
  rw [← tileWord_eq n hn] at hw
  match h with
  | 0 => exact rect_apply k n hn 0 _ (k0_off5_inb _ (chk_tile n)) hw rfl x d
  | 1 => exact rect_apply k n hn 1 _ (k0_off6_inb _ (chk_tile n)) hw rfl x d
  | 2 => exact rect_apply k n hn 2 _ (k0_off7_inb _ (chk_tile n)) hw rfl x d
  | 3 => exact rect_apply k n hn 3 _ (k0_off8_inb _ (chk_tile n)) hw rfl x d

theorem diagHead_apply (k : Vec Ideal S1x8192x512 .bf16) (i : grid0.Coords) (h : Fin 4) (x : Fin 256) (d : Fin 128) :
    diagHead k i h (ix3 0 x d) = k (ix3 0 (key (256 * (i 2).val + x.val)) (col h d)) := by
  have hn : (i 2).val < 32 := (i 2).isLt
  have hw := first_row (i 2).val hn
  match h with
  | 0 => exact rect_apply k _ hn 0 _ (k0_off1_inb i) hw rfl x d
  | 1 => exact rect_apply k _ hn 1 _ (k0_off2_inb i) hw rfl x d
  | 2 => exact rect_apply k _ hn 2 _ (k0_off3_inb i) hw rfl x d
  | 3 => exact rect_apply k _ hn 3 _ (k0_off4_inb i) hw rfl x d

/-- The score of row `r` of the block and key `j`, in head `h`. -/
def scoreAt (q : Vec Ideal S1x256x512 .bf16) (k : Vec Ideal S1x8192x512 .bf16) (h : Fin 4) (r : Fin 256) (j : ℕ) : ℝ :=
  ∑ d : Fin 128, (q (ix3 0 r (col h d)) : EReal).toReal * (k (ix3 0 (key j) (col h d)) : EReal).toReal

/-- Column `d` of the value of key `j`, in head `h`. -/
def valueAt (v : Vec Ideal S1x8192x512 .bf16) (h : Fin 4) (d : Fin 128) (j : ℕ) : EReal := v (ix3 0 (key j) (col h d))

section Block

variable (i : grid0.Coords) (q : Vec Ideal S1x256x512 .bf16) (k v : Vec Ideal S1x8192x512 .bf16)

/-- The row of the sequence at row `r` of the block. -/
abbrev rowAt (r : Fin 256) : ℕ := 256 * (i 2).val + r.val

/-- The keys from here on are after every row of the block. -/
abbrev topAt : ℕ := 256 * (i 2).val + 256

/-- The state of the two scratch buffers with `n` tiles left. -/
structure Holds (n : ℕ) (s : Vec Ideal S4x256x128 .f32 × Vec Ideal S4x256x128 .f32) : Prop where
  carry : ∀ h r l, s.1 (ix3 h r l)
    = ((∑ j ∈ Finset.Ico (256 * n) (topAt i), softs (scoreAt q k h r) (rowAt i r) j : ℝ) : EReal)
  acc : ∀ h r d, s.2 (ix3 h r d)
    = attend (scoreAt q k h r) (valueAt v h d) (rowAt i r) (topAt i) (256 * n)

variable (hq : ∀ x, (q x : EReal) = ((q x : EReal).toReal : EReal)) (hk : ∀ x, (k x : EReal) = ((k x : EReal).toReal : EReal))
include hq hk

theorem score_off (n : ℕ) (hn : n < 32) (h : Fin 4) (r x : Fin 256) :
    k0_pay40 (qHead q h) (tileHead k (tileWord n) (chk_tile n) h) (ix2 r x)
      = (scoreAt q k h r (256 * n + x.val) : EReal) :=
  score_apply _ _ (fun r d => (q (ix3 0 r (col h d)) : EReal).toReal)
    (fun x d => (k (ix3 0 (key (256 * n + x.val)) (col h d)) : EReal).toReal)
    (fun r d => (qHead_apply q h r d).trans (hq _)) (fun x d => (tileHead_apply k n hn h x d).trans (hk _)) r x

theorem score_diag (h : Fin 4) (r x : Fin 256) :
    k0_pay40 (qHead q h) (diagHead k i h) (ix2 r x) = (scoreAt q k h r (rowAt i x) : EReal) :=
  score_apply _ _ (fun r d => (q (ix3 0 r (col h d)) : EReal).toReal)
    (fun x d => (k (ix3 0 (key (rowAt i x)) (col h d)) : EReal).toReal)
    (fun r d => (qHead_apply q h r d).trans (hq _)) (fun x d => (diagHead_apply k i h x d).trans (hk _)) r x

/-- After the diagonal tile. -/
theorem holds_start : Holds i q k v (i 2).val (startC i q k, startA i q k v) where
  carry h r l := by
    have e : ∀ y : Fin 256, (if y.val < r.val then soft (scoreAt q k h r (rowAt i y)) else 0)
        = softs (scoreAt q k h r) (rowAt i r) (256 * (i 2).val + y.val) := fun y => by
      unfold softs
      by_cases hy : y.val < r.val
      · rw [if_pos hy, if_pos (by show 256 * (i 2).val + y.val < 256 * (i 2).val + r.val; omega)]
      · rw [if_neg hy, if_neg (by show ¬ 256 * (i 2).val + y.val < 256 * (i 2).val + r.val; omega)]
    unfold startC
    dsimp only
    rw [ofSlabs_apply]
    unfold carryDiag
    rw [carry25_apply _ _ (lmDiag_apply _ (fun r x => scoreAt q k h r (rowAt i x)) (score_diag i q k hq hk h)) _ r l 0
      ((slab_apply _ _ _ _).trans (zero5_apply h r l)), zero_add, Finset.sum_congr rfl fun y _ => e y, sum_tile]
  acc h r d := by
    unfold startA
    dsimp only
    rw [ofSlabs_apply]
    unfold accDiag
    rw [acc24_apply _ (fun r x => scoreAt q k h r (rowAt i x)) (score_diag i q k hq hk h) _ _
      (tail_apply _ _ (lmDiag_apply _ (fun r x => scoreAt q k h r (rowAt i x)) (score_diag i q k hq hk h))) _ _ _ r 0
      (fun l => (slab_apply _ _ _ _).trans (zero5_apply h r l)), slab_apply, zero6_apply, zero_add]
    unfold attend
    rw [sum_tile]
    refine Finset.sum_congr rfl fun y _ => ?_
    rw [diagHead_apply]
    refine congrArg (fun x : ℝ => (x : EReal) * valueAt v h d (256 * (i 2).val + y.val)) ?_
    unfold weight
    by_cases hy : y.val < r.val
    · rw [if_pos hy, if_pos (by show 256 * (i 2).val + y.val < 256 * (i 2).val + r.val; omega),
        sum_after _ (le_refl (256 * (i 2).val + 256)) y, Finset.Ico_self, Finset.sum_empty, add_zero, sub_zero]
      congr 2
      refine Finset.sum_congr rfl fun x _ => ?_
      by_cases hx : y.val < x.val
      · rw [if_pos hx, if_pos hx]
        unfold softs
        by_cases hr : x.val < r.val
        · rw [if_pos hr, if_pos (by show 256 * (i 2).val + x.val < 256 * (i 2).val + r.val; omega)]
        · rw [if_neg hr, if_neg (by show ¬ 256 * (i 2).val + x.val < 256 * (i 2).val + r.val; omega)]
      · rw [if_neg hx, if_neg hx]
    · rw [if_neg hy, if_neg (by show ¬ 256 * (i 2).val + y.val < 256 * (i 2).val + r.val; omega)]

/-- One trip of the loop. -/
theorem holds_step (n : ℕ) (hn : n < (i 2).val) (s : Vec Ideal S4x256x128 .f32 × Vec Ideal S4x256x128 .f32)
    (hs : Holds i q k v (n + 1) s) :
    Holds i q k v n (stepC q k (tileWord n) (chk_tile n) s.1, stepA k0_pay3 q k v (tileWord n) (chk_tile n) s.1 s.2) := by
  have hT : (i 2).val < 32 := (i 2).isLt
  have hn' : n < 32 := by omega
  have hle : 256 * n + 256 ≤ topAt i := by show 256 * n + 256 ≤ 256 * (i 2).val + 256; omega
  have hlt : ∀ x r : Fin 256, 256 * n + x.val < rowAt i r := fun x r => by
    show 256 * n + x.val < 256 * (i 2).val + r.val
    have := x.isLt; omega
  have es : ∀ (h : Fin 4) (r y : Fin 256), soft (scoreAt q k h r (256 * n + y.val))
      = softs (scoreAt q k h r) (rowAt i r) (256 * n + y.val) := fun h r y => (if_pos (hlt y r)).symm
  have hc := fun h r l => (slab_apply s.1 h r l).trans (hs.carry h r l)
  have e256 : 256 * (n + 1) = 256 * n + 256 := by omega
  refine ⟨fun h r l => ?_, fun h r d => ?_⟩
  · unfold stepC
    dsimp only
    rw [ofSlabs_apply]
    unfold carryOff
    rw [carry64_apply _ _ (lmOff_apply _ (fun r x => scoreAt q k h r (256 * n + x.val)) (score_off q k hq hk n hn' h)) _ r l _
      (hc h r l), Finset.sum_congr rfl fun y _ => es h r y, sum_from _ hle, add_comm, e256]
  · unfold stepA
    dsimp only
    rw [ofSlabs_apply]
    unfold accOff
    rw [acc63_apply _ (fun r x => scoreAt q k h r (256 * n + x.val)) (score_off q k hq hk n hn' h) _ _
      (tail_apply _ _ (lmOff_apply _ (fun r x => scoreAt q k h r (256 * n + x.val)) (score_off q k hq hk n hn' h))) _ _ _ r _
      (hc h r), slab_apply, hs.acc h r d]
    unfold attend
    rw [sum_from _ hle, add_comm, e256]
    congr 1
    refine Finset.sum_congr rfl fun y _ => ?_
    rw [tileHead_apply v n hn']
    refine congrArg (fun x : ℝ => (x : EReal) * valueAt v h d (256 * n + y.val)) ?_
    unfold weight
    rw [if_pos (hlt y r), sum_after _ hle y, sub_sub]
    congr 3
    refine Finset.sum_congr rfl fun x _ => ?_
    rw [es h r x]

omit hq hk in
/-- The test against the carry past which every weight is zero: at the reals there is none. -/
theorem olt_of_lt {x : EReal} (hx : x < ⊤) :
    Scalar.cmpf (F := Ideal) (φ := .f32) .olt x (Named.named κ "dead" 0x431EB24B#32) = 1#1 := by
  have e : (Named.named (F := Ideal) (φ := .f32) κ "dead" 0x431EB24B#32) = (⊤ : EReal) := rfl
  rw [e]
  exact congrArg BitVec.ofBool (decide_eq_true hx)

/-- The loop runs through every tile left. -/
theorem holds_loop : ∀ (n : ℕ), n ≤ (i 2).val → ∀ s, Holds i q k v n s → Holds i q k v 0 (loop k0_pay3 q k v n s)
  | 0, _, s, hs => hs
  | n + 1, hn, s, hs => by
    rw [loop_succ, if_pos]
    · exact holds_loop n (by omega) _ (holds_step i q k v hq hk n (by omega) s hs)
    · unfold alive minC
      have hlt := alive_real s.1 fun h r d => ⟨_, hs.carry h r d⟩
      exact olt_of_lt hlt

/-- An element of the block: the gated attention of its row over all the keys. -/
theorem block_apply (z : Vec Ideal S1x256x512 .f32) (h : Fin 4) (r : Fin 256) (d : Fin 128) :
    blockOut i q k v z (ix3 0 r (col h d))
      = attend (scoreAt q k h r) (valueAt v h d) (rowAt i r) 8192 0
        * ((z (ix3 0 r (col h d)) : EReal) * Ideal.logistic (z (ix3 0 r (col h d)))) := by
  have hT : (i 2).val < 32 := (i 2).isLt
  have hl := holds_loop i q k v hq hk (i 2).val (le_refl _) _ (holds_start i q k v hq hk)
  have hr := r.isLt
  have hd := d.isLt
  have e : blockOut i q k v z (ix3 0 r (col h d))
      = k0_pay38 (slab (loop k0_pay3 q k v (i 2).val (startC i q k, startA i q k v)).2 h) (zHead z h) (ix3 0 r d) := by
    have := ofHeads_emb (fun h => k0_pay38 (slab (loop k0_pay3 q k v (i 2).val (startC i q k, startA i q k v)).2 h) (zHead z h))
      h (ix3 0 r d)
    refine Eq.trans (congrArg _ ?_) this
    funext a
    match a with
    | 0 => exact Subsingleton.elim (α := Fin 1) _ _
    | 1 => exact Fin.ext (by show r.val = 0 + 1 * r.val; omega)
    | 2 => exact Fin.ext (by show 128 * h.val + d.val = 128 * h.val + 1 * d.val; omega)
  rw [e, gate_apply, slab_apply, hl.acc h r d, zHead_apply, Nat.mul_zero]
  rw [attend_top (scoreAt q k h r) (valueAt v h d) (show rowAt i r ≤ topAt i from by
    show 256 * (i 2).val + r.val ≤ 256 * (i 2).val + 256; omega) (show topAt i ≤ 8192 from by
    show 256 * (i 2).val + 256 ≤ 8192; omega) 0]

end Block

end Cert.KernelIdeal.Hand
-- ==== Proof.Run.lean ====
module

public import proofs.«01_k».proof.Proof.Body

/-!
# The run of the program

Every point of the grid runs the body on its blocks, so the program ends with each block of the result at what the body
leaves, the arguments unchanged and every semaphore at zero.
-/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- The arrays as the kernel finds them. -/
abbrev V (c : Dev nD) (b : Ref sig .tc) : Buf (Elt F) ((c : Thread nD τ).loc b) := m ((c : Thread nD τ).loc b)

/-- Window `w`'s block at point `t`. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The block of the result at point `t`. -/
def outsAt (c : Dev nD) (t : Fin (cfg0 (F := F)).N) : Vec F S1x256x512 .bf16 :=
  blockOut (grid0.coords t) (iblk m c 0 t) (iblk m c 1 t) (iblk m c 2 t) (iblk m c 3 t)

/-- The pipeline's data: inputs keep their blocks, the result's block is `outsAt`. -/
def dats (_ : Fin 1) (c : Dev nD) : Dat τ (Elt F) Unit ℕ (UR nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q w := Pipeline.shareOf spec0 w
  owed _ := 0

theorem A_eq (c : Dev nD) (w : Fin (cfg0 (F := F)).W) : (dats m 0 c).A w = V m c (Pipeline.arrRef spec0 w) := rfl
theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = outsAt m c t := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-- A whole scratch buffer at some contents, as the body holds it. -/
theorem scratch_owns (c : Dev nD) (b : Ref sig .tc) :
    (iprop(∃ f : Buf (Elt F) ((c : Thread nD τ).loc b), ((c : Thread nD τ).loc b) ↦{fullShare} f) : sProp 𝕄)
      ⊣⊢ iprop(∃ x, owns (c : Thread nD τ) (Memref.whole b) fullShare x) := by
  constructor
  · iintro ⟨%f, H⟩
    iexists _
    unfold owns
    iexists f
    isplitr [H]
    · ipureintro; rfl
    · have hs : (Memref.whole b : Memref sig .tc _ _ _).view.set = Finset.univ := View.set_whole _
      rw [hs]
      iexact H
  · unfold owns
    iintro ⟨%x, %f, %hf, H⟩
    iexists f
    have hs : (Memref.whole b : Memref sig .tc _ _ _).view.set = Finset.univ := View.set_whole _
    rw [hs]
    iexact H

/-- The body obligation. -/
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl, after0_0, after0_1, after0_2,
    after0_3, after0_4]
  rw [show (dats m 0 c).Φ t.castSucc = Pipeline.ΦA spec0 c from rfl]
  unfold Pipeline.ΦA
  rw [scopedRest0_eq]
  unfold outsAt
  iintro ⟨⟨⟨HS8, HS9⟩, HR⟩, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  ihave HS8 := (scratch_owns (F := F) c cc0_scratch0).1 $$ HS8
  ihave HS9 := (scratch_owns (F := F) c cc0_scratch1).1 $$ HS9
  icases HS8 with ⟨%x8, HS8⟩
  icases HS9 with ⟨%x9, HS9⟩
  iapply (body c (grid0.coords t) _ _ _ _ _ _ _ _ _ _ _ _ _ _ (iblk m c 0 t) (iblk m c 1 t) (iblk m c 2 t)
    (iblk m c 3 t) _ x8 x9 _)
  isplitl [H0]; · iexact H0
  isplitl [H1]; · iexact H1
  isplitl [H2]; · iexact H2
  isplitl [H3]; · iexact H3
  isplitl [H4]; · iexact H4
  isplitl [HS8]; · iexact HS8
  isplitl [HS9]; · iexact HS9
  iintro H0 H1 H2 H3 H4 HS8 HS9
  ihave HS8 := (scratch_owns (F := F) c cc0_scratch0).2 $$ HS8
  ihave HS9 := (scratch_owns (F := F) c cc0_scratch1).2 $$ HS9
  isplitl [HS8 HS9 HR]
  · isplitl [HS8 HS9]
    · isplitl [HS8]; · iexact HS8
      iexact HS9
    · iexact HR
  isplitl [Ho]; · iexact Ho
  isplitl [H0]; · iexact H0
  isplitl [H1]; · iexact H1
  isplitl [H2]; · iexact H2
  isplitl [H3]; · iexact H3
  iexact H4

set_option backward.isDefEq.respectTransparency.types false in
/-- From any memory with zero counters every execution ends, with every array at what the pipeline's data say and every
counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := Pipeline.hmain_region cfgs 0 defs₀ 𝒱₀ m main (fun _ => rfl))
    (hA := fun _ _ => rfl) (hΦ := fun _ _ => rfl)

/-- The arguments end unchanged, the counters at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun _ h => ⟨fun c =>
    ⟨((h.1 c).1 0).trans ((dats m 0 c).arrAt_in 0 rfl _), ((h.1 c).1 3).trans ((dats m 0 c).arrAt_in 3 rfl _)⟩, h.2⟩)
    (run_main m ρ)

end Cert.KernelIdeal.Hand
-- ==== Proof.Spec.lean ====
module

public import proofs.«01_k».proof.Proof.Scores
public import Idealize.ShloMosaic.Lib.Pointwise
public import Idealize.ShloMosaic.PureOps.Ideal.Laws

/-!
# The gated stick-breaking attention of whole arrays

Queries, keys and values lie side by side in one array, 2048 columns each, 16 heads of 128 columns in each part.
-/

@[expose] public section

noncomputable section

namespace Cert.Stick

open Idealize.ShloMosaic

/-- The array of queries, keys and values. -/
abbrev Qkv := (⟨3, ![2, 8192, 6144]⟩ : Shape).Idx → EReal

/-- The array of gates. -/
abbrev Gate := (⟨3, ![2, 8192, 2048]⟩ : Shape).Idx → EReal

/-- Position `j` of the sequence. -/
abbrev pos (j : ℕ) : Fin 8192 := ⟨j % 8192, Nat.mod_lt _ (by decide)⟩

abbrev colQ (h : Fin 16) (d : Fin 128) : Fin 6144 := ⟨128 * h.val + d.val, by omega⟩
abbrev colK (h : Fin 16) (d : Fin 128) : Fin 6144 := ⟨2048 + (128 * h.val + d.val), by omega⟩
abbrev colV (h : Fin 16) (d : Fin 128) : Fin 6144 := ⟨4096 + (128 * h.val + d.val), by omega⟩
abbrev colO (h : Fin 16) (d : Fin 128) : Fin 2048 := ⟨128 * h.val + d.val, by omega⟩

/-- The score of query `r` and key `j`. -/
def score (x : Qkv) (b : Fin 2) (h : Fin 16) (r : Fin 8192) (j : ℕ) : ℝ :=
  ∑ d : Fin 128, (x (ix3 b r (colQ h d))).toReal * (x (ix3 b (pos j) (colK h d))).toReal

/-- Column `d` of the value of key `j`. -/
def value (x : Qkv) (b : Fin 2) (h : Fin 16) (d : Fin 128) (j : ℕ) : EReal := x (ix3 b (pos j) (colV h d))

/-- An element of the result. -/
def result (x : Qkv) (z : Gate) (b : Fin 2) (r : Fin 8192) (h : Fin 16) (d : Fin 128) : EReal :=
  attend (score x b h r) (value x b h d) r.val 8192 0 * (z (ix3 b r (colO h d)) * Ideal.logistic (z (ix3 b r (colO h d))))

/-- The queries and the keys are real. -/
def RealQK (x : Qkv) : Prop :=
  ∀ (b : Fin 2) (r : Fin 8192) (j : Fin 6144), j.val < 4096 → x (ix3 b r j) = ((x (ix3 b r j)).toReal : EReal)

/-- The softplus of a natural score is the base-two one, scaled. -/
theorem soft_ln (s : ℝ) :
    max (s * Real.log 2) 0 + Real.log (1 + Real.exp (-|s * Real.log 2|)) = soft s * Real.log 2 := by
  have hl : 0 < Real.log 2 := Real.log_pos (by norm_num)
  unfold soft bend
  rw [abs_mul, abs_of_pos hl, show (-(|s| * Real.log 2)) = Real.log 2 * -|s| by ring,
    ← Real.rpow_def_of_pos (by norm_num), add_mul, mul_assoc, inv_mul_cancel₀ hl.ne', mul_one]
  congr 1
  rw [max_mul_of_nonneg _ _ hl.le, zero_mul]

theorem low_ln (s : ℝ) :
    -(max (-(s * Real.log 2)) 0 + Real.log (1 + Real.exp (-|-(s * Real.log 2)|))) = low s * Real.log 2 := by
  have h := soft_ln (-s)
  rw [neg_mul] at h
  rw [h]
  unfold soft low bend
  rw [abs_neg]
  have : max (-s) 0 = -(min s 0) := by rw [← neg_zero, max_neg_neg, neg_zero]
  rw [this]
  ring

/-- The sum of a window that runs from `c` to the end. -/
theorem sum_window (f : ℕ → ℝ) (c : ℕ) (hc : c < 8192) :
    ∑ n ∈ Finset.range 8192, (if c + n < 8192 then f (c + n) else 0) = ∑ j ∈ Finset.Ico c 8192, f j := by
  rw [Finset.sum_Ico_eq_sum_range, ← Finset.sum_filter]
  refine Finset.sum_congr (Finset.ext fun n => ?_) fun _ _ => rfl
  rw [Finset.mem_filter, Finset.mem_range, Finset.mem_range]
  omega

/-- Without its first term, the sum is what follows. -/
theorem sum_after_one (f : ℕ → ℝ) (l : ℝ) {c top : ℕ} (hc : c < top) :
    ∑ j ∈ Finset.Ico c top, -(f j * l) - -(f c * l) = -((∑ j ∈ Finset.Ico (c + 1) top, f j) * l) := by
  rw [Finset.sum_eq_sum_Ico_succ_bot hc, Finset.sum_neg_distrib, ← Finset.sum_mul]
  ring

theorem foldl_real {M : ℕ} (step : EReal → Fin M → EReal) (g : Fin M → ℝ) (hs : ∀ r n, step r n = r + (g n : EReal)) :
    ∀ (l : List (Fin M)) (a : ℝ), l.foldl step (a : EReal) = ((a + (l.map g).sum : ℝ) : EReal)
  | [], a => by simp
  | n :: l, a => by
    rw [List.foldl_cons, hs, ← EReal.coe_add, foldl_real step g hs l, List.map_cons, List.sum_cons, add_assoc]

/-- The sum, along the last axis, of an element and what follows it. -/
theorem cumsum_apply (x : (⟨4, ![2, 16, 8192, 8192]⟩ : Shape).Idx → EReal)
    (h : (⟨4, ![2, 16, 8192, 8192]⟩ : Shape).ReduceWindows ![1, 1, 1, 8192] ![1, 1, 1, 1] ![0, 0, 0, 0] ![0, 0, 0, 8191]
      (⟨4, ![2, 16, 8192, 8192]⟩ : Shape))
    (b : Fin 2) (a : Fin 16) (r : Fin 8192) (f : ℕ → ℝ) (hf : ∀ c : Fin 8192, x (ix4 b a r c) = (f c.val : EReal)) (c : Fin 8192) :
    Ideal.hostReduceWindowAdd ![1, 1, 1, 8192] ![1, 1, 1, 1] ![0, 0, 0, 0] ![0, 0, 0, 8191] h x 0 (ix4 b a r c)
      = ((∑ j ∈ Finset.Ico c.val 8192, f j : ℝ) : EReal) := by
  unfold Ideal.hostReduceWindowAdd Host.reduceWindow
  have hnum : (⟨4, ![1, 1, 1, 8192]⟩ : Shape).numel = 8192 := by
    unfold Shape.numel
    simp [Fin.prod_univ_succ]
  have hw : ∀ n : Fin (⟨4, ![1, 1, 1, 8192]⟩ : Shape).numel,
      ((⟨4, ![1, 1, 1, 8192]⟩ : Shape).rowMajor.symm n 3).val = n.val := fun n => by
    have e := Shape.rowMajor_val_four ((⟨4, ![1, 1, 1, 8192]⟩ : Shape).rowMajor.symm n)
    rw [Equiv.apply_symm_apply] at e
    have h0 : ((⟨4, ![1, 1, 1, 8192]⟩ : Shape).rowMajor.symm n 0).val < 1 := ((⟨4, ![1, 1, 1, 8192]⟩ : Shape).rowMajor.symm n 0).isLt
    have h1 : ((⟨4, ![1, 1, 1, 8192]⟩ : Shape).rowMajor.symm n 1).val < 1 := ((⟨4, ![1, 1, 1, 8192]⟩ : Shape).rowMajor.symm n 1).isLt
    have h2 : ((⟨4, ![1, 1, 1, 8192]⟩ : Shape).rowMajor.symm n 2).val < 1 := ((⟨4, ![1, 1, 1, 8192]⟩ : Shape).rowMajor.symm n 2).isLt
    have e' : n.val = ((((⟨4, ![1, 1, 1, 8192]⟩ : Shape).rowMajor.symm n 0).val * 1 + ((⟨4, ![1, 1, 1, 8192]⟩ : Shape).rowMajor.symm n 1).val) * 1
      + ((⟨4, ![1, 1, 1, 8192]⟩ : Shape).rowMajor.symm n 2).val) * 8192 + ((⟨4, ![1, 1, 1, 8192]⟩ : Shape).rowMajor.symm n 3).val := e
    omega
  have hz : ∀ (n : Fin (⟨4, ![1, 1, 1, 8192]⟩ : Shape).numel) (d : Fin 4), d.val < 3 →
      ((⟨4, ![1, 1, 1, 8192]⟩ : Shape).rowMajor.symm n d).val = 0 := fun n d hd => by
    have := ((⟨4, ![1, 1, 1, 8192]⟩ : Shape).rowMajor.symm n d).isLt
    match d with
    | 0 => exact Nat.lt_one_iff.mp this
    | 1 => exact Nat.lt_one_iff.mp this
    | 2 => exact Nat.lt_one_iff.mp this
    | 3 => exact absurd hd (by decide)
  refine (foldl_real _ (fun n => if c.val + n.val < 8192 then f (c.val + n.val) else 0) (fun e n => ?_) _ 0).trans ?_
  · refine congrArg (e + ·) ?_
    dsimp only
    by_cases hin : c.val + n.val < 8192
    · rw [if_pos hin, dif_pos]
      · refine Eq.trans (congrArg x (funext fun d => Fin.ext ?_)) (hf ⟨c.val + n.val, hin⟩)
        match d with
        | 0 => show b.val * 1 + ((⟨4, ![1, 1, 1, 8192]⟩ : Shape).rowMajor.symm n 0).val - 0 = b.val; rw [hz n 0 (by decide)]; omega
        | 1 => show a.val * 1 + ((⟨4, ![1, 1, 1, 8192]⟩ : Shape).rowMajor.symm n 1).val - 0 = a.val; rw [hz n 1 (by decide)]; omega
        | 2 => show r.val * 1 + ((⟨4, ![1, 1, 1, 8192]⟩ : Shape).rowMajor.symm n 2).val - 0 = r.val; rw [hz n 2 (by decide)]; omega
        | 3 => show c.val * 1 + ((⟨4, ![1, 1, 1, 8192]⟩ : Shape).rowMajor.symm n 3).val - 0 = c.val + n.val; rw [hw]; omega
      · have hb := b.isLt
        have ha := a.isLt
        have hr := r.isLt
        intro d
        match d with
        | 0 => show 0 ≤ _ ∧ b.val * 1 + ((⟨4, ![1, 1, 1, 8192]⟩ : Shape).rowMajor.symm n 0).val - 0 < 2; rw [hz n 0 (by decide)]; omega
        | 1 => show 0 ≤ _ ∧ a.val * 1 + ((⟨4, ![1, 1, 1, 8192]⟩ : Shape).rowMajor.symm n 1).val - 0 < 16; rw [hz n 1 (by decide)]; omega
        | 2 => show 0 ≤ _ ∧ r.val * 1 + ((⟨4, ![1, 1, 1, 8192]⟩ : Shape).rowMajor.symm n 2).val - 0 < 8192; rw [hz n 2 (by decide)]; omega
        | 3 => show 0 ≤ _ ∧ c.val * 1 + ((⟨4, ![1, 1, 1, 8192]⟩ : Shape).rowMajor.symm n 3).val - 0 < 8192; rw [hw]; omega
    · rw [if_neg hin, dif_neg]
      · rfl
      · intro hall
        have h3 : c.val * 1 + ((⟨4, ![1, 1, 1, 8192]⟩ : Shape).rowMajor.symm n 3).val - 0 < 8192 := (hall 3).2
        rw [hw] at h3
        omega
  · refine congrArg (fun t : ℝ => (t : EReal)) ?_
    rw [zero_add, ← Fin.sum_univ_def,
      Fin.sum_univ_eq_sum_range (fun n => if c.val + n < 8192 then f (c.val + n) else 0) (⟨4, ![1, 1, 1, 8192]⟩ : Shape).numel]
    refine (congrArg (fun M => ∑ n ∈ Finset.range M, if c.val + n < 8192 then f (c.val + n) else 0) hnum).trans ?_
    exact sum_window f c.val c.isLt

end Cert.Stick
-- ==== Proof.Array.lean ====
module

public import proofs.«01_k».proof.Proof.Block
public import proofs.«01_k».proof.Proof.Run
public import proofs.«01_k».proof.Proof.Spec

/-!
# The result array

Every point of the grid writes its own block, the blocks cover the array, and each element is `result`.
-/

@[expose] public section

set_option maxRecDepth 16384

noncomputable section

namespace Cert.KernelIdeal.Hand

open Cert.KernelIdeal Cert.KernelIdeal.Gen
open Idealize.ShloMosaic Idealize.ShloMosaic.TcCoe Idealize.SL.Sem Cert.Stick

/-- Where the blocks of a point lie. -/
theorem index_facts : ∀ t : Fin grid0.N,
    (win0_0.index t 0 = t.val / 128 ∧ win0_0.index t 1 = t.val % 32 ∧ win0_0.index t 2 = t.val / 32 % 4)
    ∧ (win0_1.index t 0 = t.val / 128 ∧ win0_1.index t 1 = 0 ∧ win0_1.index t 2 = 4 + t.val / 32 % 4)
    ∧ (win0_2.index t 0 = t.val / 128 ∧ win0_2.index t 1 = 0 ∧ win0_2.index t 2 = 8 + t.val / 32 % 4)
    ∧ (win0_3.index t 0 = t.val / 128 ∧ win0_3.index t 1 = t.val % 32 ∧ win0_3.index t 2 = t.val / 32 % 4)
    ∧ (win0_4.index t 0 = t.val / 128 ∧ win0_4.index t 1 = t.val % 32 ∧ win0_4.index t 2 = t.val / 32 % 4)
    ∧ (grid0.coords t 2).val = t.val % 32 := by
  decide +kernel

theorem size_facts : ∀ t : Fin grid0.N, ∀ a, win0_4.xsize (grid0.coords t) a = S1x256x512.size a := by decide +kernel

theorem point_lt (t : Fin (cfg0 (F := Ideal)).N) : t.val < 256 := t.isLt

/-- The batch, the head and the row of a point's element. -/
abbrev batchOf (t : Fin (cfg0 (F := Ideal)).N) : Fin 2 := ⟨t.val / 128, by have := point_lt t; omega⟩
abbrev headOf (t : Fin (cfg0 (F := Ideal)).N) (h : Fin 4) : Fin 16 := ⟨4 * (t.val / 32 % 4) + h.val, by omega⟩
abbrev rowOf (t : Fin (cfg0 (F := Ideal)).N) (r : Fin 256) : Fin 8192 := ⟨256 * (t.val % 32) + r.val, by omega⟩

variable (m : (ℓ : Loc nD τ sig) → Buf (Elt Ideal) ℓ) (c : Dev nD)

/-- The queries, keys and values. -/
abbrev qkv : Qkv := m ((c.tc : Thread nD τ).loc main_arg0)

/-- The gates. -/
abbrev gates : Gate := m ((c.tc : Thread nD τ).loc main_arg1)

theorem q_block (t : Fin (cfg0 (F := Ideal)).N) (r : Fin 256) (h : Fin 4) (d : Fin 128) :
    iblk m c 0 t (ix3 0 r (col h d)) = qkv m c (ix3 (batchOf t) (rowOf t r) (colQ (headOf t h) d)) := by
  have e := (index_facts t).1
  refine congrArg (qkv m c) (funext fun a => Fin.ext ?_)
  match a with
  | 0 => show win0_0.index t 0 * 1 + 1 * 0 = t.val / 128; rw [e.1]; omega
  | 1 => show win0_0.index t 1 * 256 + 1 * r.val = 256 * (t.val % 32) + r.val; rw [e.2.1]; omega
  | 2 =>
    show win0_0.index t 2 * 512 + 1 * (128 * h.val + d.val) = 128 * (4 * (t.val / 32 % 4) + h.val) + d.val
    rw [e.2.2]; omega

theorem k_block (t : Fin (cfg0 (F := Ideal)).N) (j : Fin 8192) (h : Fin 4) (d : Fin 128) :
    iblk m c 1 t (ix3 0 j (col h d)) = qkv m c (ix3 (batchOf t) j (colK (headOf t h) d)) := by
  have e := (index_facts t).2.1
  refine congrArg (qkv m c) (funext fun a => Fin.ext ?_)
  match a with
  | 0 => show win0_1.index t 0 * 1 + 1 * 0 = t.val / 128; rw [e.1]; omega
  | 1 => show win0_1.index t 1 * 8192 + 1 * j.val = j.val; rw [e.2.1]; omega
  | 2 =>
    show win0_1.index t 2 * 512 + 1 * (128 * h.val + d.val) = 2048 + (128 * (4 * (t.val / 32 % 4) + h.val) + d.val)
    rw [e.2.2]; omega

theorem v_block (t : Fin (cfg0 (F := Ideal)).N) (j : Fin 8192) (h : Fin 4) (d : Fin 128) :
    iblk m c 2 t (ix3 0 j (col h d)) = qkv m c (ix3 (batchOf t) j (colV (headOf t h) d)) := by
  have e := (index_facts t).2.2.1
  refine congrArg (qkv m c) (funext fun a => Fin.ext ?_)
  match a with
  | 0 => show win0_2.index t 0 * 1 + 1 * 0 = t.val / 128; rw [e.1]; omega
  | 1 => show win0_2.index t 1 * 8192 + 1 * j.val = j.val; rw [e.2.1]; omega
  | 2 =>
    show win0_2.index t 2 * 512 + 1 * (128 * h.val + d.val) = 4096 + (128 * (4 * (t.val / 32 % 4) + h.val) + d.val)
    rw [e.2.2]; omega

theorem z_block (t : Fin (cfg0 (F := Ideal)).N) (r : Fin 256) (h : Fin 4) (d : Fin 128) :
    iblk m c 3 t (ix3 0 r (col h d)) = gates m c (ix3 (batchOf t) (rowOf t r) (colO (headOf t h) d)) := by
  have e := (index_facts t).2.2.2.1
  refine congrArg (gates m c) (funext fun a => Fin.ext ?_)
  match a with
  | 0 => show win0_3.index t 0 * 1 + 1 * 0 = t.val / 128; rw [e.1]; omega
  | 1 => show win0_3.index t 1 * 256 + 1 * r.val = 256 * (t.val % 32) + r.val; rw [e.2.1]; omega
  | 2 =>
    show win0_3.index t 2 * 512 + 1 * (128 * h.val + d.val) = 128 * (4 * (t.val / 32 % 4) + h.val) + d.val
    rw [e.2.2]; omega

/-- A column of a block is a column of a head. -/
theorem exists_col (j : Fin 512) : ∃ (h : Fin 4) (d : Fin 128), j = col h d :=
  ⟨⟨j.val / 128, by omega⟩, ⟨j.val % 128, by omega⟩, Fin.ext (by show j.val = 128 * (j.val / 128) + j.val % 128; omega)⟩

theorem exists_ix (w : ℕ) (y : (⟨3, ![1, w, 512]⟩ : Shape).Idx) : ∃ (r : Fin w) (h : Fin 4) (d : Fin 128), y = ix3 0 r (col h d) := by
  obtain ⟨h, d, e⟩ := exists_col (y 2)
  refine ⟨y 1, h, d, funext fun a => ?_⟩
  match a with
  | 0 => exact Subsingleton.elim (α := Fin 1) _ _
  | 1 => rfl
  | 2 => exact e

/-- The whole result. -/
def val : (⟨3, ![2, 8192, 2048]⟩ : Shape).Idx → EReal := fun i =>
  result (qkv m c) (gates m c) (i 0) (i 1) ⟨(i 2).val / 128, Nat.div_lt_of_lt_mul (i 2).isLt⟩
    ⟨(i 2).val % 128, Nat.mod_lt _ (by decide)⟩

theorem val_apply (b : Fin 2) (r : Fin 8192) (h : Fin 16) (d : Fin 128) :
    val m c (ix3 b r (colO h d)) = result (qkv m c) (gates m c) b r h d := by
  have e1 : (⟨(colO h d).val / 128, Nat.div_lt_of_lt_mul (colO h d).isLt⟩ : Fin 16) = h :=
    Fin.ext (by show (128 * h.val + d.val) / 128 = h.val; omega)
  have e2 : (⟨(colO h d).val % 128, Nat.mod_lt _ (by decide)⟩ : Fin 128) = d :=
    Fin.ext (by show (128 * h.val + d.val) % 128 = d.val; omega)
  show result (qkv m c) (gates m c) b r _ _ = _
  exact congrArg₂ (result (qkv m c) (gates m c) b r) e1 e2

variable (hx : RealQK (qkv m c))
include hx

theorem out_apply (t : Fin (cfg0 (F := Ideal)).N) (r : Fin 256) (h : Fin 4) (d : Fin 128) :
    outsAt m c t (ix3 0 r (col h d)) = result (qkv m c) (gates m c) (batchOf t) (rowOf t r) (headOf t h) d := by
  have hq : ∀ x, (iblk m c 0 t x : EReal) = ((iblk m c 0 t x : EReal).toReal : EReal) := fun x => by
    obtain ⟨r, h, d, rfl⟩ := exists_ix 256 x
    rw [q_block]
    exact hx _ _ _ (by show 128 * (4 * (t.val / 32 % 4) + h.val) + d.val < 4096; omega)
  have hk : ∀ x, (iblk m c 1 t x : EReal) = ((iblk m c 1 t x : EReal).toReal : EReal) := fun x => by
    obtain ⟨r, h, d, rfl⟩ := exists_ix 8192 x
    rw [k_block]
    exact hx _ _ _ (by show 2048 + (128 * (4 * (t.val / 32 % 4) + h.val) + d.val) < 4096; omega)
  unfold outsAt
  rw [block_apply _ _ _ _ hq hk, z_block]
  unfold result
  refine congrArg (· * _) ?_
  have es : scoreAt (iblk m c 0 t) (iblk m c 1 t) h r = score (qkv m c) (batchOf t) (headOf t h) (rowOf t r) := by
    funext j
    unfold scoreAt score
    refine Finset.sum_congr rfl fun d _ => ?_
    rw [q_block, k_block]
  have ev : valueAt (iblk m c 2 t) h d = value (qkv m c) (batchOf t) (headOf t h) d := by
    funext j
    unfold valueAt value
    rw [v_block]
  have er : rowAt (grid0.coords t) r = (rowOf t r).val := by
    show 256 * (grid0.coords t 2).val + r.val = 256 * (t.val % 32) + r.val
    rw [(index_facts t).2.2.2.2.2]
  rw [es, ev, er]

theorem flushed_eq (t : Fin (cfg0 (F := Ideal)).N) :
    (dats m 0 c).flushed 4 t = (win0_4.blk t).view.read (Elt Ideal) (val m c) := by
  show ((cfg0 (F := Ideal)).win 4).cut (grid0.coords t) ((dats m 0 c).after 4 t) = _
  rw [after0_4]
  funext y
  obtain ⟨r, h, d, rfl⟩ := exists_ix 256 y
  have e := (index_facts t).2.2.2.2.1
  refine (out_apply m c hx t r h d).trans ((val_apply m c _ _ _ _).symm.trans ?_)
  refine congrArg (val m c) (funext fun a => Fin.ext ?_)
  match a with
  | 0 => show t.val / 128 = win0_4.index t 0 * 1 + 1 * 0; rw [e.1]; omega
  | 1 => show 256 * (t.val % 32) + r.val = win0_4.index t 1 * 256 + 1 * r.val; rw [e.2.1]; omega
  | 2 =>
    show 128 * (4 * (t.val / 32 % 4) + h.val) + d.val = win0_4.index t 2 * 512 + 1 * (128 * h.val + d.val)
    rw [e.2.2]; omega

omit hx in
/-- Every element is in some point's block. -/
theorem cover (i : S2x8192x2048.Idx) :
    ∃ t : Fin (cfg0 (F := Ideal)).N, ((cfg0 (F := Ideal)).win 4).flush t = true ∧ i ∈ (((cfg0 (F := Ideal)).win 4).blk t).view.set := by
  have h0 : (i 0).val < 2 := (i 0).isLt
  have h1 : (i 1).val < 8192 := (i 1).isLt
  have h2 : (i 2).val < 2048 := (i 2).isLt
  have ht : 128 * (i 0).val + 32 * ((i 2).val / 512) + (i 1).val / 256 < 256 := by omega
  refine ⟨⟨128 * (i 0).val + 32 * ((i 2).val / 512) + (i 1).val / 256, ht⟩, flush0_4 _, ?_⟩
  show i ∈ ((View.whole main_v0).slice (win0_4.rect ⟨_, ht⟩)).set
  rw [View.set_slice_whole, Rect.mem_set_unit]
  have e := (index_facts ⟨128 * (i 0).val + 32 * ((i 2).val / 512) + (i 1).val / 256, ht⟩).2.2.2.2.1
  have hs := size_facts ⟨128 * (i 0).val + 32 * ((i 2).val / 512) + (i 1).val / 256, ht⟩
  obtain ⟨e0, e1, e2⟩ := e
  dsimp only at e0 e1 e2
  intro a
  show win0_4.index ⟨_, ht⟩ a * win0_4.size a ≤ (i a : Nat) ∧ (i a : Nat) < win0_4.index ⟨_, ht⟩ a * win0_4.size a + win0_4.xsize (grid0.coords ⟨_, ht⟩) a
  rw [hs a]
  match a with
  | 0 =>
    show win0_4.index ⟨_, ht⟩ 0 * 1 ≤ (i 0).val ∧ (i 0).val < win0_4.index ⟨_, ht⟩ 0 * 1 + 1
    rw [e0]; omega
  | 1 =>
    show win0_4.index ⟨_, ht⟩ 1 * 256 ≤ (i 1).val ∧ (i 1).val < win0_4.index ⟨_, ht⟩ 1 * 256 + 256
    rw [e1]; omega
  | 2 =>
    show win0_4.index ⟨_, ht⟩ 2 * 512 ≤ (i 2).val ∧ (i 2).val < win0_4.index ⟨_, ht⟩ 2 * 512 + 512
    rw [e2]; omega

theorem final_eq : (dats m 0 c).arrAt 4 (cfg0 (F := Ideal)).N = val m c :=
  (dats m 0 c).arrAt_eq_of_cover 4 (val m c) (fun t _ => flushed_eq m c hx t) cover

omit hx in
/-- The kernel's run: the result, and the arguments unchanged. -/
theorem run (hx : ∀ c, RealQK (qkv m c)) (ρ : Dev nD → PrngReg) :
    θ_run defs (onTc (τ := τ) (main (F := Ideal))) ⟨m, fun _ => 0, ρ⟩ fun r => ∀ c : Dev nD,
      r.2.mem ((c.tc : Thread nD τ).loc main_v0) = val m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 4).trans (final_eq m c (hx c)),
    ((h.1 c).1 0).trans ((dats m 0 c).arrAt_in 0 rfl _), ((h.1 c).1 3).trans ((dats m 0 c).arrAt_in 3 rfl _)⟩)
    (run_main m ρ)

end Cert.KernelIdeal.Hand
-- ==== Proof.RefRead.lean ====
module

public import proofs.«01_k».proof.Proof.Spec
public import proofs.«01_k».proof.Proof.Gen.ReferenceIdeal.Read
public import Idealize.ShloMosaic.Lib.WordCmp

/-!
# The reference, read at an index

Every score is real, so the two log sigmoids, the sum of what follows a key, and the weights are real too, and the
reference's element is `result`.
-/

@[expose] public section

noncomputable section

namespace Cert.ReferenceIdeal.Hand

open Cert.ReferenceIdeal Cert.ReferenceIdeal.Gen Cert.ReferenceIdeal.Read
open Idealize.ShloMosaic Cert.Stick

/-- The softplus of a real, as the reference computes it. -/
theorem softplus_coe (w : ℝ) :
    Scalar.select (FloatOps.cmpf (F := Ideal) (φ := .f32) .une ((w : EReal) - 0) ((w : EReal) - 0)) ((w : EReal) + 0)
      (max (w : EReal) 0 + Ideal.log1p (Ideal.exp (-(max ((w : EReal) - 0) (-((w : EReal) - 0))))))
      = ((max w 0 + Real.log (1 + Real.exp (-|w|)) : ℝ) : EReal) := by
  have hc : FloatOps.cmpf (F := Ideal) (φ := .f32) .une ((w : EReal) - 0) ((w : EReal) - 0) = 0#1 := by
    show BitVec.ofBool (decide (((w : EReal) - 0) ≠ ((w : EReal) - 0))) = 0#1
    rw [decide_eq_false (fun h => h rfl)]
    rfl
  rw [hc]
  have hm : max ((w : EReal) - 0) (-((w : EReal) - 0)) = ((|w| : ℝ) : EReal) := by
    rw [sub_zero, ← EReal.coe_neg]
    exact (EReal.coe_strictMono.monotone.map_max).symm
  have h0 : max (w : EReal) 0 = ((max w 0 : ℝ) : EReal) := by
    rw [← EReal.coe_zero]
    exact (EReal.coe_strictMono.monotone.map_max).symm
  have hp : ¬ (1 + Real.exp (-|w|) ≤ 0) := by
    have := Real.exp_pos (-|w|)
    linarith
  have hl : Ideal.log1p (Ideal.exp (-((|w| : ℝ) : EReal))) = ((Real.log (1 + Real.exp (-|w|)) : ℝ) : EReal) := by
    rw [← EReal.coe_neg, Ideal.exp_coe]
    show Ideal.log (1 + _) = _
    rw [← EReal.coe_one, ← EReal.coe_add, Ideal.log_coe, if_neg hp]
  rw [hm, hl, h0, ← EReal.coe_add]
  rfl

/-- The softplus of one element, in the host's operations. -/
def hostSoftplus (w z : Ideal .f32) : Ideal .f32 :=
  Scalar.select (FloatOps.cmpf .une (FloatOps.subf w z) (FloatOps.subf w z)) (FloatOps.addf w z)
    (FloatOps.addf (FloatOps.maximumf w z)
      (FloatOps.hostUnary .log1p (FloatOps.hostUnary .exp (FloatOps.hostNegf (FloatOps.hostAbsf (FloatOps.subf w z))))))

theorem hostSoftplus_coe (w : ℝ) : hostSoftplus (w : EReal) (FloatOps.ofBits .f32 0x00000000#32)
    = ((max w 0 + Real.log (1 + Real.exp (-|w|)) : ℝ) : EReal) := by
  have e : (FloatOps.ofBits (F := Ideal) .f32 0x00000000#32) = (0 : EReal) := Ideal.ofBits_zero_f32
  rw [e]
  exact softplus_coe w

theorem neg_coe (w : ℝ) : FloatOps.hostNegf (F := Ideal) (φ := .f32) (w : EReal) = ((-w : ℝ) : EReal) := (EReal.coe_neg w).symm

theorem two_eq : (Ideal.ofBits .f32 0x40000000#32 : EReal) = ((2 : ℝ) : EReal) := by
  simp [Ideal.ofBits, Ideal.ieee, -EReal.coe_mul]; norm_num

section

variable (x : Qkv) (hx : RealQK x) (b : Fin 2) (h : Fin 16) (r : Fin 8192)

theorem q_apply (d : Fin 128) : val_main_v4 (F := Ideal) x (ix4 b r h d) = x (ix3 b r (colQ h d)) := by
  rw [val_main_v4_apply, val_main_v1_apply, val_main_v0_apply]
  refine congrArg x (funext fun a => Fin.ext ?_)
  have hb := b.isLt; have hr := r.isLt; have hh := h.isLt; have hd := d.isLt
  match a with
  | 0 => show (((b.val * 8192 + r.val) * 16 + h.val) * 128 + d.val) / 16777216 = b.val; omega
  | 1 => show (((b.val * 8192 + r.val) * 16 + h.val) * 128 + d.val) / 2048 % 8192 = r.val; omega
  | 2 => show (((b.val * 8192 + r.val) * 16 + h.val) * 128 + d.val) % 2048 = 128 * h.val + d.val; omega

theorem k_apply (d : Fin 128) : val_main_v5 (F := Ideal) x (ix4 b r h d) = x (ix3 b r (colK h d)) := by
  rw [val_main_v5_apply, val_main_v2_apply, val_main_v0_apply]
  refine congrArg x (funext fun a => Fin.ext ?_)
  have hb := b.isLt; have hr := r.isLt; have hh := h.isLt; have hd := d.isLt
  match a with
  | 0 => show (((b.val * 8192 + r.val) * 16 + h.val) * 128 + d.val) / 16777216 = b.val; omega
  | 1 => show (((b.val * 8192 + r.val) * 16 + h.val) * 128 + d.val) / 2048 % 8192 = r.val; omega
  | 2 => show 2048 + (((b.val * 8192 + r.val) * 16 + h.val) * 128 + d.val) % 2048 = 2048 + (128 * h.val + d.val); omega

theorem v_apply (d : Fin 128) : val_main_v6 (F := Ideal) x (ix4 b r h d) = x (ix3 b r (colV h d)) := by
  rw [val_main_v6_apply, val_main_v3_apply, val_main_v0_apply]
  refine congrArg x (funext fun a => Fin.ext ?_)
  have hb := b.isLt; have hr := r.isLt; have hh := h.isLt; have hd := d.isLt
  match a with
  | 0 => show (((b.val * 8192 + r.val) * 16 + h.val) * 128 + d.val) / 16777216 = b.val; omega
  | 1 => show (((b.val * 8192 + r.val) * 16 + h.val) * 128 + d.val) / 2048 % 8192 = r.val; omega
  | 2 => show 4096 + (((b.val * 8192 + r.val) * 16 + h.val) * 128 + d.val) % 2048 = 4096 + (128 * h.val + d.val); omega

theorem pos_val (c : Fin 8192) : pos c.val = c := Fin.ext (Nat.mod_eq_of_lt c.isLt)

include hx in
/-- The scores, on the natural scale. -/
theorem score_eq (c : Fin 8192) :
    val_main_v11 (F := Ideal) x (ix4 b h r c) = ((score x b h r c.val * Real.log 2 : ℝ) : EReal) := by
  have hdot : val_main_v7 (F := Ideal) x (ix4 b h r c) = (score x b h r c.val : EReal) := by
    rw [val_main_v7_apply]
    unfold score
    rw [coe_sum]
    refine Finset.sum_congr rfl fun d _ => ?_
    have e1 : lidx_main_v7 (ix4 b h r c) d = ix4 b r h d := by
      funext a; match a with | 0 => rfl | 1 => rfl | 2 => rfl | 3 => rfl
    have e2 : ridx_main_v7 (ix4 b h r c) d = ix4 b c h d := by
      funext a; match a with | 0 => rfl | 1 => rfl | 2 => rfl | 3 => rfl
    rw [e1, e2, q_apply, k_apply, hx b r (colQ h d) (by show 128 * h.val + d.val < 4096; omega),
      hx b c (colK h d) (by show 2048 + (128 * h.val + d.val) < 4096; omega), pos_val, ← EReal.coe_mul]
    rfl
  rw [val_main_v11_apply, hdot, val_main_v10_apply, val_main_v9_apply, val_main_v8_apply, val_main_cst_apply]
  show (score x b h r c.val : EReal) * Ideal.log (Ideal.ofBits .f32 0x40000000#32) = _
  rw [two_eq, Ideal.log_coe, if_neg (by norm_num), EReal.coe_mul]

/-- The mask: the key is before the query. -/
theorem mask_apply {α : Type} (i : S8192x8192.Idx) (u v : α) :
    Scalar.select (val_main_v18 (F := Ideal) i) u v = if (i 1).val < (i 0).val then u else v := by
  rw [val_main_v18_apply, val_main_v17_apply, val_main_v16_apply, val_main_v15_apply, val_main_v14_apply,
    val_main_v13_apply, val_main_v12_apply]
  have h0 : (i 0).val < 8192 := (i 0).isLt
  have h1 : (i 1).val < 8192 := (i 1).isLt
  show Scalar.select (IntOp.cmpi .slt (BitVec.ofNat 32 (i 1).val) (BitVec.ofNat 32 (i 0).val)) u v = _
  rw [WordCmp.cmpi_slt_ofNat (by omega) (by omega)]
  by_cases h : (i 1).val < (i 0).val <;> simp [Scalar.select, h]

include hx in
/-- The log sigmoid of minus the score. -/
theorem log_1m_eq (c : Fin 8192) :
    val_main_v20 (F := Ideal) x (ix4 b h r c) = ((-(soft (score x b h r c.val) * Real.log 2) : ℝ) : EReal) := by
  simp only [val_main_v20_apply, val_main_call0_v1_apply, val_main_call0_call0_v11_apply, val_main_call0_call0_v10_apply,
    val_main_call0_call0_v9_apply, val_main_call0_call0_v8_apply, val_main_call0_call0_v7_apply,
    val_main_call0_call0_v6_apply, val_main_call0_call0_v5_apply, val_main_call0_call0_v4_apply,
    val_main_call0_call0_v3_apply, val_main_call0_call0_v2_apply, val_main_call0_call0_v1_apply,
    val_main_call0_call0_v0_apply, val_main_call0_call0_cst_apply, val_main_call0_v0_apply, val_main_v19_apply,
    score_eq x hx b h r c, neg_coe, neg_neg]
  have e := hostSoftplus_coe (score x b h r c.val * Real.log 2)
  rw [soft_ln] at e
  exact (congrArg (FloatOps.hostNegf (F := Ideal) (φ := .f32)) e).trans (neg_coe _)

include hx in
/-- The log sigmoid of the score. -/
theorem log_sig_eq (c : Fin 8192) :
    val_main_v24 (F := Ideal) x (ix4 b h r c) = ((low (score x b h r c.val) * Real.log 2 : ℝ) : EReal) := by
  simp only [val_main_v24_apply, val_main_call3_v1_apply, val_main_call3_call0_v11_apply, val_main_call3_call0_v10_apply,
    val_main_call3_call0_v9_apply, val_main_call3_call0_v8_apply, val_main_call3_call0_v7_apply,
    val_main_call3_call0_v6_apply, val_main_call3_call0_v5_apply, val_main_call3_call0_v4_apply,
    val_main_call3_call0_v3_apply, val_main_call3_call0_v2_apply, val_main_call3_call0_v1_apply,
    val_main_call3_call0_v0_apply, val_main_call3_call0_cst_apply, val_main_call3_v0_apply,
    score_eq x hx b h r c, neg_coe]
  have e := hostSoftplus_coe (-(score x b h r c.val * Real.log 2))
  rw [← low_ln]
  exact (congrArg (FloatOps.hostNegf (F := Ideal) (φ := .f32)) e).trans (neg_coe _)

include hx in
/-- The masked log sigmoid of minus the score. -/
theorem masked_eq (c : Fin 8192) :
    val_main_v21 (F := Ideal) x (ix4 b h r c) = ((-(softs (score x b h r) r.val c.val * Real.log 2) : ℝ) : EReal) := by
  have e0 : (FloatOps.ofBits (F := Ideal) .f32 0x00000000#32) = (0 : EReal) := Ideal.ofBits_zero_f32
  rw [val_main_v21_apply, log_1m_eq x hx b h r c, val_main_call1_v1_apply, val_main_call1_v2_apply, val_main_call1_v0_apply,
    val_main_cst_0_apply, mask_apply, e0]
  unfold softs
  show (if c.val < r.val then _ else _) = _
  by_cases hc : c.val < r.val
  · rw [if_pos hc, if_pos hc]
  · rw [if_neg hc, if_neg hc, zero_mul, neg_zero, EReal.coe_zero]

include hx in
/-- The sum of what follows a key. -/
theorem tail_eq (c : Fin 8192) :
    val_main_v23 (F := Ideal) x (ix4 b h r c)
      = ((-((∑ j ∈ Finset.Ico (c.val + 1) 8192, softs (score x b h r) r.val j) * Real.log 2) : ℝ) : EReal) := by
  have e0 : (val_main_call2_v0 (F := Ideal) (Shape.Idx.first h_S_)) = (0 : EReal) := by
    rw [val_main_call2_v0_apply, val_main_call2_cst_apply]
    exact Ideal.ofBits_zero_f32
  have e : val_main_v22 (F := Ideal) x (ix4 b h r c)
      = ((∑ j ∈ Finset.Ico c.val 8192, -(softs (score x b h r) r.val j * Real.log 2) : ℝ) : EReal) := by
    unfold val_main_v22 Host.reduceWindowAdd
    rw [e0]
    exact cumsum_apply _ _ b h r (fun j => -(softs (score x b h r) r.val j * Real.log 2)) (fun c => masked_eq x hx b h r c) c
  rw [val_main_v23_apply, e, masked_eq x hx b h r c]
  show ((_ : ℝ) : EReal) - ((_ : ℝ) : EReal) = _
  rw [← EReal.coe_sub]
  exact congrArg (fun t : ℝ => (t : EReal)) (sum_after_one _ _ c.isLt)

include hx in
/-- The weights. -/
theorem weight_eq (c : Fin 8192) :
    val_main_v27 (F := Ideal) x (ix4 b h r c) = (weight (score x b h r) r.val 8192 c.val : EReal) := by
  have e0 : (FloatOps.ofBits (F := Ideal) .f32 0x00000000#32) = (0 : EReal) := Ideal.ofBits_zero_f32
  have e : val_main_v26 (F := Ideal) x (ix4 b h r c)
      = ((Real.rpow 2 (low (score x b h r c.val) - ∑ j ∈ Finset.Ico (c.val + 1) 8192, softs (score x b h r) r.val j) : ℝ) : EReal) := by
    rw [val_main_v26_apply, val_main_v25_apply, log_sig_eq x hx b h r c, tail_eq x hx b h r c]
    show Ideal.exp (((_ : ℝ) : EReal) + ((_ : ℝ) : EReal)) = _
    rw [← EReal.coe_add, Ideal.exp_coe]
    refine congrArg (fun t : ℝ => (t : EReal)) ?_
    rw [show ∀ t : ℝ, Real.rpow 2 t = Real.exp (Real.log 2 * t) from fun t => Real.rpow_def_of_pos (by norm_num) t]
    congr 1
    ring
  rw [val_main_v27_apply, e, val_main_call4_v1_apply, val_main_call4_v2_apply, val_main_call4_v0_apply, val_main_cst_1_apply,
    mask_apply, e0]
  unfold weight
  show (if c.val < r.val then _ else _) = _
  by_cases hc : c.val < r.val
  · rw [if_pos hc, if_pos hc]
  · rw [if_neg hc, if_neg hc, EReal.coe_zero]

include hx in
/-- The attention, before the gate. -/
theorem attend_eq (d : Fin 128) :
    val_main_v30 (F := Ideal) x (ix3 b r (colO h d)) = attend (score x b h r) (value x b h d) r.val 8192 0 := by
  have hb := b.isLt; have hr := r.isLt; have hh := h.isLt; have hd := d.isLt
  have ei : idx_main_v29 (idx_main_v30 (ix3 b r (colO h d))) = ix4 b h d r := by
    funext a
    apply Fin.ext
    match a with
    | 0 => show ((b.val * 8192 + r.val) * 2048 + (128 * h.val + d.val)) / 16777216 = b.val; omega
    | 1 => show ((b.val * 8192 + r.val) * 2048 + (128 * h.val + d.val)) / 128 % 16 = h.val; omega
    | 2 => show ((b.val * 8192 + r.val) * 2048 + (128 * h.val + d.val)) % 128 = d.val; omega
    | 3 => show ((b.val * 8192 + r.val) * 2048 + (128 * h.val + d.val)) / 2048 % 8192 = r.val; omega
  rw [val_main_v30_apply, val_main_v29_apply, ei, val_main_v28_apply]
  unfold attend
  rw [Nat.Ico_zero_eq_range, ← Fin.sum_univ_eq_sum_range
    (fun j => (weight (score x b h r) r.val 8192 j : EReal) * value x b h d j)]
  refine Finset.sum_congr rfl fun c _ => ?_
  have e1 : lidx_main_v28 (ix4 b h d r) c = ix4 b c h d := by
    funext a; match a with | 0 => rfl | 1 => rfl | 2 => rfl | 3 => rfl
  have e2 : ridx_main_v28 (ix4 b h d r) c = ix4 b h r c := by
    funext a; match a with | 0 => rfl | 1 => rfl | 2 => rfl | 3 => rfl
  rw [e1, e2, v_apply, weight_eq x hx, mul_comm]
  exact congrArg (fun t : Fin 8192 => (weight (score x b h r) r.val 8192 c.val : EReal) * x (ix3 b t (colV h d))) (pos_val c).symm

/-- The gate. -/
theorem silu_eq (z : Gate) (i : S2x8192x2048.Idx) :
    val_main_v31 (F := Ideal) z i = z i * Ideal.logistic (z i) := by
  have e1 : (FloatOps.ofBits (F := Ideal) .f32 0x3F800000#32) = (1 : EReal) := Ideal.ofBits_one_f32
  simp only [val_main_v31_apply, val_main_call5_v5_apply, val_main_call5_v4_apply, val_main_call5_cst_0_apply,
    val_main_call5_v3_apply, val_main_call5_v2_apply, val_main_call5_cst_apply, val_main_call5_v1_apply,
    val_main_call5_v0_apply, e1]
  rfl

include hx in
/-- An element of the reference. -/
theorem result_eq (z : Gate) (d : Fin 128) :
    val_main_v33 (F := Ideal) x z (ix3 b r (colO h d)) = result x z b r h d := by
  rw [val_main_v33_apply, val_main_v32_apply, attend_eq x hx, silu_eq]
  rfl

end

end Cert.ReferenceIdeal.Hand
-- ==== Proof.Value.lean ====
module

public import proofs.«01_k».proof.Defs
public import proofs.«01_k».proof.Proof.Array
public import proofs.«01_k».proof.Proof.RefRead
public import proofs.«01_k».proof.Proof.WordRun
public import proofs.«01_k».proof.Proof.Gen.Pre_finite_scores
public import Idealize.ShloMosaic.Lib.Quiescent

/-!
# The claims

The precondition says that the queries and the keys are real. Under it the kernel's result and the reference's are both
`result`.
-/

@[expose] public section

noncomputable section

namespace Cert.Proof

open Idealize.ShloMosaic Idealize.ShloMosaic.TcCoe Idealize.SL.Sem Cert.Stick

/-- An extended real whose absolute value is below infinity is real. -/
theorem real_of_abs_lt {x : EReal} (hx : max x (-x) < ⊤) : x = (x.toReal : EReal) := by
  refine (EReal.coe_toReal ?_ ?_).symm
  · rintro rfl
    exact absurd (lt_of_le_of_lt (le_max_left _ _) hx) (lt_irrefl _)
  · rintro rfl
    exact absurd (lt_of_le_of_lt (le_max_right _ _) hx) (by simp)

/-- The precondition's predicate, all ones. -/
theorem real_of_pre (x : Qkv) (z : Gate)
    (h : Cert.Pre_finite_scores.fn (F := Ideal) x z = fun _ => 1#1) : RealQK x := by
  intro b r j hj
  have e := congrFun h (ix3 b r ⟨j.val, hj⟩)
  have hi : (Ideal.ofBits .f32 0x7F800000#32 : EReal) = ⊤ := by simp [Ideal.ofBits, Ideal.ieee]
  have e' : BitVec.ofBool (decide (max (x (ix3 b r j)) (-(x (ix3 b r j))) < Ideal.ofBits .f32 0x7F800000#32)) = 1#1 := by
    rw [← e]
    unfold Cert.Pre_finite_scores.fn
    pointwise []
    rfl
  rw [hi] at e'
  by_cases hlt : max (x (ix3 b r j)) (-(x (ix3 b r j))) < ⊤
  · exact real_of_abs_lt hlt
  · rw [decide_eq_false hlt] at e'
    exact absurd e' (by decide)

theorem frame_kernel : Cert.quiescent_Kernel := fun m g _ => Cert.Kernel.Hand.frame m g

theorem frame_ideal : Cert.quiescent_KernelIdeal := fun m g _ => Cert.KernelIdeal.Hand.frame m g

theorem frame_ideal_pre : Cert.quiescent_KernelIdeal_pre_finite_scores := fun m g _ => Cert.KernelIdeal.Hand.frame m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_reference_pre : Cert.quiescent_ReferenceIdeal_pre_finite_scores := fun m g _ => frame_reference m g trivial

theorem preserves : Cert.preserves_Kernel_KernelIdeal :=
  ⟨IdealRules.named_const.statement Cert.KernelIdeal.κ "inv_ln2" .f32 0x3FB8AA3B#32 _ rfl,
    IdealRules.named_const.statement Cert.KernelIdeal.κ "dead" .f32 0x431EB24B#32 ⊤ rfl⟩

/-- The reference's result is `val`. -/
theorem reference_eq (m : (ℓ : Loc Cert.KernelIdeal.nD Cert.KernelIdeal.τ Cert.KernelIdeal.sig) → Buf (Elt Ideal) ℓ)
    (c : Dev Cert.KernelIdeal.nD) (hx : RealQK (Cert.KernelIdeal.Hand.qkv m c)) :
    Cert.ReferenceIdeal.Read.val_main_v33 (F := Ideal) (Cert.KernelIdeal.Hand.qkv m c) (Cert.KernelIdeal.Hand.gates m c)
      = Cert.KernelIdeal.Hand.val m c := by
  refine funext fun i : (⟨3, ![2, 8192, 2048]⟩ : Shape).Idx => ?_
  have h2 : (i 2).val < 2048 := (i 2).isLt
  obtain ⟨b, r, h, d, rfl⟩ : ∃ (b : Fin 2) (r : Fin 8192) (h : Fin 16) (d : Fin 128), i = ix3 b r (colO h d) := by
    refine ⟨i 0, i 1, ⟨(i 2).val / 128, by omega⟩, ⟨(i 2).val % 128, by omega⟩, funext fun a => ?_⟩
    match a with
    | 0 => rfl
    | 1 => rfl
    | 2 => exact Fin.ext (by show (i 2).val = 128 * ((i 2).val / 128) + (i 2).val % 128; omega)
  exact (Cert.ReferenceIdeal.Hand.result_eq _ hx b h r _ d).trans (Cert.KernelIdeal.Hand.val_apply m c b r h d).symm

theorem algebraic : Cert.algebraic_KernelIdeal_ReferenceIdeal_pre_finite_scores := by
  intro m g m' g' hpre harg
  have hx : ∀ c, RealQK (Cert.KernelIdeal.Hand.qkv m c) := fun c => real_of_pre _ _ (hpre c)
  refine ⟨fun c => Cert.KernelIdeal.Hand.val m c, Cert.KernelIdeal.Hand.run m hx g, ?_⟩
  refine (θ_run Cert.ReferenceIdeal.defs _ _).mono (fun r h c => ⟨(h c).1.trans ?_, (h c).2⟩)
    (Cert.ReferenceIdeal.Value.run m' g')
  refine (Cert.ReferenceIdeal.Read.val_main_v33_eq m' c).trans ?_
  rw [(harg c).1, (harg c).2]
  exact reference_eq m c (hx c)

end Cert.Proof
-- ==== Proof.Mix.lean ====
module

public import proofs.«01_k».proof.Proof.Spec

/-!
# The output projection and the gated embedding

What a layer adds to the residual stream, element by element.
-/

@[expose] public section

noncomputable section

namespace Cert.Mix

open Idealize.ShloMosaic

/-- A stream of 16384 rows (two batches of 8192). -/
abbrev Rows := (⟨2, ![16384, 2048]⟩ : Shape).Idx → EReal
/-- The embeddings of four layers. -/
abbrev Embeds := (⟨4, ![4, 2, 8192, 256]⟩ : Shape).Idx → EReal
/-- The output weights of the two layers of a kind. -/
abbrev OutW := (⟨3, ![2, 2048, 2048]⟩ : Shape).Idx → EReal
/-- The gate weights of four layers. -/
abbrev GateW := (⟨3, ![4, 2048, 2048]⟩ : Shape).Idx → EReal
/-- The embedding weights of four layers. -/
abbrev EmbedW := (⟨3, ![4, 256, 2048]⟩ : Shape).Idx → EReal
/-- A norm's gain. -/
abbrev Gain := (⟨1, ![2048]⟩ : Shape).Idx → EReal

/-- The number of columns, and the norm's small constant, as the programs write them. -/
abbrev width : EReal := Ideal.ofBits .f32 0x45000000#32
abbrev eps : EReal := Ideal.ofBits .f32 0x358637BD#32

section

variable (y x : Rows) (p : Embeds) (wo : OutW) (wg : GateW) (wp : EmbedW) (l : Fin 4) (j : Fin 2)

/-- The stream after the mixer's projection. -/
def mid (r : Fin 16384) (c : Fin 2048) : EReal := x (ix2 r c) + ∑ k : Fin 2048, y (ix2 r k) * wo (ix3 j k c)

/-- The projected embedding. -/
def embed (r : Fin 16384) (c : Fin 2048) : EReal :=
  ∑ k : Fin 256, p (ix4 l ⟨r.val / 8192, by omega⟩ ⟨r.val % 8192, by omega⟩ k) * wp (ix3 l k c)

/-- The stream after the gated embedding. -/
def mixed (r : Fin 16384) (c : Fin 2048) : EReal :=
  mid y x wo j r c + Ideal.logistic (∑ k : Fin 2048, mid y x wo j r k * wg (ix3 l k c)) * embed p wp l r c

end

/-- A row normalised: divided by the root of its mean square, times the gain. -/
def normed (f : Fin 2048 → EReal) (g : Gain) (c : Fin 2048) : EReal :=
  f c * Ideal.rsqrt (Ideal.div (∑ k : Fin 2048, f k * f k) width + eps) * g (ix1 c)

/-- A normalised row of the stream against a column of weights. -/
def projected (x : Rows) (g : Gain) (w : Fin 2048 → EReal) (r : Fin 16384) : EReal :=
  ∑ k : Fin 2048, normed (fun l => x (ix2 r l)) g k * w k

end Cert.Mix

end
-- ==== Proof.ProjectRun.lean ====
module

public import proofs.«01_k».proof.Proof.Gen.Kernel2Ideal.Skeleton
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.TableIdle
public import Idealize.ShloMosaic.Lib.Pipeline.ValueKit.Basic
public import Idealize.ShloMosaic.Lib.Ring
public import Idealize.ShloMosaic.Lib.VecWindow
public import Idealize.ShloMosaic.Lib.Tactic
public import Idealize.ShloMosaic.Lib.WordCmp

/-!
# The run of the projection

A row of the grid normalises its rows of the stream once, at its first point, into a scratch buffer. Every point then
multiplies them with a block of the weights; the first six points of a row leave the first result, the other two the
second.
-/

@[expose] public section

set_option maxRecDepth 16384

noncomputable section

namespace Cert.Kernel2Ideal.Hand

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-- The body's first condition: the first point of a row of the grid. -/
abbrev first (i : grid0.Coords) : Prop :=
  Scalar.cmpi .ne (Scalar.extui (Scalar.cmpi .eq (BitVec.ofNat 32 (i 1).val) 0#32)) 0#32 = 1#1

theorem load_x (M : Memref sig .tc .vmem S1024x2048 .f32) (f : M.view.ty.Contents (Elt F)) :
    View.readAt (Elt F) M.view (Rect.unit (s := S1024x2048) ![0, 0] S1024x2048.size inb_S1024x2048_S1024x2048_0_0).toLoadRect f
      = View.read (Elt F) M.view f := View.ld_unit_lit _ _ (by decide)

theorem load_g (M : Memref sig .tc .vmem S1x2048 .f32) (f : M.view.ty.Contents (Elt F)) :
    View.readAt (Elt F) M.view (Rect.unit (s := S1x2048) ![0, 0] S1x2048.size inb_S1x2048_S1x2048_0_0).toLoadRect f
      = View.read (Elt F) M.view f := View.ld_unit_lit _ _ (by decide)

theorem load_w (M : Memref sig .tc .vmem S1x2048x1024 .bf16) (f : M.view.ty.Contents (Elt F)) :
    View.readAt (Elt F) M.view (Rect.unit (s := S1x2048x1024) ![0, 0, 0] S1x2048x1024.size inb_S1x2048x1024_S1x2048x1024_0_0_0).toLoadRect f
      = View.read (Elt F) M.view f := View.ld_unit_lit _ _ (by decide)

theorem load_s (M : Memref sig .tc .vmem S1x1024 .f32) (f : M.view.ty.Contents (Elt F)) :
    View.readAt (Elt F) M.view (Rect.unit (s := S1x1024) ![0, 0] S1x1024.size inb_S1x1024_S1x1024_0_0).toLoadRect f
      = View.read (Elt F) M.view f := View.ld_unit_lit _ _ (by decide)

theorem load_n (M : Memref sig .tc .vmem S1024x2048 .bf16) (f : M.view.ty.Contents (Elt F)) :
    View.readAt (Elt F) M.view (Rect.unit (s := S1024x2048) ![0, 0] S1024x2048.size inb_S1024x2048_S1024x2048_0_0).toLoadRect f
      = View.read (Elt F) M.view f := View.ld_unit_lit _ _ (by decide)

theorem pay2_congr {n n' : Vec F S1024x2048 .bf16} {w w' : Vec F S1x2048x1024 .bf16} {s s' : Vec F S1x1024 .f32}
    (hn : n = n') (hw : w = w') (hs : s = s') : k0_pay2 n w s = k0_pay2 n' w' s' := by subst hn hw hs; rfl

theorem pay3_congr {n n' : Vec F S1024x2048 .bf16} {w w' : Vec F S1x2048x1024 .bf16} {s s' : Vec F S1x1024 .f32}
    (hn : n = n') (hw : w = w') (hs : s = s') : k0_pay3 n w s = k0_pay3 n' w' s' := by subst hn hw hs; rfl

section

variable (c : Dev nD) (i : grid0.Coords)
  (M2 : Memref sig .tc .vmem S1024x2048 .f32) (h2 : M2.IsWhole) (M3 : Memref sig .tc .vmem S1x2048 .f32) (h3 : M3.IsWhole)
  (M4 : Memref sig .tc .vmem S1x2048x1024 .bf16) (h4 : M4.IsWhole) (M5 : Memref sig .tc .vmem S1x1024 .f32) (h5 : M5.IsWhole)
  (M6 : Memref sig .tc .vmem S1024x1024 .bf16) (h6 : M6.IsWhole) (M7 : Memref sig .tc .vmem S1024x1024 .f32) (h7 : M7.IsWhole)
  (M8 : Memref sig .tc .vmem S1024x2048 .bf16) (h8 : M8.IsWhole)
  (x : Vec F S1024x2048 .f32) (g : Vec F S1x2048 .f32) (w : Vec F S1x2048x1024 .bf16) (s : Vec F S1x1024 .f32)
  (p : Vec F S1024x1024 .bf16) (q : Vec F S1024x1024 .f32) (n : Vec F S1024x2048 .bf16)

/-- The first point of a row: the scratch takes the normalised rows, the first result its block. -/
theorem body_first (K : PUnit → sProp 𝕄) (c1 : first i) (c2 : k0_cond2 i = 1#1) (c3 : ¬ k0_cond3 i = 1#1) :
    iprop(owns (c : Thread nD τ) M2 fullShare x ∗ owns (c : Thread nD τ) M3 fullShare g
        ∗ owns (c : Thread nD τ) M4 fullShare w ∗ owns (c : Thread nD τ) M5 fullShare s
        ∗ owns (c : Thread nD τ) M6 fullShare p ∗ owns (c : Thread nD τ) M7 fullShare q
        ∗ owns (c : Thread nD τ) M8 fullShare n
        ∗ (owns (c : Thread nD τ) M2 fullShare x -∗ owns (c : Thread nD τ) M3 fullShare g
          -∗ owns (c : Thread nD τ) M4 fullShare w -∗ owns (c : Thread nD τ) M5 fullShare s
          -∗ owns (c : Thread nD τ) M6 fullShare (k0_pay2 (k0_pay1 x g) w s) -∗ owns (c : Thread nD τ) M7 fullShare q
          -∗ owns (c : Thread nD τ) M8 fullShare (k0_pay1 x g) -∗ K ⟨⟩))
      ⊢ wp frame (wpE (defs₀ (F := F)) Variants.none c none) Set.univ
          (cc0_norm_proj i M2 h2 M3 h3 M4 h4 M5 h5 M6 h6 M7 h7 M8 h8) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf2; subst hf3; subst hf4; subst hf5; subst hf6; subst hf7; subst hf8
  sl_exec (disch := first | sl_exact c1 | sl_exact c2 | sl_exact c3)
  sl_step
  have e9 : body_first.sl.v9 c M2 M3 M8 f2 f3
      = k0_pay1 (View.read (Elt F) M2.view f2) (View.read (Elt F) M3.view f3) :=
    (View.readCov_unit_lit M8.view _ _ (by decide)).trans (congrArg₂ k0_pay1 (load_x _ _) (load_g _ _))
  iapply Hk $$ [H2] [H3] [H4] [H5] [H6] [H7] [H8]
  · iexists f2; isplitr [H2]; · ipureintro; rfl
    · iexact H2
  · iexists f3; isplitr [H3]; · ipureintro; rfl
    · iexact H3
  · iexists f4; isplitr [H4]; · ipureintro; rfl
    · iexact H4
  · iexists f5; isplitr [H5]; · ipureintro; rfl
    · iexact H5
  · iexists _; isplitr; swap; · iexact H6
    ipureintro
    exact (View.read_writes_full M6.view _ _ _ _).trans (pay2_congr e9 (load_w _ _) (load_s _ _))
  · iexists f7; isplitr [H7]; · ipureintro; rfl
    · iexact H7
  · iexists _; isplitr; swap; · iexact H8
    ipureintro
    exact (View.read_writes_full M8.view _ _ _ _).trans (congrArg₂ k0_pay1 (load_x _ _) (load_g _ _))

/-- The other points of the first result: its block, from the rows the scratch holds. -/
theorem body_left (K : PUnit → sProp 𝕄) (c1 : ¬ first i) (c2 : k0_cond2 i = 1#1) (c3 : ¬ k0_cond3 i = 1#1) :
    iprop(owns (c : Thread nD τ) M2 fullShare x ∗ owns (c : Thread nD τ) M3 fullShare g
        ∗ owns (c : Thread nD τ) M4 fullShare w ∗ owns (c : Thread nD τ) M5 fullShare s
        ∗ owns (c : Thread nD τ) M6 fullShare p ∗ owns (c : Thread nD τ) M7 fullShare q
        ∗ owns (c : Thread nD τ) M8 fullShare n
        ∗ (owns (c : Thread nD τ) M2 fullShare x -∗ owns (c : Thread nD τ) M3 fullShare g
          -∗ owns (c : Thread nD τ) M4 fullShare w -∗ owns (c : Thread nD τ) M5 fullShare s
          -∗ owns (c : Thread nD τ) M6 fullShare (k0_pay2 n w s) -∗ owns (c : Thread nD τ) M7 fullShare q
          -∗ owns (c : Thread nD τ) M8 fullShare n -∗ K ⟨⟩))
      ⊢ wp frame (wpE (defs₀ (F := F)) Variants.none c none) Set.univ
          (cc0_norm_proj i M2 h2 M3 h3 M4 h4 M5 h5 M6 h6 M7 h7 M8 h8) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf2; subst hf3; subst hf4; subst hf5; subst hf6; subst hf7; subst hf8
  sl_exec (disch := first | sl_exact c1 | sl_exact c2 | sl_exact c3)
  sl_step
  iapply Hk $$ [H2] [H3] [H4] [H5] [H6] [H7] [H8]
  · iexists f2; isplitr [H2]; · ipureintro; rfl
    · iexact H2
  · iexists f3; isplitr [H3]; · ipureintro; rfl
    · iexact H3
  · iexists f4; isplitr [H4]; · ipureintro; rfl
    · iexact H4
  · iexists f5; isplitr [H5]; · ipureintro; rfl
    · iexact H5
  · iexists _; isplitr; swap; · iexact H6
    ipureintro
    exact (View.read_writes_full M6.view _ _ _ _).trans (pay2_congr (load_n _ _) (load_w _ _) (load_s _ _))
  · iexists f7; isplitr [H7]; · ipureintro; rfl
    · iexact H7
  · iexists f8; isplitr [H8]; · ipureintro; rfl
    · iexact H8

/-- The points of the second result: its block, from the rows the scratch holds. -/
theorem body_right (K : PUnit → sProp 𝕄) (c1 : ¬ first i) (c2 : ¬ k0_cond2 i = 1#1) (c3 : k0_cond3 i = 1#1) :
    iprop(owns (c : Thread nD τ) M2 fullShare x ∗ owns (c : Thread nD τ) M3 fullShare g
        ∗ owns (c : Thread nD τ) M4 fullShare w ∗ owns (c : Thread nD τ) M5 fullShare s
        ∗ owns (c : Thread nD τ) M6 fullShare p ∗ owns (c : Thread nD τ) M7 fullShare q
        ∗ owns (c : Thread nD τ) M8 fullShare n
        ∗ (owns (c : Thread nD τ) M2 fullShare x -∗ owns (c : Thread nD τ) M3 fullShare g
          -∗ owns (c : Thread nD τ) M4 fullShare w -∗ owns (c : Thread nD τ) M5 fullShare s
          -∗ owns (c : Thread nD τ) M6 fullShare p -∗ owns (c : Thread nD τ) M7 fullShare (k0_pay3 n w s)
          -∗ owns (c : Thread nD τ) M8 fullShare n -∗ K ⟨⟩))
      ⊢ wp frame (wpE (defs₀ (F := F)) Variants.none c none) Set.univ
          (cc0_norm_proj i M2 h2 M3 h3 M4 h4 M5 h5 M6 h6 M7 h7 M8 h8) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf2; subst hf3; subst hf4; subst hf5; subst hf6; subst hf7; subst hf8
  sl_exec (disch := first | sl_exact c1 | sl_exact c2 | sl_exact c3)
  sl_step
  iapply Hk $$ [H2] [H3] [H4] [H5] [H6] [H7] [H8]
  · iexists f2; isplitr [H2]; · ipureintro; rfl
    · iexact H2
  · iexists f3; isplitr [H3]; · ipureintro; rfl
    · iexact H3
  · iexists f4; isplitr [H4]; · ipureintro; rfl
    · iexact H4
  · iexists f5; isplitr [H5]; · ipureintro; rfl
    · iexact H5
  · iexists f6; isplitr [H6]; · ipureintro; rfl
    · iexact H6
  · iexists _; isplitr; swap; · iexact H7
    ipureintro
    exact (View.read_writes_full M7.view _ _ _ _).trans (pay3_congr (load_n _ _) (load_w _ _) (load_s _ _))
  · iexists f8; isplitr [H8]; · ipureintro; rfl
    · iexact H8

end

/-! ## The schedule -/

theorem points : cfg0.N = 128 := rfl

theorem first_iff : ∀ t : Fin cfg0.N, first (grid0.coords t) ↔ t.val % 8 = 0 :=
  (by decide +kernel : ∀ t : Fin grid0.N, first (grid0.coords t) ↔ t.val % 8 = 0)
theorem left_iff : ∀ t : Fin cfg0.N, k0_cond2 (grid0.coords t) = 1#1 ↔ t.val % 8 < 6 :=
  (by decide +kernel : ∀ t : Fin grid0.N, k0_cond2 (grid0.coords t) = 1#1 ↔ t.val % 8 < 6)
theorem right_iff : ∀ t : Fin cfg0.N, k0_cond3 (grid0.coords t) = 1#1 ↔ 6 ≤ t.val % 8 :=
  (by decide +kernel : ∀ t : Fin grid0.N, k0_cond3 (grid0.coords t) = 1#1 ↔ 6 ≤ t.val % 8)
theorem idle_left : ∀ t : Fin cfg0.N, cfg0.idle 4 (cfg0.grid.coords t) = decide (6 ≤ t.val % 8) :=
  (by decide +kernel : ∀ t : Fin grid0.N, idle0 4 (grid0.coords t) = decide (6 ≤ t.val % 8))
theorem idle_right : ∀ t : Fin cfg0.N, cfg0.idle 5 (cfg0.grid.coords t) = decide (t.val % 8 < 6) :=
  (by decide +kernel : ∀ t : Fin grid0.N, idle0 5 (grid0.coords t) = decide (t.val % 8 < 6))
theorem flush_left : ∀ t : Fin cfg0.N, (cfg0.win 4).flush t = decide (t.val % 8 ≠ 5 ∧ t.val % 8 ≠ 6) :=
  (by decide +kernel : ∀ t : Fin grid0.N, win0_4.flush t = decide (t.val % 8 ≠ 5 ∧ t.val % 8 ≠ 6))
theorem flush_right : ∀ t : Fin cfg0.N, (cfg0.win 5).flush t = decide (6 ≤ t.val % 8) :=
  (by decide +kernel : ∀ t : Fin grid0.N, win0_5.flush t = decide (6 ≤ t.val % 8))

/-- The first result's buffer holds nothing of the body's before the first six points of a row. -/
theorem fresh_left (n : ℕ) (hn : n ≤ cfg0.N) : cfg0.fresh 4 n = decide (n % 8 < 6) :=
  cfg0.fresh_tab 4 (fun n => decide (n % 8 < 6)) rfl (fun t => by
    rw [flush_left, idle_left, ← Bool.decide_and, ← Bool.decide_or]
    exact decide_eq_decide.mpr (by omega)) n hn

/-- The first point of `t`'s row of the grid. -/
def row (t : Fin cfg0.N) : Fin cfg0.N := ⟨8 * (t.val / 8), by have := t.isLt; omega⟩

/-- The last point of `t`'s row up to `t` that stores into the first result. -/
def stored (t : Fin cfg0.N) : Fin cfg0.N :=
  ⟨8 * (t.val / 8) + min (t.val % 8) 5, by have := t.isLt; have := points; omega⟩

/-! ## The pipeline's data -/

variable (m : (ℓ : Loc nD τ sig) → Buf (Elt F) ℓ) (ρ : Dev nD → PrngReg)

/-- The arrays as the kernel finds them. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
theorem host_run (𝒱 : Variants) : Pipeline.HMain (Ix := Unit) (Name := ℕ) (U := UR sig nD τ) (Lvl := ℕ) cfgs 0 defs₀ 𝒱 m
    (main (F := F)) (V m) :=
  Pipeline.hmain_prefix cfgs 0 defs₀ 𝒱 m main hostOps0 hostOps0_sub host_fresh main_chain

theorem V_of_kept (c : Dev nD) (b : Ref sig .tc) (h : ∀ op ∈ (hostOps0 : List (HloOp τ sig (Elt F))),
    Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  V_of_kept m c _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  V_of_kept m c _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  V_of_kept m c _ (List.forall_iff_forall_mem.mp (by
    simp only [hostOps0, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The normalised rows the scratch holds after point `t`. -/
def normAt (c : Dev nD) (t : Fin cfg0.N) : Vec F S1024x2048 .bf16 := k0_pay1 (iblk m c 0 (row t)) (iblk m c 1 (row t))

/-- The first result's block stored at point `t`. -/
def leftAt (c : Dev nD) (t : Fin cfg0.N) : Vec F S1024x1024 .bf16 :=
  k0_pay2 (normAt m c t) (iblk m c 2 t) (iblk m c 3 t)

/-- The second result's block stored at point `t`. -/
def rightAt (c : Dev nD) (t : Fin cfg0.N) : Vec F S1024x1024 .f32 :=
  k0_pay3 (normAt m c t) (iblk m c 2 t) (iblk m c 3 t)

/-- The scratch as the body holds it. -/
abbrev scratch : Memref sig .tc .vmem S1024x2048 .bf16 := Memref.whole cc0_scratch0

/-- What is held before point `t` beside the windows: the scratch at the rows the point before left. -/
def Phi (c : Dev nD) (t : Fin (cfg0.N + 1)) : sProp 𝕄 :=
  if h : t.val = 0 then Pipeline.ΦA spec0 c
  else iprop(owns (c : Thread nD τ) scratch fullShare (normAt m c ⟨t.val - 1, by omega⟩) ∗ (∃ r, prngReg c r))

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftAt m c (stored t)
    | ⟨5, _⟩ => rightAt m c t
  Φ t := Phi m c t
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = leftAt m c (stored t) := by
  dsimp only [dats]
theorem after_5 (c : Dev nD) (t : Fin cfg0.N) : (dats m 0 c).after 5 t = rightAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At the last two points of a row the first result's buffer still holds the block stored before. -/
theorem before_4 (c : Dev nD) (t : Fin cfg0.N) (ht : 6 ≤ t.val % 8) (d) :
    (dats m 0 c).before 4 t d = leftAt m c (stored t) := by
  have hs : ∀ (u : Fin cfg0.N) (_ : u.val ≠ 0), 6 ≤ u.val % 8 → stored u = stored ⟨u.val - 1, by omega⟩ := fun u h0 h6 =>
    Fin.ext (by simp only [stored]; omega)
  rw [(dats m 0 c).before_out_traj 4 rfl (fun _ _ => rfl) (fun u h0 hi _ => by
    rw [idle_left, decide_eq_true_eq] at hi
    rw [after_4, after_4, hs u h0 hi]) t.val t rfl d, fresh_left t.val (Nat.le_of_lt t.isLt),
    decide_eq_false (by omega), if_neg Bool.false_ne_true, after_4, hs t (by omega) ht]

theorem PhiA_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

/-- The scratch at any contents. -/
theorem Phi_any (c : Dev nD) (t : Fin (cfg0.N + 1)) : Phi (F := F) m c t ⊢ Pipeline.ΦA spec0 c := by
  unfold Phi
  split
  · exact .rfl
  · rw [PhiA_eq]
    iintro ⟨HS, Hg⟩
    isplitl [HS]
    · iexists _; iexact HS
    iexact Hg

theorem Phi_pos (c : Dev nD) (t : Fin cfg0.N) (ht : t.val ≠ 0) : Phi (F := F) m c t.castSucc
    = iprop(owns (c : Thread nD τ) scratch fullShare (normAt m c ⟨t.val - 1, by omega⟩) ∗ (∃ r, prngReg c r)) := by
  unfold Phi; rw [dif_neg (by exact ht)]; rfl

theorem Phi_next (c : Dev nD) (t : Fin cfg0.N) : Phi (F := F) m c t.succ
    = iprop(owns (c : Thread nD τ) scratch fullShare (normAt m c t) ∗ (∃ r, prngReg c r)) := by
  unfold Phi; rw [dif_neg (by simp)]; rfl

theorem norm_row (c : Dev nD) (t : Fin cfg0.N) (ht : t.val % 8 ≠ 0) :
    normAt (F := F) m c ⟨t.val - 1, by omega⟩ = normAt m c t := by
  unfold normAt
  rw [show row ⟨t.val - 1, by omega⟩ = row t from Fin.ext (by simp only [row]; omega)]

theorem defs₀_row (t : Fin cfg0.N) : defs₀ (F := F) .tc cfg0.body (cfg0.bodyArgs t (cfg0.slots t)) = bodyAt0 t := by
  unfold defs₀; rw [Defs.onTc_tc]

/-- The pieces of the obligation at a point of a row. -/
theorem leaves_left_live (c : Dev nD) (t : Fin cfg0.N) (ht : t.val % 8 < 6) : (dats (F := F) m 0 c).leavesExact 4 t
    = owns (c : Thread nD τ) ((cfg0.win 4).stage (cfg0.slots t 4)) fullShare (leftAt m c (stored t)) := by
  unfold Dat.leavesExact; rw [idle_left, decide_eq_false (by omega), ← after_4]
theorem leaves_left_idle (c : Dev nD) (t : Fin cfg0.N) (ht : 6 ≤ t.val % 8) :
    owns (c : Thread nD τ) ((cfg0.win 4).stage (cfg0.slots t 4)) fullShare (leftAt m c (stored t))
      ⊢ ((dats (F := F) m 0 c).leavesExact 4 t : sProp 𝕄) := by
  unfold Dat.leavesExact; rw [idle_left, decide_eq_true ht, flush_left]
  by_cases h7 : t.val % 8 ≠ 5 ∧ t.val % 8 ≠ 6
  · rw [decide_eq_true h7, ← after_4]
  · rw [decide_eq_false h7]
    iintro H
    iexists (fun _ => Classical.arbitrary _)
    rw [before_4 m c t ht]
    iexact H
theorem leaves_right_live (c : Dev nD) (t : Fin cfg0.N) (ht : 6 ≤ t.val % 8) : (dats (F := F) m 0 c).leavesExact 5 t
    = owns (c : Thread nD τ) ((cfg0.win 5).stage (cfg0.slots t 5)) fullShare (rightAt m c t) := by
  unfold Dat.leavesExact; rw [idle_right, decide_eq_false (by omega), ← after_5]
theorem leaves_right_idle (c : Dev nD) (t : Fin cfg0.N) (ht : t.val % 8 < 6) : (dats (F := F) m 0 c).leavesExact 5 t
    = iprop(∃ d, owns (c : Thread nD τ) ((cfg0.win 5).stage (cfg0.slots t 5)) fullShare ((dats m 0 c).before 5 t d)) :=
  (dats m 0 c).leavesExact_idle 5 t (by rw [idle_right, decide_eq_true ht])
    (by rw [flush_right, decide_eq_false (by omega)])

/-- What the body leaves at point `t`, the inputs' blocks written out. -/
abbrev leftover (c : Dev nD) (t : Fin cfg0.N) : sProp 𝕄 :=
  iprop((dats (F := F) m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ (dats m 0 c).leavesExact 4 t ∗ (dats m 0 c).leavesExact 5 t)

theorem sound_body (c : Dev nD) (t : Fin cfg0.N) :
    iprop((dats (F := F) m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d))
      ∗ (∃ d, owns (c : Thread nD τ) ((cfg0.win 5).stage (cfg0.slots t 5)) fullShare ((dats m 0 c).before 5 t d)))
      ⊢ wp frame (wpE (defs₀ (F := F)) Variants.none c none) Set.univ (bodyAt0 t) fun _ => leftover m c t := by
  unfold leftover
  rw [show (dats (F := F) m 0 c).Φ t.succ = Phi m c t.succ from rfl, Phi_next,
    show (dats m 0 c).owesAt () t.succ = (dats m 0 c).owesAt () t.castSucc from rfl, after_0, after_1, after_2, after_3,
    show (dats (F := F) m 0 c).Φ t.castSucc = Phi m c t.castSucc from rfl]
  by_cases h0 : t.val % 8 = 0
  · have hr : row t = t := Fin.ext (by simp only [row]; omega)
    have hst : stored t = t := Fin.ext (by simp only [stored]; omega)
    have hn : normAt m c t = k0_pay1 (iblk m c 0 t) (iblk m c 1 t) := by unfold normAt; rw [hr]
    refine (sep_mono (Phi_any m c _) .rfl).trans ?_
    rw [PhiA_eq, leaves_left_live m c t (by omega), leaves_right_idle m c t (by omega), hst, leftAt, hn]
    iintro ⟨⟨⟨%x8, HS⟩, Hg⟩, Ho, ⟨%d0, H0⟩, ⟨%d1, H1⟩, ⟨%d2, H2⟩, ⟨%d3, H3⟩, ⟨%d4, H4⟩, ⟨%d5, H5⟩⟩
    rw [before_0, before_1, before_2, before_3]
    iapply (body_first c (grid0.coords t) _ _ _ _ _ _ _ _ _ _ _ _ _ _ (iblk m c 0 t) (iblk m c 1 t) (iblk m c 2 t)
      (iblk m c 3 t) _ _ x8 _ ((first_iff t).mpr h0) ((left_iff t).mpr (by omega))
      (fun h => by have := (right_iff t).mp h; omega))
    isplitl [H0]; · iexact H0
    isplitl [H1]; · iexact H1
    isplitl [H2]; · iexact H2
    isplitl [H3]; · iexact H3
    isplitl [H4]; · iexact H4
    isplitl [H5]; · iexact H5
    isplitl [HS]; · iexact HS
    iintro H0 H1 H2 H3 H4 H5 HS
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · rw [Phi_pos m c t (by omega), norm_row m c t h0]
    by_cases h6 : t.val % 8 < 6
    · have hst : stored t = t := Fin.ext (by simp only [stored]; omega)
      rw [leaves_left_live m c t h6, leaves_right_idle m c t h6, hst, leftAt]
      iintro ⟨⟨HS, Hg⟩, Ho, ⟨%d0, H0⟩, ⟨%d1, H1⟩, ⟨%d2, H2⟩, ⟨%d3, H3⟩, ⟨%d4, H4⟩, ⟨%d5, H5⟩⟩
      rw [before_0, before_1, before_2, before_3]
      iapply (body_left c (grid0.coords t) _ _ _ _ _ _ _ _ _ _ _ _ _ _ (iblk m c 0 t) (iblk m c 1 t) (iblk m c 2 t)
        (iblk m c 3 t) _ _ (normAt m c t) _ (fun h => h0 ((first_iff t).mp h)) ((left_iff t).mpr h6)
        (fun h => by have := (right_iff t).mp h; omega))
      isplitl [H0]; · iexact H0
      isplitl [H1]; · iexact H1
      isplitl [H2]; · iexact H2
      isplitl [H3]; · iexact H3
      isplitl [H4]; · iexact H4
      isplitl [H5]; · iexact H5
      isplitl [HS]; · iexact HS
      iintro H0 H1 H2 H3 H4 H5 HS
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · have h6' : 6 ≤ t.val % 8 := by omega
      rw [leaves_right_live m c t h6', rightAt]
      iintro ⟨⟨HS, Hg⟩, Ho, ⟨%d0, H0⟩, ⟨%d1, H1⟩, ⟨%d2, H2⟩, ⟨%d3, H3⟩, ⟨%d4, H4⟩, ⟨%d5, H5⟩⟩
      rw [before_0, before_1, before_2, before_3, before_4 m c t h6']
      iapply (body_right c (grid0.coords t) _ _ _ _ _ _ _ _ _ _ _ _ _ _ (iblk m c 0 t) (iblk m c 1 t) (iblk m c 2 t)
        (iblk m c 3 t) _ _ (normAt m c t) _ (fun h => h0 ((first_iff t).mp h)) (fun h => h6 ((left_iff t).mp h))
        ((right_iff t).mpr h6'))
      isplitl [H0]; · iexact H0
      isplitl [H1]; · iexact H1
      isplitl [H2]; · iexact H2
      isplitl [H3]; · iexact H3
      isplitl [H4]; · iexact H4
      isplitl [H5]; · iexact H5
      isplitl [HS]; · iexact HS
      iintro H0 H1 H2 H3 H4 H5 HS
      ihave H4 := (leaves_left_idle m c t h6') $$ H4
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ (dats (F := F) m 0 c).Φ 0 := .rfl

theorem phi_out (c : Dev nD) : (dats (F := F) m 0 c).Φ (Fin.last cfg0.N) ⊢ Pipeline.ΦA spec0 c := by
  rw [show (dats (F := F) m 0 c).Φ (Fin.last cfg0.N) = Phi m c (Fin.last cfg0.N) from rfl]
  exact Phi_any m c _

set_option backward.isDefEq.respectTransparency.types false in
/-- From any memory with zero counters every execution ends, with every array at what the pipeline's data say and every
counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := host_run m Variants.none) (hA := A_eq m) (hin := phi_in m)
    (hout := phi_out m)

/-- What `run_main` leaves has the arguments unchanged. -/
theorem kept (c : Dev nD) (r) (h : Pipeline.FramePost cfgs (dats m) 0 (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).1 0).trans (((dats m 0 c).arrAt_in 0 rfl _).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The arguments end unchanged, the counters at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => kept m c r h.1, h.2⟩) (run_main m ρ)

end Cert.Kernel2Ideal.Hand
-- ==== Proof.Project.lean ====
module

public import proofs.«01_k».proof.Defs
public import proofs.«01_k».proof.Proof.Mix
public import proofs.«01_k».proof.Proof.ProjectRun
public import proofs.«01_k».proof.Proof.WordProjectRun
public import Idealize.ShloMosaic.Lib.StableHlo.RunRead
public import Idealize.ShloMosaic.Lib.Quiescent
public import proofs.«01_k».proof.Proof.Gen.Reference2Ideal.Run
public import proofs.«01_k».proof.Proof.Gen.Reference2Ideal.Read

/-!
# The projection in front of the full attention

Both results hold `projected`: the first its columns below 6144, the queries' among them scaled, the second the rest.
-/

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem Cert.Mix

/-- The projection's weights. -/
abbrev InW := (⟨3, ![2, 2048, 8192]⟩ : Shape).Idx → EReal

/-- The queries' scale. -/
abbrev scale : EReal := Ideal.ofBits .f32 0x3E0293EE#32

/-- The first result: queries (scaled), keys and values. -/
def left (x : Rows) (g : Gain) (w : InW) (i : (⟨2, ![16384, 6144]⟩ : Shape).Idx) : EReal :=
  projected x g (fun k => w (ix3 0 k ⟨(i 1).val, by have h : (i 1).val < 6144 := (i 1).isLt; omega⟩)) (i 0)
    * if (i 1).val < 2048 then scale else 1

/-- The second result: the gates. -/
def right (x : Rows) (g : Gain) (w : InW) (i : (⟨2, ![16384, 2048]⟩ : Shape).Idx) : EReal :=
  projected x g (fun k => w (ix3 0 k ⟨6144 + (i 1).val, by have h : (i 1).val < 2048 := (i 1).isLt; omega⟩)) (i 0)

theorem left_at (x : Rows) (g : Gain) (w : InW) (r : Fin 16384) (j : Fin 6144) :
    left x g w (ix2 r j) = projected x g (fun k => w (ix3 0 k ⟨j.val, by omega⟩)) r * if j.val < 2048 then scale else 1 :=
  rfl

theorem right_at (x : Rows) (g : Gain) (w : InW) (r : Fin 16384) (j : Fin 2048) :
    right x g w (ix2 r j) = projected x g (fun k => w (ix3 0 k ⟨6144 + j.val, by omega⟩)) r := rfl

variable (m : (ℓ : Loc nD τ sig) → Buf (Elt Ideal) ℓ) (c : Dev nD)

abbrev xs : Rows := m ((c.tc : Thread nD τ).loc main_arg0)
abbrev gs : Gain := m ((c.tc : Thread nD τ).loc main_arg1)
abbrev ws : InW := m ((c.tc : Thread nD τ).loc main_arg2)

theorem V_g : (V m c main_v4 : (⟨2, ![1, 2048]⟩ : Shape).Idx → EReal) = shapeCast S1x2048 (gs m c) shapeCasts_S2048_S1x2048 := by
  show StableHlo.after hostOps0 (fun b => m (c, b)) (Proc.devRef .tc main_v4) = _
  after_reads_simp
  rfl

theorem V_w : (V m c main_v3 : InW) = ws m c := by
  show StableHlo.after hostOps0 (fun b => m (c, b)) (Proc.devRef .tc main_v3) = _
  after_reads_simp
  rfl

/-- The factors of the columns. -/
def factors : (⟨1, ![8192]⟩ : Shape).Idx → EReal :=
  concatenate S8192 0 [⟨S2048, fun _ => scale⟩, ⟨S6144, fun _ => Ideal.ofBits .f32 0x3F800000#32⟩] concatenates_S2048_S6144_S8192_d0

theorem factors_apply (j : Fin 8192) : factors (ix1 j) = if j.val < 2048 then scale else 1 := by
  have h := j.isLt
  unfold factors
  split
  next hj =>
    exact concatenate_apply_piece _ _ _ _ 0 (by simp) S2048 (fun _ => scale) (by rfl) (by rfl) 0 (by rfl)
      (ix1 ⟨j.val, hj⟩) (fun b hb => by match b with | 0 => exact absurd rfl hb) (by exact Nat.zero_add _)
  next hj =>
    refine Eq.trans (concatenate_apply_piece _ _ _ _ 1 (by simp) S6144
      (fun _ => Ideal.ofBits .f32 0x3F800000#32) (by rfl) (by rfl) 2048 (by rfl) (ix1 ⟨j.val - 2048, by omega⟩)
      (fun b hb => by match b with | 0 => exact absurd rfl hb) ?_) Ideal.ofBits_one_f32
    show 2048 + (j.val - 2048) = j.val
    omega

theorem V_s : (V m c main_v5 : (⟨2, ![1, 8192]⟩ : Shape).Idx → EReal) = shapeCast S1x8192 factors shapeCasts_S8192_S1x8192 := by
  show StableHlo.after hostOps0 (fun b => m (c, b)) (Proc.devRef .tc main_v5) = _
  after_reads_simp
  rfl

/-- Where the blocks of a point lie. -/
theorem index_facts : ∀ t : Fin grid0.N,
    (win0_0.index t 0 = t.val / 8 ∧ win0_0.index t 1 = 0)
    ∧ (win0_1.index t 0 = 0 ∧ win0_1.index t 1 = 0)
    ∧ (win0_2.index t 0 = 0 ∧ win0_2.index t 1 = 0 ∧ win0_2.index t 2 = t.val % 8)
    ∧ (win0_3.index t 0 = 0 ∧ win0_3.index t 1 = t.val % 8)
    ∧ (win0_4.index t 0 = t.val / 8 ∧ win0_4.index t 1 = min (t.val % 8) 5)
    ∧ (win0_5.index t 0 = t.val / 8 ∧ win0_5.index t 1 = t.val % 8 - 6) := by
  decide +kernel

theorem size_left : ∀ t : Fin grid0.N, ∀ a, win0_4.xsize (grid0.coords t) a = S1024x1024.size a := by decide +kernel
theorem size_right : ∀ t : Fin grid0.N, ∀ a, win0_5.xsize (grid0.coords t) a = S1024x1024.size a := by decide +kernel

theorem point_lt (t : Fin cfg0.N) : t.val < 128 := t.isLt

/-- The row and the column of a point's element. -/
abbrev rowOf (t : Fin cfg0.N) (r : Fin 1024) : Fin 16384 := ⟨1024 * (t.val / 8) + r.val, by have := point_lt t; omega⟩
abbrev colOf (t : Fin cfg0.N) (j : Fin 1024) : Fin 8192 := ⟨1024 * (t.val % 8) + j.val, by omega⟩

theorem x_block (t : Fin cfg0.N) (r : Fin 1024) (k : Fin 2048) :
    iblk m c 0 t (ix2 r k) = xs m c (ix2 (rowOf t r) k) := by
  have e := (index_facts t).1
  unfold iblk
  refine (congrFun (V_main_arg0 m c) _).trans (congrArg (xs m c) (funext fun a => Fin.ext ?_))
  match a with
  | 0 => show win0_0.index t 0 * 1024 + 1 * r.val = 1024 * (t.val / 8) + r.val; rw [e.1]; omega
  | 1 => show win0_0.index t 1 * 2048 + 1 * k.val = k.val; rw [e.2]; omega

theorem g_block (t : Fin cfg0.N) (j : Fin 2048) : iblk m c 1 t (ix2 0 j) = gs m c (ix1 j) := by
  have e := (index_facts t).2.1
  unfold iblk
  refine (congrFun (V_g m c) _).trans (shapeCast_apply (gs m c) _ _ _ ?_)
  rw [Shape.rowMajor_val_one, Shape.rowMajor_val_two]
  show j.val = (win0_1.index t 0 * 1 + 1 * 0) * 2048 + (win0_1.index t 1 * 2048 + 1 * j.val)
  rw [e.1, e.2]
  omega

theorem w_block (t : Fin cfg0.N) (k : Fin 2048) (j : Fin 1024) :
    iblk m c 2 t (ix3 0 k j) = ws m c (ix3 0 k (colOf t j)) := by
  have e := (index_facts t).2.2.1
  unfold iblk
  refine (congrFun (V_w m c) _).trans (congrArg (ws m c) (funext fun a => Fin.ext ?_))
  match a with
  | 0 => show win0_2.index t 0 * 1 + 1 * 0 = 0; rw [e.1]
  | 1 => show win0_2.index t 1 * 2048 + 1 * k.val = k.val; rw [e.2.1]; omega
  | 2 => show win0_2.index t 2 * 1024 + 1 * j.val = 1024 * (t.val % 8) + j.val; rw [e.2.2]; omega

theorem s_block (t : Fin cfg0.N) (j : Fin 1024) :
    iblk m c 3 t (ix2 0 j) = if (colOf t j).val < 2048 then scale else 1 := by
  have e := (index_facts t).2.2.2.1
  unfold iblk
  refine (congrFun (V_s m c) _).trans ((shapeCast_apply factors _ _ (ix1 (colOf t j)) ?_).trans (factors_apply _))
  rw [Shape.rowMajor_val_one, Shape.rowMajor_val_two]
  show 1024 * (t.val % 8) + j.val = (win0_3.index t 0 * 1 + 1 * 0) * 8192 + (win0_3.index t 1 * 1024 + 1 * j.val)
  rw [e.1, e.2]
  omega

theorem pay1_apply (x : Vec Ideal S1024x2048 .f32) (g : Vec Ideal S1x2048 .f32) (h : Gain)
    (hg : ∀ j, g (ix2 0 j) = h (ix1 j)) (r : Fin 1024) (k : Fin 2048) :
    k0_pay1 x g (ix2 r k) = normed (fun l => x (ix2 r l)) h k := by
  pointwise [k0_pay1]
  rw [hg]
  unfold normed
  rfl

theorem pay2_apply (n : Vec Ideal S1024x2048 .bf16) (w : Vec Ideal S1x2048x1024 .bf16) (s : Vec Ideal S1x1024 .f32)
    (r j : Fin 1024) : k0_pay2 n w s (ix2 r j) = (∑ k : Fin 2048, n (ix2 r k) * w (ix3 0 k j)) * s (ix2 0 j) := by
  pointwise [k0_pay2]

theorem pay3_apply (n : Vec Ideal S1024x2048 .bf16) (w : Vec Ideal S1x2048x1024 .bf16) (s : Vec Ideal S1x1024 .f32)
    (r j : Fin 1024) : k0_pay3 n w s (ix2 r j) = (∑ k : Fin 2048, n (ix2 r k) * w (ix3 0 k j)) * s (ix2 0 j) := by
  pointwise [k0_pay3]

/-- The scratch's rows are the stream's, normalised. -/
theorem normAt_apply (t : Fin cfg0.N) (r : Fin 1024) (k : Fin 2048) :
    normAt m c t (ix2 r k) = normed (fun l => xs m c (ix2 (rowOf t r) l)) (gs m c) k := by
  have hr : rowOf (row t) r = rowOf t r := Fin.ext (by simp only [row]; omega)
  unfold normAt
  rw [pay1_apply _ _ (gs m c) (g_block m c _)]
  congr 1
  funext l
  rw [x_block, hr]

theorem left_apply (t : Fin cfg0.N) (h : t.val % 8 < 6) (r j : Fin 1024) :
    leftAt m c t (ix2 r j) = left (xs m c) (gs m c) (ws m c)
      (ix2 (rowOf t r) ⟨1024 * (t.val % 8) + j.val, by omega⟩) := by
  unfold leftAt
  rw [pay2_apply, s_block, left_at]
  exact congrArg (fun a : EReal => a * _) (Finset.sum_congr rfl fun k _ => by rw [normAt_apply, w_block])

theorem right_apply (t : Fin cfg0.N) (h : 6 ≤ t.val % 8) (r j : Fin 1024) :
    rightAt m c t (ix2 r j) = right (xs m c) (gs m c) (ws m c)
      (ix2 (rowOf t r) ⟨1024 * (t.val % 8 - 6) + j.val, by omega⟩) := by
  have hj : ¬ (colOf t j).val < 2048 := by show ¬ 1024 * (t.val % 8) + j.val < 2048; omega
  unfold rightAt
  rw [pay3_apply, s_block, if_neg hj, mul_one, right_at]
  have hc : colOf t j = ⟨6144 + (1024 * (t.val % 8 - 6) + j.val), by omega⟩ :=
    Fin.ext (by show 1024 * (t.val % 8) + j.val = 6144 + (1024 * (t.val % 8 - 6) + j.val); omega)
  exact Finset.sum_congr rfl fun k _ => by rw [normAt_apply, w_block, hc]

theorem flushed_left (t : Fin cfg0.N) :
    (dats m 0 c).flushed 4 t = (win0_4.blk t).view.read (Elt Ideal) (left (xs m c) (gs m c) (ws m c)) := by
  show (cfg0.win 4).cut (grid0.coords t) ((dats m 0 c).after 4 t) = _
  rw [after_4]
  refine funext fun y : (⟨2, ![1024, 1024]⟩ : Shape).Idx => ?_
  obtain ⟨r, j, rfl⟩ : ∃ (r j : Fin 1024), y = ix2 r j := ⟨y 0, y 1, funext fun a => by match a with | 0 => rfl | 1 => rfl⟩
  have e := (index_facts t).2.2.2.2.1
  have hs : (stored t).val % 8 = min (t.val % 8) 5 ∧ (stored t).val / 8 = t.val / 8 := by simp only [stored]; omega
  refine (left_apply m c (stored t) (by omega) r j).trans (congrArg (left _ _ _) (funext fun a => Fin.ext ?_))
  match a with
  | 0 => show 1024 * ((stored t).val / 8) + r.val = win0_4.index t 0 * 1024 + 1 * r.val; rw [e.1, hs.2]; omega
  | 1 => show 1024 * ((stored t).val % 8) + j.val = win0_4.index t 1 * 1024 + 1 * j.val; rw [e.2, hs.1]; omega

theorem flushed_right (t : Fin cfg0.N) (h : (cfg0.win 5).flush t = true) :
    (dats m 0 c).flushed 5 t = (win0_5.blk t).view.read (Elt Ideal) (right (xs m c) (gs m c) (ws m c)) := by
  rw [flush_right, decide_eq_true_eq] at h
  show (cfg0.win 5).cut (grid0.coords t) ((dats m 0 c).after 5 t) = _
  rw [after_5]
  refine funext fun y : (⟨2, ![1024, 1024]⟩ : Shape).Idx => ?_
  obtain ⟨r, j, rfl⟩ : ∃ (r j : Fin 1024), y = ix2 r j := ⟨y 0, y 1, funext fun a => by match a with | 0 => rfl | 1 => rfl⟩
  have e := (index_facts t).2.2.2.2.2
  refine (right_apply m c t h r j).trans (congrArg (right _ _ _) (funext fun a => Fin.ext ?_))
  match a with
  | 0 => show 1024 * (t.val / 8) + r.val = win0_5.index t 0 * 1024 + 1 * r.val; rw [e.1]; omega
  | 1 => show 1024 * (t.val % 8 - 6) + j.val = win0_5.index t 1 * 1024 + 1 * j.val; rw [e.2]; omega

/-- Every element of the first result is in some point's block. -/
theorem cover_left (i : S16384x6144.Idx) :
    ∃ t : Fin cfg0.N, (cfg0.win 4).flush t = true ∧ i ∈ ((cfg0.win 4).blk t).view.set := by
  have h0 : (i 0).val < 16384 := (i 0).isLt
  have h1 : (i 1).val < 6144 := (i 1).isLt
  obtain ⟨n, hn, hq, hm, hf⟩ : ∃ n, n < 128 ∧ n / 8 = (i 0).val / 1024 ∧ min (n % 8) 5 = (i 1).val / 1024
      ∧ n % 8 ≠ 5 ∧ n % 8 ≠ 6 :=
    if hb : (i 1).val < 5120 then ⟨8 * ((i 0).val / 1024) + (i 1).val / 1024, by omega, by omega, by omega, by omega, by omega⟩
    else ⟨8 * ((i 0).val / 1024) + 7, by omega, by omega, by omega, by omega, by omega⟩
  refine ⟨⟨n, hn⟩, by rw [flush_left]; exact decide_eq_true hf, ?_⟩
  show i ∈ ((View.whole main_v6_0).slice (win0_4.rect ⟨n, hn⟩)).set
  rw [View.set_slice_whole, Rect.mem_set_unit]
  obtain ⟨e0, e1⟩ := (index_facts ⟨n, hn⟩).2.2.2.2.1
  have hs := size_left ⟨n, hn⟩
  dsimp only at e0 e1
  intro a
  show win0_4.index ⟨n, hn⟩ a * win0_4.size a ≤ (i a : Nat) ∧ (i a : Nat) < win0_4.index ⟨n, hn⟩ a * win0_4.size a + win0_4.xsize (grid0.coords ⟨n, hn⟩) a
  rw [hs a]
  match a with
  | 0 =>
    show win0_4.index ⟨n, hn⟩ 0 * 1024 ≤ (i 0).val ∧ (i 0).val < win0_4.index ⟨n, hn⟩ 0 * 1024 + 1024
    rw [e0]; omega
  | 1 =>
    show win0_4.index ⟨n, hn⟩ 1 * 1024 ≤ (i 1).val ∧ (i 1).val < win0_4.index ⟨n, hn⟩ 1 * 1024 + 1024
    rw [e1]; omega

/-- Every element of the second result is in some point's block. -/
theorem cover_right (i : S16384x2048.Idx) :
    ∃ t : Fin cfg0.N, (cfg0.win 5).flush t = true ∧ i ∈ ((cfg0.win 5).blk t).view.set := by
  have h0 : (i 0).val < 16384 := (i 0).isLt
  have h1 : (i 1).val < 2048 := (i 1).isLt
  obtain ⟨n, hn, hq, hm, hf⟩ : ∃ n, n < 128 ∧ n / 8 = (i 0).val / 1024 ∧ n % 8 - 6 = (i 1).val / 1024 ∧ 6 ≤ n % 8 :=
    ⟨8 * ((i 0).val / 1024) + (6 + (i 1).val / 1024), by omega, by omega, by omega, by omega⟩
  refine ⟨⟨n, hn⟩, by rw [flush_right]; exact decide_eq_true hf, ?_⟩
  show i ∈ ((View.whole main_v6_1).slice (win0_5.rect ⟨n, hn⟩)).set
  rw [View.set_slice_whole, Rect.mem_set_unit]
  obtain ⟨e0, e1⟩ := (index_facts ⟨n, hn⟩).2.2.2.2.2
  have hs := size_right ⟨n, hn⟩
  dsimp only at e0 e1
  intro a
  show win0_5.index ⟨n, hn⟩ a * win0_5.size a ≤ (i a : Nat) ∧ (i a : Nat) < win0_5.index ⟨n, hn⟩ a * win0_5.size a + win0_5.xsize (grid0.coords ⟨n, hn⟩) a
  rw [hs a]
  match a with
  | 0 =>
    show win0_5.index ⟨n, hn⟩ 0 * 1024 ≤ (i 0).val ∧ (i 0).val < win0_5.index ⟨n, hn⟩ 0 * 1024 + 1024
    rw [e0]; omega
  | 1 =>
    show win0_5.index ⟨n, hn⟩ 1 * 1024 ≤ (i 1).val ∧ (i 1).val < win0_5.index ⟨n, hn⟩ 1 * 1024 + 1024
    rw [e1]; omega

theorem final_left : (dats m 0 c).arrAt 4 cfg0.N = left (xs m c) (gs m c) (ws m c) :=
  (dats m 0 c).arrAt_eq_of_cover 4 _ (fun t _ => flushed_left m c t) cover_left

theorem final_right : (dats m 0 c).arrAt 5 cfg0.N = right (xs m c) (gs m c) (ws m c) :=
  (dats m 0 c).arrAt_eq_of_cover 5 _ (fun t h => flushed_right m c t h) cover_right

end Cert.Kernel2Ideal.Hand

namespace Cert.Reference2Ideal.Hand

open Cert.Reference2Ideal Cert.Reference2Ideal.Gen Cert.Reference2Ideal.Read
open Idealize.ShloMosaic Cert.Mix
open Cert.Kernel2Ideal.Hand (InW left right scale)

variable (x : Rows) (g : Gain) (w : InW)

theorem w_apply (k : Fin 2048) (j : Fin 8192) : val_main_v14 (F := Ideal) w (ix2 k j) = w (ix3 0 k j) := by
  rw [val_main_v14_apply, val_main_v13_apply]
  refine congrArg w (funext fun a => Fin.ext ?_)
  have hk := k.isLt; have hj := j.isLt
  match a with
  | 0 => rfl
  | 1 => show (k.val * 8192 + j.val) / 8192 % 2048 = k.val; omega
  | 2 => show (k.val * 8192 + j.val) % 8192 = j.val; omega

theorem sum_apply (r : Fin 16384) :
    val_main_v1 (F := Ideal) x (ix1 r) = ∑ k : Fin 2048, x (ix2 r k) * x (ix2 r k) := by
  have e0 : (FloatOps.ofBits (F := Ideal) .f32 0x00000000#32) = (0 : EReal) := Ideal.ofBits_zero_f32
  rw [val_main_v1_apply, val_main_cst_apply, e0, zero_add]
  refine Finset.sum_congr rfl fun k _ => ?_
  have e1 : idx_main_v1 (ix1 r) k = ix2 r k := by funext a; match a with | 0 => rfl | 1 => rfl
  rw [e1, val_main_v0_apply]
  rfl

theorem normed_apply (r : Fin 16384) (k : Fin 2048) :
    val_main_v12 (F := Ideal) x g (ix2 r k) = normed (fun l => x (ix2 r l)) g k := by
  have e1 : idx_main_v2 (idx_main_v8 (ix2 r k)) = ix1 r := by
    funext a; match a with | 0 => exact Fin.ext (by dsimp only [idx_main_v2, idx_main_v8, ix1, ix2])
  have e2 : idx_main_v10 (idx_main_v11 (ix2 r k)) = ix1 k := by
    funext a; match a with | 0 => exact Fin.ext (by dsimp only [idx_main_v10, idx_main_v11, ix1, ix2])
  simp only [val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, e1, e2, sum_apply]
  unfold normed
  rfl

theorem projected_apply (r : Fin 16384) (j : Fin 8192) :
    val_main_v15 (F := Ideal) x g w (ix2 r j) = projected x g (fun k => w (ix3 0 k j)) r := by
  rw [val_main_v15_apply]
  refine Finset.sum_congr rfl fun k _ => ?_
  have e1 : lidx_main_v15 (ix2 r j) k = ix2 r k := by funext a; match a with | 0 => rfl | 1 => rfl
  have e2 : ridx_main_v15 (ix2 r j) k = ix2 k j := by funext a; match a with | 0 => rfl | 1 => rfl
  rw [e1, e2, w_apply, normed_apply]

theorem right_eq : val_main_v19 (F := Ideal) x g w = right x g w := by
  refine funext fun i : (⟨2, ![16384, 2048]⟩ : Shape).Idx => ?_
  obtain ⟨r, j, rfl⟩ : ∃ (r : Fin 16384) (j : Fin 2048), i = ix2 r j :=
    ⟨i 0, i 1, funext fun a => by match a with | 0 => rfl | 1 => rfl⟩
  rw [val_main_v19_apply, show idx_main_v19 (ix2 r j) = ix2 r ⟨6144 + j.val, by omega⟩ from by
    funext a; match a with | 0 => rfl | 1 => rfl, projected_apply, Cert.Kernel2Ideal.Hand.right_at]

theorem left_eq : val_main_v23 (F := Ideal) x g w = left x g w := by
  refine funext fun i : (⟨2, ![16384, 6144]⟩ : Shape).Idx => ?_
  obtain ⟨r, j, rfl⟩ : ∃ (r : Fin 16384) (j : Fin 6144), i = ix2 r j :=
    ⟨i 0, i 1, funext fun a => by match a with | 0 => rfl | 1 => rfl⟩
  have hj := j.isLt
  rw [val_main_v23_apply, Cert.Kernel2Ideal.Hand.left_at]
  show val_main_v22 (F := Ideal) x g w (ix2 r j) = _
  unfold val_main_v22
  by_cases hq : j.val < 2048
  · rw [if_pos hq]
    refine Eq.trans (concatenate_apply_piece _ _ _ _ 0 (by simp) S16384x2048 (val_main_v21 (F := Ideal) x g w)
      (by rfl) (by rfl) 0 (by rfl) (ix2 r ⟨j.val, hq⟩) (fun b hb => ?_) (by exact Nat.zero_add _)) ?_
    · match b with | 0 => rfl | 1 => exact absurd rfl hb
    · rw [val_main_v21_apply, val_main_v20_apply, val_main_cst_2_apply, val_main_v16_apply,
        show idx_main_v16 (ix2 r ⟨j.val, hq⟩) = ix2 r ⟨j.val, by omega⟩ from by
          funext a; match a with | 0 => rfl | 1 => rfl, projected_apply]
      rfl
  · rw [if_neg hq, mul_one]
    by_cases hk : j.val < 4096
    · refine Eq.trans (concatenate_apply_piece _ _ _ _ 1 (by simp) S16384x2048
        (val_main_v17 (F := Ideal) x g w) (by rfl) (by rfl) 2048 (by rfl) (ix2 r ⟨j.val - 2048, by omega⟩) (fun b hb => ?_) ?_) ?_
      · match b with | 0 => rfl | 1 => exact absurd rfl hb
      · show 2048 + (j.val - 2048) = j.val; omega
      · rw [val_main_v17_apply, show idx_main_v17 (ix2 r ⟨j.val - 2048, by omega⟩) = ix2 r ⟨j.val, by omega⟩ from by
          funext a; match a with | 0 => rfl | 1 => exact Fin.ext (by show 2048 + (j.val - 2048) = j.val; omega),
          projected_apply]
    · refine Eq.trans (concatenate_apply_piece _ _ _ _ 2 (by simp) S16384x2048
        (val_main_v18 (F := Ideal) x g w) (by rfl) (by rfl) 4096 (by rfl) (ix2 r ⟨j.val - 4096, by omega⟩) (fun b hb => ?_) ?_) ?_
      · match b with | 0 => rfl | 1 => exact absurd rfl hb
      · show 4096 + (j.val - 4096) = j.val; omega
      · rw [val_main_v18_apply, show idx_main_v18 (ix2 r ⟨j.val - 4096, by omega⟩) = ix2 r ⟨j.val, by omega⟩ from by
          funext a; match a with | 0 => rfl | 1 => exact Fin.ext (by show 4096 + (j.val - 4096) = j.val; omega),
          projected_apply]

end Cert.Reference2Ideal.Hand

namespace Cert.Proof

open Idealize.ShloMosaic Idealize.ShloMosaic.TcCoe Idealize.SL.Sem

theorem frame_kernel2 : Cert.quiescent_Kernel2 := fun m g _ => Cert.Kernel2.Hand.frame m g

theorem frame_ideal2 : Cert.quiescent_Kernel2Ideal := fun m g _ => Cert.Kernel2Ideal.Hand.frame m g

theorem frame_reference2 : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

theorem algebraic2 : Cert.algebraic_Kernel2Ideal_Reference2Ideal := by
  intro m g m' g' _ harg
  refine ⟨fun c => Cert.Kernel2Ideal.Hand.left (Cert.Kernel2Ideal.Hand.xs m c) (Cert.Kernel2Ideal.Hand.gs m c)
      (Cert.Kernel2Ideal.Hand.ws m c),
    fun c => Cert.Kernel2Ideal.Hand.right (Cert.Kernel2Ideal.Hand.xs m c) (Cert.Kernel2Ideal.Hand.gs m c)
      (Cert.Kernel2Ideal.Hand.ws m c), ?_, ?_⟩
  · refine (θ_run Cert.Kernel2Ideal.defs _ _).mono (fun r h c => ?_) (Cert.Kernel2Ideal.Hand.run_main m g)
    exact ⟨((h.1 c).1 4).trans (Cert.Kernel2Ideal.Hand.final_left m c),
      ((h.1 c).1 5).trans (Cert.Kernel2Ideal.Hand.final_right m c), Cert.Kernel2Ideal.Hand.kept m c r h.1⟩
  · refine (θ_run Cert.Reference2Ideal.defs _ _).mono (fun r h c => ?_) (Cert.Reference2Ideal.Value.run m' g')
    obtain ⟨h0, h1, h2⟩ := harg c
    refine ⟨(h c).1.trans ((Cert.Reference2Ideal.Read.val_main_v23_eq _ _ _).trans ?_),
      (h c).2.1.trans ((Cert.Reference2Ideal.Read.val_main_v19_eq _ _ _).trans ?_), (h c).2.2⟩
    · rw [h0, h1, h2]
      exact Cert.Reference2Ideal.Hand.left_eq _ _ _
    · rw [h0, h1, h2]
      exact Cert.Reference2Ideal.Hand.right_eq _ _ _

end Cert.Proof

end
-- ==== Proof.Project5.lean ====
module

public import proofs.«01_k».proof.Defs
public import proofs.«01_k».proof.Proof.Mix
public import Idealize.ShloMosaic.Lib.StableHlo.RunRead
public import Idealize.ShloMosaic.Lib.Pipeline.ValueKit.Acc
public import Idealize.ShloMosaic.Lib.Quiescent
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read

/-!
# The projection in front of the gated mixing

A band of rows is normalised at its first point and kept for the five points after it; every point's block is
`projected` at its rows and columns.
-/

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem Cert.Mix

/-- The projection's weights. -/
abbrev InW := (⟨3, ![1, 2048, 6144]⟩ : Shape).Idx → EReal

/-- The result. -/
def whole (x : Rows) (g : Gain) (w : InW) (i : (⟨2, ![16384, 6144]⟩ : Shape).Idx) : EReal :=
  projected x g (fun k => w (ix3 0 k (i 1))) (i 0)

variable (m : (ℓ : Loc nD τ sig) → Buf (Elt Ideal) ℓ) (c : Dev nD)

abbrev xs : Rows := m ((c.tc : Thread nD τ).loc main_arg0)
abbrev gs : Gain := m ((c.tc : Thread nD τ).loc main_arg1)
abbrev ws : InW := m ((c.tc : Thread nD τ).loc main_arg2)

theorem V_g : (V m c main_v2 : (⟨2, ![1, 2048]⟩ : Shape).Idx → EReal) = shapeCast S1x2048 (gs m c) shapeCasts_S2048_S1x2048 := by
  show StableHlo.after hostOps0 (fun b => m (c, b)) (Proc.devRef .tc main_v2) = _
  after_reads_simp
  rfl

theorem V_w : (V m c main_v0 : InW) = ws m c := by
  show StableHlo.after hostOps0 (fun b => m (c, b)) (Proc.devRef .tc main_v0) = _
  after_reads_simp
  rfl

theorem V_s : (V m c main_v3 : (⟨2, ![1, 6144]⟩ : Shape).Idx → EReal)
    = shapeCast S1x6144 (fun _ : S6144.Idx => Ideal.ofBits .f32 0x3F800000#32) shapeCasts_S6144_S1x6144 := by
  show StableHlo.after hostOps0 (fun b => m (c, b)) (Proc.devRef .tc main_v3) = _
  after_reads_simp
  rfl

/-- Where the blocks of a point lie. -/
theorem index_facts : ∀ t : Fin grid0.N,
    (win0_0.index t 0 = t.val / 6 ∧ win0_0.index t 1 = 0)
    ∧ (win0_1.index t 0 = 0 ∧ win0_1.index t 1 = 0)
    ∧ (win0_2.index t 0 = 0 ∧ win0_2.index t 1 = 0 ∧ win0_2.index t 2 = t.val % 6)
    ∧ (win0_3.index t 0 = 0 ∧ win0_3.index t 1 = t.val % 6)
    ∧ (win0_4.index t 0 = t.val / 6 ∧ win0_4.index t 1 = t.val % 6) := by
  decide +kernel

theorem flush_facts : ∀ t : Fin grid0.N, win0_4.flush t = true := by decide +kernel

theorem point_lt (t : Fin cfg0.N) : t.val < 96 := t.isLt

/-- The row and the column of a point's element. -/
abbrev rowOf (t : Fin cfg0.N) (r : Fin 1024) : Fin 16384 := ⟨1024 * (t.val / 6) + r.val, by have := point_lt t; omega⟩
abbrev colOf (t : Fin cfg0.N) (j : Fin 1024) : Fin 6144 := ⟨1024 * (t.val % 6) + j.val, by omega⟩

theorem x_block (t : Fin cfg0.N) (r : Fin 1024) (k : Fin 2048) :
    iblk m c 0 t (ix2 r k) = xs m c (ix2 (rowOf t r) k) := by
  have e := (index_facts t).1
  unfold iblk
  refine (congrFun (V_main_arg0 m c) _).trans (congrArg (xs m c) (funext fun a => Fin.ext ?_))
  match a with
  | 0 => show win0_0.index t 0 * 1024 + 1 * r.val = 1024 * (t.val / 6) + r.val; rw [e.1]; omega
  | 1 => show win0_0.index t 1 * 2048 + 1 * k.val = k.val; rw [e.2]; omega

theorem g_block (t : Fin cfg0.N) (j : Fin 2048) : iblk m c 1 t (ix2 0 j) = gs m c (ix1 j) := by
  have e := (index_facts t).2.1
  unfold iblk
  refine (congrFun (V_g m c) _).trans (shapeCast_apply (gs m c) _ _ _ ?_)
  rw [Shape.rowMajor_val_one, Shape.rowMajor_val_two]
  show j.val = (win0_1.index t 0 * 1 + 1 * 0) * 2048 + (win0_1.index t 1 * 2048 + 1 * j.val)
  rw [e.1, e.2]
  omega

theorem w_block (t : Fin cfg0.N) (k : Fin 2048) (j : Fin 1024) :
    iblk m c 2 t (ix3 0 k j) = ws m c (ix3 0 k (colOf t j)) := by
  have e := (index_facts t).2.2.1
  unfold iblk
  refine (congrFun (V_w m c) _).trans (congrArg (ws m c) (funext fun a => Fin.ext ?_))
  match a with
  | 0 => show win0_2.index t 0 * 1 + 1 * 0 = 0; rw [e.1]
  | 1 => show win0_2.index t 1 * 2048 + 1 * k.val = k.val; rw [e.2.1]; omega
  | 2 => show win0_2.index t 2 * 1024 + 1 * j.val = 1024 * (t.val % 6) + j.val; rw [e.2.2]; omega

theorem s_block (t : Fin cfg0.N) (j : Fin 1024) : iblk m c 3 t (ix2 0 j) = (1 : EReal) := by
  have e := (index_facts t).2.2.2.1
  unfold iblk
  refine (congrFun (V_s m c) _).trans ((shapeCast_apply _ _ _ (ix1 (colOf t j)) ?_).trans Ideal.ofBits_one_f32)
  rw [Shape.rowMajor_val_one, Shape.rowMajor_val_two]
  show 1024 * (t.val % 6) + j.val = (win0_3.index t 0 * 1 + 1 * 0) * 6144 + (win0_3.index t 1 * 1024 + 1 * j.val)
  rw [e.1, e.2]
  omega

theorem pay1_apply (x : Vec Ideal S1024x2048 .f32) (g : Vec Ideal S1x2048 .f32) (h : Gain)
    (hg : ∀ j, g (ix2 0 j) = h (ix1 j)) (r : Fin 1024) (k : Fin 2048) :
    k0_pay1 x g (ix2 r k) = normed (fun l => x (ix2 r l)) h k := by
  pointwise [k0_pay1]
  rw [hg]
  unfold normed
  rfl

theorem pay2_apply (n : Vec Ideal S1024x2048 .bf16) (w : Vec Ideal S1x2048x1024 .bf16) (s : Vec Ideal S1x1024 .f32)
    (r j : Fin 1024) : k0_pay2 n w s (ix2 r j) = (∑ k : Fin 2048, n (ix2 r k) * w (ix3 0 k j)) * s (ix2 0 j) := by
  pointwise [k0_pay2]

/-- The first point of a band. -/
def row (t : Fin cfg0.N) : Fin cfg0.N := ⟨6 * (t.val / 6), by have := point_lt t; show _ < 96; omega⟩

/-- What the scratch holds after a point: its band, normalised. -/
def normAt (t : Fin cfg0.N) : Vec Ideal S1024x2048 .bf16 := k0_pay1 (iblk m c 0 (row t)) (iblk m c 1 (row t))

theorem first_out (t : Fin cfg0.N) (h : t.val % 6 = 0) :
    (outsAt0 m c t.val t.isLt).1 = k0_pay2 (k0_pay1 (iblk m c 0 t) (iblk m c 1 t)) (iblk m c 2 t) (iblk m c 3 t) := by
  rw [outsAt0_A m c t h]; frame_out

theorem first_kept (t : Fin cfg0.N) (h : t.val % 6 = 0) :
    (outsAt0 m c t.val t.isLt).2 = k0_pay1 (iblk m c 0 t) (iblk m c 1 t) := by
  rw [outsAt0_A m c t h]; frame_out

theorem later_out (t : Fin cfg0.N) (h : ¬ t.val % 6 = 0) :
    (outsAt0 m c t.val t.isLt).1
      = k0_pay2 (outsAt0 m c (t.val - 1) (by have := t.isLt; omega)).2 (iblk m c 2 t) (iblk m c 3 t) := by
  rw [outsAt0_B m c t h]; frame_out
  exact congrArg (fun s => k0_pay2 s (iblk m c 2 t) (iblk m c 3 t)) (Memref.IsWhole.read_unread _ _)

theorem later_kept (t : Fin cfg0.N) (h : ¬ t.val % 6 = 0) :
    (outsAt0 m c t.val t.isLt).2 = (outsAt0 m c (t.val - 1) (by have := t.isLt; omega)).2 := by
  rw [outsAt0_B m c t h]; rfl

theorem kept_eq (t : Fin cfg0.N) : ∀ n (h : n < cfg0.N), n / 6 = t.val / 6 → (outsAt0 m c n h).2 = normAt m c t := by
  intro n
  induction n with
  | zero =>
    intro h hq
    have e : row t = ⟨0, h⟩ := Fin.ext (by simp only [row]; omega)
    unfold normAt
    rw [e]
    exact first_kept m c ⟨0, h⟩ rfl
  | succ n ih =>
    intro h hq
    by_cases h0 : (n + 1) % 6 = 0
    · have e : row t = ⟨n + 1, h⟩ := Fin.ext (by simp only [row]; omega)
      unfold normAt
      rw [e]
      exact first_kept m c ⟨n + 1, h⟩ h0
    · exact (later_kept m c ⟨n + 1, h⟩ h0).trans (ih _ (by omega))

/-- Every point's block is the product of the normalised band and the point's weights. -/
theorem out_eq (t : Fin cfg0.N) :
    (outsAt0 m c t.val t.isLt).1 = k0_pay2 (normAt m c t) (iblk m c 2 t) (iblk m c 3 t) := by
  by_cases h0 : t.val % 6 = 0
  · have e : row t = t := Fin.ext (by simp only [row]; omega)
    rw [first_out m c t h0]
    unfold normAt
    rw [e]
  · rw [later_out m c t h0, kept_eq m c t (t.val - 1) (by have := t.isLt; omega) (by omega)]

/-- The scratch's rows are the stream's, normalised. -/
theorem normAt_apply (t : Fin cfg0.N) (r : Fin 1024) (k : Fin 2048) :
    normAt m c t (ix2 r k) = normed (fun l => xs m c (ix2 (rowOf t r) l)) (gs m c) k := by
  have hr : rowOf (row t) r = rowOf t r := Fin.ext (by simp only [row]; omega)
  unfold normAt
  rw [pay1_apply _ _ (gs m c) (g_block m c _)]
  congr 1
  funext l
  rw [x_block, hr]

theorem out_apply (t : Fin cfg0.N) (r j : Fin 1024) :
    (outsAt0 m c t.val t.isLt).1 (ix2 r j) = whole (xs m c) (gs m c) (ws m c) (ix2 (rowOf t r) (colOf t j)) := by
  rw [out_eq, pay2_apply, s_block, mul_one]
  unfold whole projected
  exact Finset.sum_congr rfl fun k _ => by rw [normAt_apply, w_block]; rfl

theorem flushed_eq (t : Fin cfg0.N) :
    (dats m 0 c).flushed 4 t = (win0_4.blk t).view.read (Elt Ideal) (whole (xs m c) (gs m c) (ws m c)) := by
  rw [Cert.Kernel5Ideal.Value.flushed4]
  refine funext fun y : (⟨2, ![1024, 1024]⟩ : Shape).Idx => ?_
  obtain ⟨r, j, rfl⟩ : ∃ (r j : Fin 1024), y = ix2 r j := ⟨y 0, y 1, funext fun a => by match a with | 0 => rfl | 1 => rfl⟩
  have e := (index_facts t).2.2.2.2
  refine (out_apply m c t r j).trans (congrArg (whole _ _ _) (funext fun a => Fin.ext ?_))
  match a with
  | 0 => show 1024 * (t.val / 6) + r.val = win0_4.index t 0 * 1024 + 1 * r.val; rw [e.1]; omega
  | 1 => show 1024 * (t.val % 6) + j.val = win0_4.index t 1 * 1024 + 1 * j.val; rw [e.2]; omega

theorem final_eq : (dats m 0 c).arrAt 4 cfg0.N = whole (xs m c) (gs m c) (ws m c) :=
  (dats m 0 c).arrAt_eq_of_cover 4 _ (fun t _ => flushed_eq m c t) fun i => (Cert.Kernel5Ideal.Value.covered_iff4 i).2 (by
    have h0 : (i 0).val < 16384 := (i 0).isLt
    have h1 : (i 1).val < 6144 := (i 1).isLt
    omega)

end Cert.Kernel5Ideal.Hand

namespace Cert.Reference5Ideal.Hand

open Cert.Reference5Ideal Cert.Reference5Ideal.Gen Cert.Reference5Ideal.Read
open Idealize.ShloMosaic Cert.Mix
open Cert.Kernel5Ideal.Hand (InW whole)

variable (x : Rows) (g : Gain) (w : InW)

theorem w_apply (k : Fin 2048) (j : Fin 6144) : val_main_v13 (F := Ideal) w (ix2 k j) = w (ix3 0 k j) := by
  rw [val_main_v13_apply]
  refine congrArg w (funext fun a => Fin.ext ?_)
  have hk := k.isLt; have hj := j.isLt
  match a with
  | 0 => rfl
  | 1 => show (k.val * 6144 + j.val) / 6144 % 2048 = k.val; omega
  | 2 => show (k.val * 6144 + j.val) % 6144 = j.val; omega

theorem sum_apply (r : Fin 16384) :
    val_main_v1 (F := Ideal) x (ix1 r) = ∑ k : Fin 2048, x (ix2 r k) * x (ix2 r k) := by
  have e0 : (FloatOps.ofBits (F := Ideal) .f32 0x00000000#32) = (0 : EReal) := Ideal.ofBits_zero_f32
  rw [val_main_v1_apply, val_main_cst_apply, e0, zero_add]
  refine Finset.sum_congr rfl fun k _ => ?_
  have e1 : idx_main_v1 (ix1 r) k = ix2 r k := by funext a; match a with | 0 => rfl | 1 => rfl
  rw [e1, val_main_v0_apply]
  rfl

theorem normed_apply (r : Fin 16384) (k : Fin 2048) :
    val_main_v12 (F := Ideal) x g (ix2 r k) = normed (fun l => x (ix2 r l)) g k := by
  have e1 : idx_main_v2 (idx_main_v8 (ix2 r k)) = ix1 r := by
    funext a; match a with | 0 => exact Fin.ext (by dsimp only [idx_main_v2, idx_main_v8, ix1, ix2])
  have e2 : idx_main_v10 (idx_main_v11 (ix2 r k)) = ix1 k := by
    funext a; match a with | 0 => exact Fin.ext (by dsimp only [idx_main_v10, idx_main_v11, ix1, ix2])
  simp only [val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, e1, e2, sum_apply]
  unfold normed
  rfl

theorem result_eq : val_main_v14 (F := Ideal) x g w = whole x g w := by
  refine funext fun i : (⟨2, ![16384, 6144]⟩ : Shape).Idx => ?_
  obtain ⟨r, j, rfl⟩ : ∃ (r : Fin 16384) (j : Fin 6144), i = ix2 r j :=
    ⟨i 0, i 1, funext fun a => by match a with | 0 => rfl | 1 => rfl⟩
  rw [val_main_v14_apply]
  unfold whole projected
  refine Finset.sum_congr rfl fun k _ => ?_
  have e1 : lidx_main_v14 (ix2 r j) k = ix2 r k := by funext a; match a with | 0 => rfl | 1 => rfl
  have e2 : ridx_main_v14 (ix2 r j) k = ix2 k j := by funext a; match a with | 0 => rfl | 1 => rfl
  rw [e1, e2, w_apply, normed_apply]
  rfl

end Cert.Reference5Ideal.Hand

namespace Cert.Proof

open Idealize.ShloMosaic Idealize.ShloMosaic.TcCoe Idealize.SL.Sem

theorem frame_kernel5 : Cert.quiescent_Kernel5 := fun m g _ => Cert.Kernel5.Gen.frame m g

theorem frame_ideal5 : Cert.quiescent_Kernel5Ideal := fun m g _ => Cert.Kernel5Ideal.Gen.frame m g

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem algebraic5 : Cert.algebraic_Kernel5Ideal_Reference5Ideal := by
  intro m g m' g' _ harg
  refine ⟨fun c => Cert.Kernel5Ideal.Hand.whole (Cert.Kernel5Ideal.Hand.xs m c) (Cert.Kernel5Ideal.Hand.gs m c)
      (Cert.Kernel5Ideal.Hand.ws m c), ?_, ?_⟩
  · exact (θ_run Cert.Kernel5Ideal.defs _ _).mono
      (fun r h c => ⟨(h c).1.trans (Cert.Kernel5Ideal.Hand.final_eq m c), (h c).2⟩) (Cert.Kernel5Ideal.Value.run_blocks m g)
  · refine (θ_run Cert.Reference5Ideal.defs _ _).mono (fun r h c => ?_) (Cert.Reference5Ideal.Value.run m' g')
    obtain ⟨h0, h1, h2⟩ := harg c
    refine ⟨(h c).1.trans ((Cert.Reference5Ideal.Read.val_main_v14_eq _ _ _).trans ?_), (h c).2⟩
    rw [h0, h1, h2]
    exact Cert.Reference5Ideal.Hand.result_eq _ _ _

end Cert.Proof

end
-- ==== Proof.ProjectRun6.lean ====
module

public import proofs.«01_k».proof.Proof.Gen.Kernel6Ideal.Skeleton
public import proofs.«01_k».proof.Proof.Gen.Kernel6Ideal.Launch
public import proofs.«01_k».proof.Proof.Gen.Kernel6Ideal.Points
public import Idealize.ShloMosaic.Lib.Pipeline.FrameBody
public import Idealize.ShloMosaic.Lib.Pipeline.TableIdle
public import Idealize.ShloMosaic.Lib.Pipeline.ValueKit.Basic
public import Idealize.ShloMosaic.Lib.Ring
public import Idealize.ShloMosaic.Lib.VecWindow
public import Idealize.ShloMosaic.Lib.Tactic
public import Idealize.ShloMosaic.Lib.WordCmp

/-!
# The run of the projection in front of the sparse attention

A row of the grid normalises its rows of the stream once, at its first point, into a scratch buffer. Every point then
multiplies them with a block of the weights; the first eight points of a row leave the first result, the other seven
the second.
-/

@[expose] public section

set_option maxRecDepth 16384

noncomputable section

namespace Cert.Kernel6Ideal.Hand

open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-- The body's first condition: the first point of a row of the grid. -/
abbrev first (i : grid0.Coords) : Prop :=
  Scalar.cmpi .ne (Scalar.extui (Scalar.cmpi .eq (BitVec.ofNat 32 (i 1).val) 0#32)) 0#32 = 1#1

theorem load_x (M : Memref sig .tc .vmem S1024x2048 .f32) (f : M.view.ty.Contents (Elt F)) :
    View.readAt (Elt F) M.view (Rect.unit (s := S1024x2048) ![0, 0] S1024x2048.size inb_S1024x2048_S1024x2048_0_0).toLoadRect f
      = View.read (Elt F) M.view f := View.ld_unit_lit _ _ (by decide)

theorem load_g (M : Memref sig .tc .vmem S1x2048 .f32) (f : M.view.ty.Contents (Elt F)) :
    View.readAt (Elt F) M.view (Rect.unit (s := S1x2048) ![0, 0] S1x2048.size inb_S1x2048_S1x2048_0_0).toLoadRect f
      = View.read (Elt F) M.view f := View.ld_unit_lit _ _ (by decide)

theorem load_w (M : Memref sig .tc .vmem S1x2048x512 .bf16) (f : M.view.ty.Contents (Elt F)) :
    View.readAt (Elt F) M.view (Rect.unit (s := S1x2048x512) ![0, 0, 0] S1x2048x512.size inb_S1x2048x512_S1x2048x512_0_0_0).toLoadRect f
      = View.read (Elt F) M.view f := View.ld_unit_lit _ _ (by decide)

theorem load_s (M : Memref sig .tc .vmem S1x512 .f32) (f : M.view.ty.Contents (Elt F)) :
    View.readAt (Elt F) M.view (Rect.unit (s := S1x512) ![0, 0] S1x512.size inb_S1x512_S1x512_0_0).toLoadRect f
      = View.read (Elt F) M.view f := View.ld_unit_lit _ _ (by decide)

theorem load_n (M : Memref sig .tc .vmem S1024x2048 .bf16) (f : M.view.ty.Contents (Elt F)) :
    View.readAt (Elt F) M.view (Rect.unit (s := S1024x2048) ![0, 0] S1024x2048.size inb_S1024x2048_S1024x2048_0_0).toLoadRect f
      = View.read (Elt F) M.view f := View.ld_unit_lit _ _ (by decide)

theorem pay2_congr {n n' : Vec F S1024x2048 .bf16} {w w' : Vec F S1x2048x512 .bf16} {s s' : Vec F S1x512 .f32}
    (hn : n = n') (hw : w = w') (hs : s = s') : k0_pay2 n w s = k0_pay2 n' w' s' := by subst hn hw hs; rfl

theorem pay3_congr {n n' : Vec F S1024x2048 .bf16} {w w' : Vec F S1x2048x512 .bf16} {s s' : Vec F S1x512 .f32}
    (hn : n = n') (hw : w = w') (hs : s = s') : k0_pay3 n w s = k0_pay3 n' w' s' := by subst hn hw hs; rfl

section

variable (c : Dev nD) (i : grid0.Coords)
  (M2 : Memref sig .tc .vmem S1024x2048 .f32) (h2 : M2.IsWhole) (M3 : Memref sig .tc .vmem S1x2048 .f32) (h3 : M3.IsWhole)
  (M4 : Memref sig .tc .vmem S1x2048x512 .bf16) (h4 : M4.IsWhole) (M5 : Memref sig .tc .vmem S1x512 .f32) (h5 : M5.IsWhole)
  (M6 : Memref sig .tc .vmem S1024x512 .bf16) (h6 : M6.IsWhole) (M7 : Memref sig .tc .vmem S1024x512 .f32) (h7 : M7.IsWhole)
  (M8 : Memref sig .tc .vmem S1024x2048 .bf16) (h8 : M8.IsWhole)
  (x : Vec F S1024x2048 .f32) (g : Vec F S1x2048 .f32) (w : Vec F S1x2048x512 .bf16) (s : Vec F S1x512 .f32)
  (p : Vec F S1024x512 .bf16) (q : Vec F S1024x512 .f32) (n : Vec F S1024x2048 .bf16)

/-- The first point of a row: the scratch takes the normalised rows, the first result its block. -/
theorem body_first (K : PUnit → sProp 𝕄) (c1 : first i) (c2 : k0_cond2 i = 1#1) (c3 : ¬ k0_cond3 i = 1#1) :
    iprop(owns (c : Thread nD τ) M2 fullShare x ∗ owns (c : Thread nD τ) M3 fullShare g
        ∗ owns (c : Thread nD τ) M4 fullShare w ∗ owns (c : Thread nD τ) M5 fullShare s
        ∗ owns (c : Thread nD τ) M6 fullShare p ∗ owns (c : Thread nD τ) M7 fullShare q
        ∗ owns (c : Thread nD τ) M8 fullShare n
        ∗ (owns (c : Thread nD τ) M2 fullShare x -∗ owns (c : Thread nD τ) M3 fullShare g
          -∗ owns (c : Thread nD τ) M4 fullShare w -∗ owns (c : Thread nD τ) M5 fullShare s
          -∗ owns (c : Thread nD τ) M6 fullShare (k0_pay2 (k0_pay1 x g) w s) -∗ owns (c : Thread nD τ) M7 fullShare q
          -∗ owns (c : Thread nD τ) M8 fullShare (k0_pay1 x g) -∗ K ⟨⟩))
      ⊢ wp frame (wpE (defs₀ (F := F)) Variants.none c none) Set.univ
          (cc0_norm_proj i M2 h2 M3 h3 M4 h4 M5 h5 M6 h6 M7 h7 M8 h8) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf2; subst hf3; subst hf4; subst hf5; subst hf6; subst hf7; subst hf8
  sl_exec (disch := first | sl_exact c1 | sl_exact c2 | sl_exact c3)
  sl_step
  have e9 : body_first.sl.v9 c M2 M3 M8 f2 f3
      = k0_pay1 (View.read (Elt F) M2.view f2) (View.read (Elt F) M3.view f3) :=
    (View.readCov_unit_lit M8.view _ _ (by decide)).trans (congrArg₂ k0_pay1 (load_x _ _) (load_g _ _))
  iapply Hk $$ [H2] [H3] [H4] [H5] [H6] [H7] [H8]
  · iexists f2; isplitr [H2]; · ipureintro; rfl
    · iexact H2
  · iexists f3; isplitr [H3]; · ipureintro; rfl
    · iexact H3
  · iexists f4; isplitr [H4]; · ipureintro; rfl
    · iexact H4
  · iexists f5; isplitr [H5]; · ipureintro; rfl
    · iexact H5
  · iexists _; isplitr; swap; · iexact H6
    ipureintro
    exact (View.read_writes_full M6.view _ _ _ _).trans (pay2_congr e9 (load_w _ _) (load_s _ _))
  · iexists f7; isplitr [H7]; · ipureintro; rfl
    · iexact H7
  · iexists _; isplitr; swap; · iexact H8
    ipureintro
    exact (View.read_writes_full M8.view _ _ _ _).trans (congrArg₂ k0_pay1 (load_x _ _) (load_g _ _))

/-- The other points of the first result: its block, from the rows the scratch holds. -/
theorem body_left (K : PUnit → sProp 𝕄) (c1 : ¬ first i) (c2 : k0_cond2 i = 1#1) (c3 : ¬ k0_cond3 i = 1#1) :
    iprop(owns (c : Thread nD τ) M2 fullShare x ∗ owns (c : Thread nD τ) M3 fullShare g
        ∗ owns (c : Thread nD τ) M4 fullShare w ∗ owns (c : Thread nD τ) M5 fullShare s
        ∗ owns (c : Thread nD τ) M6 fullShare p ∗ owns (c : Thread nD τ) M7 fullShare q
        ∗ owns (c : Thread nD τ) M8 fullShare n
        ∗ (owns (c : Thread nD τ) M2 fullShare x -∗ owns (c : Thread nD τ) M3 fullShare g
          -∗ owns (c : Thread nD τ) M4 fullShare w -∗ owns (c : Thread nD τ) M5 fullShare s
          -∗ owns (c : Thread nD τ) M6 fullShare (k0_pay2 n w s) -∗ owns (c : Thread nD τ) M7 fullShare q
          -∗ owns (c : Thread nD τ) M8 fullShare n -∗ K ⟨⟩))
      ⊢ wp frame (wpE (defs₀ (F := F)) Variants.none c none) Set.univ
          (cc0_norm_proj i M2 h2 M3 h3 M4 h4 M5 h5 M6 h6 M7 h7 M8 h8) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf2; subst hf3; subst hf4; subst hf5; subst hf6; subst hf7; subst hf8
  sl_exec (disch := first | sl_exact c1 | sl_exact c2 | sl_exact c3)
  sl_step
  iapply Hk $$ [H2] [H3] [H4] [H5] [H6] [H7] [H8]
  · iexists f2; isplitr [H2]; · ipureintro; rfl
    · iexact H2
  · iexists f3; isplitr [H3]; · ipureintro; rfl
    · iexact H3
  · iexists f4; isplitr [H4]; · ipureintro; rfl
    · iexact H4
  · iexists f5; isplitr [H5]; · ipureintro; rfl
    · iexact H5
  · iexists _; isplitr; swap; · iexact H6
    ipureintro
    exact (View.read_writes_full M6.view _ _ _ _).trans (pay2_congr (load_n _ _) (load_w _ _) (load_s _ _))
  · iexists f7; isplitr [H7]; · ipureintro; rfl
    · iexact H7
  · iexists f8; isplitr [H8]; · ipureintro; rfl
    · iexact H8

/-- The points of the second result: its block, from the rows the scratch holds. -/
theorem body_right (K : PUnit → sProp 𝕄) (c1 : ¬ first i) (c2 : ¬ k0_cond2 i = 1#1) (c3 : k0_cond3 i = 1#1) :
    iprop(owns (c : Thread nD τ) M2 fullShare x ∗ owns (c : Thread nD τ) M3 fullShare g
        ∗ owns (c : Thread nD τ) M4 fullShare w ∗ owns (c : Thread nD τ) M5 fullShare s
        ∗ owns (c : Thread nD τ) M6 fullShare p ∗ owns (c : Thread nD τ) M7 fullShare q
        ∗ owns (c : Thread nD τ) M8 fullShare n
        ∗ (owns (c : Thread nD τ) M2 fullShare x -∗ owns (c : Thread nD τ) M3 fullShare g
          -∗ owns (c : Thread nD τ) M4 fullShare w -∗ owns (c : Thread nD τ) M5 fullShare s
          -∗ owns (c : Thread nD τ) M6 fullShare p -∗ owns (c : Thread nD τ) M7 fullShare (k0_pay3 n w s)
          -∗ owns (c : Thread nD τ) M8 fullShare n -∗ K ⟨⟩))
      ⊢ wp frame (wpE (defs₀ (F := F)) Variants.none c none) Set.univ
          (cc0_norm_proj i M2 h2 M3 h3 M4 h4 M5 h5 M6 h6 M7 h7 M8 h8) K := by
  simp only [cc0_norm_proj_eq_skeleton]; unfold cc0_norm_proj_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩,
    ⟨%f8, %hf8, H8⟩, Hk⟩
  subst hf2; subst hf3; subst hf4; subst hf5; subst hf6; subst hf7; subst hf8
  sl_exec (disch := first | sl_exact c1 | sl_exact c2 | sl_exact c3)
  sl_step
  iapply Hk $$ [H2] [H3] [H4] [H5] [H6] [H7] [H8]
  · iexists f2; isplitr [H2]; · ipureintro; rfl
    · iexact H2
  · iexists f3; isplitr [H3]; · ipureintro; rfl
    · iexact H3
  · iexists f4; isplitr [H4]; · ipureintro; rfl
    · iexact H4
  · iexists f5; isplitr [H5]; · ipureintro; rfl
    · iexact H5
  · iexists f6; isplitr [H6]; · ipureintro; rfl
    · iexact H6
  · iexists _; isplitr; swap; · iexact H7
    ipureintro
    exact (View.read_writes_full M7.view _ _ _ _).trans (pay3_congr (load_n _ _) (load_w _ _) (load_s _ _))
  · iexists f8; isplitr [H8]; · ipureintro; rfl
    · iexact H8

end

/-! ## The schedule -/

theorem points : cfg0.N = 240 := rfl

theorem first_iff : ∀ t : Fin cfg0.N, first (grid0.coords t) ↔ t.val % 15 = 0 :=
  (by decide +kernel : ∀ t : Fin grid0.N, first (grid0.coords t) ↔ t.val % 15 = 0)
theorem left_iff : ∀ t : Fin cfg0.N, k0_cond2 (grid0.coords t) = 1#1 ↔ t.val % 15 < 8 :=
  (by decide +kernel : ∀ t : Fin grid0.N, k0_cond2 (grid0.coords t) = 1#1 ↔ t.val % 15 < 8)
theorem right_iff : ∀ t : Fin cfg0.N, k0_cond3 (grid0.coords t) = 1#1 ↔ 8 ≤ t.val % 15 :=
  (by decide +kernel : ∀ t : Fin grid0.N, k0_cond3 (grid0.coords t) = 1#1 ↔ 8 ≤ t.val % 15)
theorem idle_left : ∀ t : Fin cfg0.N, cfg0.idle 4 (cfg0.grid.coords t) = decide (8 ≤ t.val % 15) :=
  (by decide +kernel : ∀ t : Fin grid0.N, idle0 4 (grid0.coords t) = decide (8 ≤ t.val % 15))
theorem idle_right : ∀ t : Fin cfg0.N, cfg0.idle 5 (cfg0.grid.coords t) = decide (t.val % 15 < 8) :=
  (by decide +kernel : ∀ t : Fin grid0.N, idle0 5 (grid0.coords t) = decide (t.val % 15 < 8))
theorem flush_left : ∀ t : Fin cfg0.N, (cfg0.win 4).flush t = decide (t.val % 15 < 7 ∨ t.val % 15 = 14) :=
  (by decide +kernel : ∀ t : Fin grid0.N, win0_4.flush t = decide (t.val % 15 < 7 ∨ t.val % 15 = 14))
theorem flush_right : ∀ t : Fin cfg0.N, (cfg0.win 5).flush t = decide (8 ≤ t.val % 15) :=
  (by decide +kernel : ∀ t : Fin grid0.N, win0_5.flush t = decide (8 ≤ t.val % 15))

/-- The first result's buffer holds nothing of the body's before the first eight points of a row. -/
theorem fresh_left (n : ℕ) (hn : n ≤ cfg0.N) : cfg0.fresh 4 n = decide (n % 15 < 8) :=
  cfg0.fresh_tab 4 (fun n => decide (n % 15 < 8)) rfl (fun t => by
    rw [flush_left, idle_left, ← Bool.decide_and, ← Bool.decide_or]
    exact decide_eq_decide.mpr (by omega)) n hn

/-- The first point of `t`'s row of the grid. -/
def row (t : Fin cfg0.N) : Fin cfg0.N := ⟨15 * (t.val / 15), by have := t.isLt; omega⟩

/-- The last point of `t`'s row up to `t` that stores into the first result. -/
def stored (t : Fin cfg0.N) : Fin cfg0.N :=
  ⟨15 * (t.val / 15) + min (t.val % 15) 7, by have := t.isLt; have := points; omega⟩

/-! ## The pipeline's data -/

variable (m : (ℓ : Loc nD τ sig) → Buf (Elt F) ℓ) (ρ : Dev nD → PrngReg)

/-- The arrays as the kernel finds them. -/
abbrev V (c : Dev nD) (b : Ref sig .tc) : Buf (Elt F) ((c : Thread nD τ).loc b) :=
  StableHlo.after ([hostOps0, hostOps0_1, hostOps0_2] : List (List (HloOp τ sig (Elt F)))).flatten (fun b => m (c, b)) b

theorem host_sub : ([hostOps0, hostOps0_1, hostOps0_2] : List (List (HloOp τ sig (Elt F)))).Forall
    fun ops => ops.Forall fun op => op.bufs ⊆ StableHlo.tcRefs τ sig :=
  ⟨hostOps0_sub, hostOps0_1_sub, hostOps0_2_sub⟩

theorem host_fresh : ([hostOps0, hostOps0_1, hostOps0_2] : List (List (HloOp τ sig (Elt F)))).Forall
    fun ops => ops.Forall fun op => op.fresh = ∅ := by
  simp only [List.Forall]; repeat' constructor

set_option maxHeartbeats 800000 in
theorem host_run (𝒱 : Variants) : Pipeline.HMain (Ix := Unit) (Name := ℕ) (U := UR sig nD τ) (Lvl := ℕ) cfgs 0 defs₀ 𝒱 m
    (main (F := F)) (V m) :=
  Pipeline.hmain_prefixes cfgs 0 defs₀ 𝒱 m main [hostOps0, hostOps0_1, hostOps0_2] host_sub host_fresh main_chain

theorem V_of_kept (c : Dev nD) (b : Ref sig .tc) (h : ∀ op ∈ ([hostOps0, hostOps0_1, hostOps0_2] : List (List (HloOp τ sig (Elt F)))).flatten,
    Proc.devRef .tc b ∉ op.writes) : V m c b = m ((c : Thread nD τ).loc b) :=
  StableHlo.after_of_forall_not_mem (b := Proc.devRef .tc b) _ _ h

theorem V_main_arg0 (c : Dev nD) : V m c main_arg0 = m ((c : Thread nD τ).loc main_arg0) :=
  V_of_kept m c _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.nary_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  V_of_kept m c _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.nary_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  V_of_kept m c _ (List.forall_iff_forall_mem.mp (by
    simp only [hostOps0, hostOps0_1, hostOps0_2, List.flatten_cons, List.flatten_nil, List.append_nil, List.cons_append, List.nil_append,
      List.Forall, StableHlo.nullary_writes, StableHlo.unary_writes, StableHlo.binary_writes, StableHlo.ternary_writes, StableHlo.quaternary_writes,
      StableHlo.reshape_writes, StableHlo.nary_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The normalised rows the scratch holds after point `t`. -/
def normAt (c : Dev nD) (t : Fin cfg0.N) : Vec F S1024x2048 .bf16 := k0_pay1 (iblk m c 0 (row t)) (iblk m c 1 (row t))

/-- The first result's block stored at point `t`. -/
def leftAt (c : Dev nD) (t : Fin cfg0.N) : Vec F S1024x512 .bf16 :=
  k0_pay2 (normAt m c t) (iblk m c 2 t) (iblk m c 3 t)

/-- The second result's block stored at point `t`. -/
def rightAt (c : Dev nD) (t : Fin cfg0.N) : Vec F S1024x512 .f32 :=
  k0_pay3 (normAt m c t) (iblk m c 2 t) (iblk m c 3 t)

/-- The scratch as the body holds it. -/
abbrev scratch : Memref sig .tc .vmem S1024x2048 .bf16 := Memref.whole cc0_scratch0

/-- What is held before point `t` beside the windows: the scratch at the rows the point before left. -/
def Phi (c : Dev nD) (t : Fin (cfg0.N + 1)) : sProp 𝕄 :=
  if h : t.val = 0 then Pipeline.ΦA spec0 c
  else iprop(owns (c : Thread nD τ) scratch fullShare (normAt m c ⟨t.val - 1, by omega⟩) ∗ (∃ r, prngReg c r))

/-- The pipeline's data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => leftAt m c (stored t)
    | ⟨5, _⟩ => rightAt m c t
  Φ t := Phi m c t
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = leftAt m c (stored t) := by
  dsimp only [dats]
theorem after_5 (c : Dev nD) (t : Fin cfg0.N) : (dats m 0 c).after 5 t = rightAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- At the last seven points of a row the first result's buffer still holds the block stored before. -/
theorem before_4 (c : Dev nD) (t : Fin cfg0.N) (ht : 8 ≤ t.val % 15) (d) :
    (dats m 0 c).before 4 t d = leftAt m c (stored t) := by
  have hs : ∀ (u : Fin cfg0.N) (_ : u.val ≠ 0), 8 ≤ u.val % 15 → stored u = stored ⟨u.val - 1, by omega⟩ := fun u h0 h6 =>
    Fin.ext (by simp only [stored]; omega)
  rw [(dats m 0 c).before_out_traj 4 rfl (fun _ _ => rfl) (fun u h0 hi _ => by
    rw [idle_left, decide_eq_true_eq] at hi
    rw [after_4, after_4, hs u h0 hi]) t.val t rfl d, fresh_left t.val (Nat.le_of_lt t.isLt),
    decide_eq_false (by omega), if_neg Bool.false_ne_true, after_4, hs t (by omega) ht]

theorem PhiA_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

/-- The scratch at any contents. -/
theorem Phi_any (c : Dev nD) (t : Fin (cfg0.N + 1)) : Phi (F := F) m c t ⊢ Pipeline.ΦA spec0 c := by
  unfold Phi
  split
  · exact .rfl
  · rw [PhiA_eq]
    iintro ⟨HS, Hg⟩
    isplitl [HS]
    · iexists _; iexact HS
    iexact Hg

theorem Phi_pos (c : Dev nD) (t : Fin cfg0.N) (ht : t.val ≠ 0) : Phi (F := F) m c t.castSucc
    = iprop(owns (c : Thread nD τ) scratch fullShare (normAt m c ⟨t.val - 1, by omega⟩) ∗ (∃ r, prngReg c r)) := by
  unfold Phi; rw [dif_neg (by exact ht)]; rfl

theorem Phi_next (c : Dev nD) (t : Fin cfg0.N) : Phi (F := F) m c t.succ
    = iprop(owns (c : Thread nD τ) scratch fullShare (normAt m c t) ∗ (∃ r, prngReg c r)) := by
  unfold Phi; rw [dif_neg (by simp)]; rfl

theorem norm_row (c : Dev nD) (t : Fin cfg0.N) (ht : t.val % 15 ≠ 0) :
    normAt (F := F) m c ⟨t.val - 1, by omega⟩ = normAt m c t := by
  unfold normAt
  rw [show row ⟨t.val - 1, by omega⟩ = row t from Fin.ext (by simp only [row]; omega)]

theorem defs₀_row (t : Fin cfg0.N) : defs₀ (F := F) .tc cfg0.body (cfg0.bodyArgs t (cfg0.slots t)) = bodyAt0 t := by
  unfold defs₀; rw [Defs.onTc_tc]

/-- The pieces of the obligation at a point of a row. -/
theorem leaves_left_live (c : Dev nD) (t : Fin cfg0.N) (ht : t.val % 15 < 8) : (dats (F := F) m 0 c).leavesExact 4 t
    = owns (c : Thread nD τ) ((cfg0.win 4).stage (cfg0.slots t 4)) fullShare (leftAt m c (stored t)) := by
  unfold Dat.leavesExact; rw [idle_left, decide_eq_false (by omega), ← after_4]
theorem leaves_left_idle (c : Dev nD) (t : Fin cfg0.N) (ht : 8 ≤ t.val % 15) :
    owns (c : Thread nD τ) ((cfg0.win 4).stage (cfg0.slots t 4)) fullShare (leftAt m c (stored t))
      ⊢ ((dats (F := F) m 0 c).leavesExact 4 t : sProp 𝕄) := by
  unfold Dat.leavesExact; rw [idle_left, decide_eq_true ht, flush_left]
  by_cases h7 : t.val % 15 < 7 ∨ t.val % 15 = 14
  · rw [decide_eq_true h7, ← after_4]
  · rw [decide_eq_false h7]
    iintro H
    iexists (fun _ => Classical.arbitrary _)
    rw [before_4 m c t ht]
    iexact H
theorem leaves_right_live (c : Dev nD) (t : Fin cfg0.N) (ht : 8 ≤ t.val % 15) : (dats (F := F) m 0 c).leavesExact 5 t
    = owns (c : Thread nD τ) ((cfg0.win 5).stage (cfg0.slots t 5)) fullShare (rightAt m c t) := by
  unfold Dat.leavesExact; rw [idle_right, decide_eq_false (by omega), ← after_5]
theorem leaves_right_idle (c : Dev nD) (t : Fin cfg0.N) (ht : t.val % 15 < 8) : (dats (F := F) m 0 c).leavesExact 5 t
    = iprop(∃ d, owns (c : Thread nD τ) ((cfg0.win 5).stage (cfg0.slots t 5)) fullShare ((dats m 0 c).before 5 t d)) :=
  (dats m 0 c).leavesExact_idle 5 t (by rw [idle_right, decide_eq_true ht])
    (by rw [flush_right, decide_eq_false (by omega)])

/-- What the body leaves at point `t`, the inputs' blocks written out. -/
abbrev leftover (c : Dev nD) (t : Fin cfg0.N) : sProp 𝕄 :=
  iprop((dats (F := F) m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ (dats m 0 c).leavesExact 4 t ∗ (dats m 0 c).leavesExact 5 t)

theorem sound_body (c : Dev nD) (t : Fin cfg0.N) :
    iprop((dats (F := F) m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d))
      ∗ (∃ d, owns (c : Thread nD τ) ((cfg0.win 5).stage (cfg0.slots t 5)) fullShare ((dats m 0 c).before 5 t d)))
      ⊢ wp frame (wpE (defs₀ (F := F)) Variants.none c none) Set.univ (bodyAt0 t) fun _ => leftover m c t := by
  unfold leftover
  rw [show (dats (F := F) m 0 c).Φ t.succ = Phi m c t.succ from rfl, Phi_next,
    show (dats m 0 c).owesAt () t.succ = (dats m 0 c).owesAt () t.castSucc from rfl, after_0, after_1, after_2, after_3,
    show (dats (F := F) m 0 c).Φ t.castSucc = Phi m c t.castSucc from rfl]
  by_cases h0 : t.val % 15 = 0
  · have hr : row t = t := Fin.ext (by simp only [row]; omega)
    have hst : stored t = t := Fin.ext (by simp only [stored]; omega)
    have hn : normAt m c t = k0_pay1 (iblk m c 0 t) (iblk m c 1 t) := by unfold normAt; rw [hr]
    refine (sep_mono (Phi_any m c _) .rfl).trans ?_
    rw [PhiA_eq, leaves_left_live m c t (by omega), leaves_right_idle m c t (by omega), hst, leftAt, hn]
    iintro ⟨⟨⟨%x8, HS⟩, Hg⟩, Ho, ⟨%d0, H0⟩, ⟨%d1, H1⟩, ⟨%d2, H2⟩, ⟨%d3, H3⟩, ⟨%d4, H4⟩, ⟨%d5, H5⟩⟩
    rw [before_0, before_1, before_2, before_3]
    iapply (body_first c (grid0.coords t) _ _ _ _ _ _ _ _ _ _ _ _ _ _ (iblk m c 0 t) (iblk m c 1 t) (iblk m c 2 t)
      (iblk m c 3 t) _ _ x8 _ ((first_iff t).mpr h0) ((left_iff t).mpr (by omega))
      (fun h => by have := (right_iff t).mp h; omega))
    isplitl [H0]; · iexact H0
    isplitl [H1]; · iexact H1
    isplitl [H2]; · iexact H2
    isplitl [H3]; · iexact H3
    isplitl [H4]; · iexact H4
    isplitl [H5]; · iexact H5
    isplitl [HS]; · iexact HS
    iintro H0 H1 H2 H3 H4 H5 HS
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists d5; iexact H5
  · rw [Phi_pos m c t (by omega), norm_row m c t h0]
    by_cases h6 : t.val % 15 < 8
    · have hst : stored t = t := Fin.ext (by simp only [stored]; omega)
      rw [leaves_left_live m c t h6, leaves_right_idle m c t h6, hst, leftAt]
      iintro ⟨⟨HS, Hg⟩, Ho, ⟨%d0, H0⟩, ⟨%d1, H1⟩, ⟨%d2, H2⟩, ⟨%d3, H3⟩, ⟨%d4, H4⟩, ⟨%d5, H5⟩⟩
      rw [before_0, before_1, before_2, before_3]
      iapply (body_left c (grid0.coords t) _ _ _ _ _ _ _ _ _ _ _ _ _ _ (iblk m c 0 t) (iblk m c 1 t) (iblk m c 2 t)
        (iblk m c 3 t) _ _ (normAt m c t) _ (fun h => h0 ((first_iff t).mp h)) ((left_iff t).mpr h6)
        (fun h => by have := (right_iff t).mp h; omega))
      isplitl [H0]; · iexact H0
      isplitl [H1]; · iexact H1
      isplitl [H2]; · iexact H2
      isplitl [H3]; · iexact H3
      isplitl [H4]; · iexact H4
      isplitl [H5]; · iexact H5
      isplitl [HS]; · iexact HS
      iintro H0 H1 H2 H3 H4 H5 HS
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · have h6' : 8 ≤ t.val % 15 := by omega
      rw [leaves_right_live m c t h6', rightAt]
      iintro ⟨⟨HS, Hg⟩, Ho, ⟨%d0, H0⟩, ⟨%d1, H1⟩, ⟨%d2, H2⟩, ⟨%d3, H3⟩, ⟨%d4, H4⟩, ⟨%d5, H5⟩⟩
      rw [before_0, before_1, before_2, before_3, before_4 m c t h6']
      iapply (body_right c (grid0.coords t) _ _ _ _ _ _ _ _ _ _ _ _ _ _ (iblk m c 0 t) (iblk m c 1 t) (iblk m c 2 t)
        (iblk m c 3 t) _ _ (normAt m c t) _ (fun h => h0 ((first_iff t).mp h)) (fun h => h6 ((left_iff t).mp h))
        ((right_iff t).mpr h6'))
      isplitl [H0]; · iexact H0
      isplitl [H1]; · iexact H1
      isplitl [H2]; · iexact H2
      isplitl [H3]; · iexact H3
      isplitl [H4]; · iexact H4
      isplitl [H5]; · iexact H5
      isplitl [HS]; · iexact HS
      iintro H0 H1 H2 H3 H4 H5 HS
      ihave H4 := (leaves_left_idle m c t h6') $$ H4
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem phi_in (c : Dev nD) : Pipeline.ΦA spec0 c ⊢ (dats (F := F) m 0 c).Φ 0 := .rfl

theorem phi_out (c : Dev nD) : (dats (F := F) m 0 c).Φ (Fin.last cfg0.N) ⊢ Pipeline.ΦA spec0 c := by
  rw [show (dats (F := F) m 0 c).Φ (Fin.last cfg0.N) = Phi m c (Fin.last cfg0.N) from rfl]
  exact Phi_any m c _

set_option backward.isDefEq.respectTransparency.types false in
/-- From any memory with zero counters every execution ends, with every array at what the pipeline's data say and every
counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := host_run m Variants.none) (hA := A_eq m) (hin := phi_in m)
    (hout := phi_out m)

/-- What `run_main` leaves has the arguments unchanged. -/
theorem kept (c : Dev nD) (r) (h : Pipeline.FramePost cfgs (dats m) 0 (V m) r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨((h c).1 0).trans (((dats m 0 c).arrAt_in 0 rfl _).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The arguments end unchanged, the counters at zero. -/
theorem frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => kept m c r h.1, h.2⟩) (run_main m ρ)

end Cert.Kernel6Ideal.Hand
-- ==== Proof.Project6.lean ====
module

public import proofs.«01_k».proof.Defs
public import proofs.«01_k».proof.Proof.Mix
public import proofs.«01_k».proof.Proof.ProjectRun6
public import proofs.«01_k».proof.Proof.WordProjectRun6
public import Idealize.ShloMosaic.Lib.StableHlo.RunRead
public import Idealize.ShloMosaic.Lib.KernelVsHost
public import Idealize.ShloMosaic.Lib.Quiescent
public import proofs.«01_k».proof.Proof.Gen.Reference6Ideal.Run
public import proofs.«01_k».proof.Proof.Gen.Reference6Ideal.Read

/-!
# The projection in front of the sparse attention

Both results hold `projected`. The first has the columns of the queries (scaled), of the selected and of the sliding keys
and values; the second those of the output gates, of the branch gates group by group, and of the keys and values to compress.
-/

@[expose] public section

set_option maxRecDepth 16384

noncomputable section

namespace Cert.Kernel6Ideal.Hand

open Cert.Kernel6Ideal Cert.Kernel6Ideal.Gen
open Idealize.ShloMosaic Idealize.ShloMosaic.TcCoe Idealize.SL.Sem Cert.Mix

/-- The projection's weights. -/
abbrev InW := (⟨2, ![2048, 7216]⟩ : Shape).Idx → EReal

/-- The queries' scale. -/
abbrev scale : EReal := Ideal.ofBits .f32 0x3E0293EE#32

/-- The weights of a column of the first result. -/
def leftWeight (w : InW) (j : Fin 4096) (k : Fin 2048) : EReal :=
  w (ix2 k ⟨if j.val < 2048 then j.val else 1024 + j.val, by split <;> omega⟩)

/-- The weights of a branch gate: twelve of a group's columns hold gates, branch by branch and head by head within the
    group, and the others hold nothing. -/
def gateWeight (w : InW) (q : Fin 512) (k : Fin 2048) : EReal :=
  if h : q.val % 128 < 12 then
    w (ix2 k ⟨5120 + (q.val % 128 / 4 * 16 + q.val / 128 * 4 + q.val % 4), by have := q.isLt; omega⟩)
  else 0

/-- The weights of a column of the second result. -/
def rightWeight (w : InW) (j : Fin 3584) (k : Fin 2048) : EReal :=
  if _ : j.val < 2048 then w (ix2 k ⟨5168 + j.val, by omega⟩)
  else if _ : j.val < 2560 then gateWeight w ⟨j.val - 2048, by omega⟩ k
  else w (ix2 k ⟨j.val - 512, by omega⟩)

/-- The first result. -/
def left (x : Rows) (g : Gain) (w : InW) (i : (⟨2, ![16384, 4096]⟩ : Shape).Idx) : EReal :=
  projected x g (leftWeight w (i 1)) (i 0) * if (i 1).val < 2048 then scale else 1

/-- The second result. -/
def right (x : Rows) (g : Gain) (w : InW) (i : (⟨2, ![16384, 3584]⟩ : Shape).Idx) : EReal :=
  projected x g (rightWeight w (i 1)) (i 0)

theorem left_at (x : Rows) (g : Gain) (w : InW) (r : Fin 16384) (j : Fin 4096) :
    left x g w (ix2 r j) = projected x g (leftWeight w j) r * if j.val < 2048 then scale else 1 := rfl

theorem right_at (x : Rows) (g : Gain) (w : InW) (r : Fin 16384) (j : Fin 3584) :
    right x g w (ix2 r j) = projected x g (rightWeight w j) r := rfl

/-! ## The reordered weights -/

/-- The weights of the branch gates, regrouped and padded. -/
def gates (w : InW) : (⟨2, ![2048, 512]⟩ : Shape).Idx → EReal :=
  shapeCast S2048x512
    (pad S2048x4x128 ![0, 0, 0] ![0, 0, 116] ![0, 0, 0]
      (shapeCast S2048x4x12
        (transpose S2048x4x3x4 [0, 2, 1, 3]
          (shapeCast S2048x3x4x4 (extractStridedSlice S2048x48 ![0, 5120] w slices_S2048x7216_S2048x48_0_5120)
            shapeCasts_S2048x48_S2048x3x4x4)
          transposes_S2048x3x4x4_S2048x4x3x4_0_2_1_3)
        shapeCasts_S2048x4x3x4_S2048x4x12)
      (sitofp (F := Ideal) .f32 (constantI S_ 32 0#32)) pads_S2048x4x12_S2048x4x128_000_000_01160 h_S_)
    shapeCasts_S2048x4x128_S2048x512

/-- All the weights, in the order of the results' columns. -/
def weights (w : InW) : (⟨2, ![2048, 7680]⟩ : Shape).Idx → EReal :=
  concatenate S2048x7680 1
    [⟨S2048x2048, extractStridedSlice S2048x2048 ![0, 0] w slices_S2048x7216_S2048x2048_0_0⟩,
      ⟨S2048x2048, extractStridedSlice S2048x2048 ![0, 3072] w slices_S2048x7216_S2048x2048_0_3072⟩,
      ⟨S2048x2048, extractStridedSlice S2048x2048 ![0, 5168] w slices_S2048x7216_S2048x2048_0_5168⟩,
      ⟨S2048x512, gates w⟩,
      ⟨S2048x1024, extractStridedSlice S2048x1024 ![0, 2048] w slices_S2048x7216_S2048x1024_0_2048⟩]
    concatenates_S2048x2048_S2048x2048_S2048x2048_S2048x512_S2048x1024_S2048x7680_d1

/-- What fills the columns without a gate is zero. -/
theorem zero_pad : sitofp (F := Ideal) .f32 (constantI S_ 32 0#32) (Shape.Idx.first h_S_) = (0 : EReal) := by
  show (((0#32 : BitVec 32).toInt : ℝ) : EReal) = 0
  simp

theorem gates_apply (w : InW) (k : Fin 2048) (q : Fin 512) : gates w (ix2 k q) = gateWeight w q k := by
  have hk := k.isLt
  have hq := q.isLt
  unfold gates gateWeight
  refine (shapeCast_apply _ _ _ (ix3 k ⟨q.val / 128, by omega⟩ ⟨q.val % 128, by omega⟩) ?_).trans ?_
  · rw [Shape.rowMajor_val_three, Shape.rowMajor_val_two]
    show (k.val * 4 + q.val / 128) * 128 + q.val % 128 = k.val * 512 + q.val
    omega
  split
  next h =>
    refine (pad_apply_of_inside _ _ _ _ _ _ _ _ (ix3 k ⟨q.val / 128, by omega⟩ ⟨q.val % 128, h⟩) fun a => ?_).trans ?_
    · match a with
      | 0 => show k.val = 0 + k.val * (0 + 1); omega
      | 1 => show q.val / 128 = 0 + q.val / 128 * (0 + 1); omega
      | 2 => show q.val % 128 = 0 + q.val % 128 * (0 + 1); omega
    refine (shapeCast_apply _ _ _ (ix4 k ⟨q.val / 128, by omega⟩ ⟨q.val % 128 / 4, by omega⟩ ⟨q.val % 4, by omega⟩) ?_).trans ?_
    · rw [Shape.rowMajor_val_four, Shape.rowMajor_val_three]
      show ((k.val * 4 + q.val / 128) * 3 + q.val % 128 / 4) * 4 + q.val % 4 = (k.val * 4 + q.val / 128) * 12 + q.val % 128
      omega
    refine (transpose_apply _ _ _ _ (ix4 k ⟨q.val % 128 / 4, by omega⟩ ⟨q.val / 128, by omega⟩ ⟨q.val % 4, by omega⟩)
      fun b => ?_).trans ?_
    · match b with | 0 => rfl | 1 => rfl | 2 => rfl | 3 => rfl
    refine (shapeCast_apply _ _ _ (ix2 k ⟨q.val % 128 / 4 * 16 + q.val / 128 * 4 + q.val % 4, by omega⟩) ?_).trans ?_
    · rw [Shape.rowMajor_val_two, Shape.rowMajor_val_four]
      show k.val * 48 + (q.val % 128 / 4 * 16 + q.val / 128 * 4 + q.val % 4)
        = ((k.val * 3 + q.val % 128 / 4) * 4 + q.val / 128) * 4 + q.val % 4
      omega
    refine extractStridedSlice_apply _ _ _ _ _ fun a => ?_
    match a with
    | 0 => exact (Nat.zero_add _).symm
    | 1 => rfl
  next h =>
    refine (pad_apply_of_not_inside _ _ _ _ _ _ _ _ 2 fun hin => h ?_).trans ?_
    · have h2 : (q.val % 128 - 0) / (0 + 1) < 12 := hin.2.2
      omega
    · exact zero_pad

theorem weights_left (w : InW) (k : Fin 2048) (j : Fin 4096) :
    weights w (ix2 k ⟨j.val, by omega⟩) = leftWeight w j k := by
  have hj := j.isLt
  unfold weights leftWeight
  by_cases h : j.val < 2048
  · refine Eq.trans (concatenate_apply_piece _ _ _ _ 0 (by simp) S2048x2048
      (extractStridedSlice S2048x2048 ![0, 0] w slices_S2048x7216_S2048x2048_0_0) (by rfl) (by rfl) 0 (by rfl)
      (ix2 k ⟨j.val, h⟩) (fun b hb => ?_) (by exact Nat.zero_add _)) ?_
    · match b with | 0 => rfl | 1 => exact absurd rfl hb
    refine extractStridedSlice_apply _ _ _ _ _ fun a => ?_
    match a with
    | 0 => exact (Nat.zero_add _).symm
    | 1 => show (if j.val < 2048 then j.val else 1024 + j.val) = 0 + j.val; rw [if_pos h]; omega
  · refine Eq.trans (concatenate_apply_piece _ _ _ _ 1 (by simp) S2048x2048
      (extractStridedSlice S2048x2048 ![0, 3072] w slices_S2048x7216_S2048x2048_0_3072) (by rfl) (by rfl) 2048 (by rfl)
      (ix2 k ⟨j.val - 2048, by omega⟩) (fun b hb => ?_) ?_) ?_
    · match b with | 0 => rfl | 1 => exact absurd rfl hb
    · show 2048 + (j.val - 2048) = j.val; omega
    refine extractStridedSlice_apply _ _ _ _ _ fun a => ?_
    match a with
    | 0 => exact (Nat.zero_add _).symm
    | 1 => show (if j.val < 2048 then j.val else 1024 + j.val) = 3072 + (j.val - 2048); rw [if_neg h]; omega

theorem weights_right (w : InW) (k : Fin 2048) (j : Fin 3584) :
    weights w (ix2 k ⟨4096 + j.val, by omega⟩) = rightWeight w j k := by
  have hj := j.isLt
  unfold weights rightWeight
  split
  next h =>
    refine Eq.trans (concatenate_apply_piece _ _ _ _ 2 (by simp) S2048x2048
      (extractStridedSlice S2048x2048 ![0, 5168] w slices_S2048x7216_S2048x2048_0_5168) (by rfl) (by rfl) 4096 (by rfl)
      (ix2 k ⟨j.val, h⟩) (fun b hb => ?_) ?_) ?_
    · match b with | 0 => rfl | 1 => exact absurd rfl hb
    · show 4096 + j.val = 4096 + j.val; rfl
    refine extractStridedSlice_apply _ _ _ _ _ fun a => ?_
    match a with
    | 0 => exact (Nat.zero_add _).symm
    | 1 => rfl
  next h =>
    split
    next h' =>
      refine Eq.trans (concatenate_apply_piece _ _ _ _ 3 (by simp) S2048x512 (gates w) (by rfl) (by rfl) 6144 (by rfl)
        (ix2 k ⟨j.val - 2048, by omega⟩) (fun b hb => ?_) ?_) (gates_apply w k _)
      · match b with | 0 => rfl | 1 => exact absurd rfl hb
      · show 6144 + (j.val - 2048) = 4096 + j.val; omega
    next h' =>
      refine Eq.trans (concatenate_apply_piece _ _ _ _ 4 (by simp) S2048x1024
        (extractStridedSlice S2048x1024 ![0, 2048] w slices_S2048x7216_S2048x1024_0_2048) (by rfl) (by rfl) 6656 (by rfl)
        (ix2 k ⟨j.val - 2560, by omega⟩) (fun b hb => ?_) ?_) ?_
      · match b with | 0 => rfl | 1 => exact absurd rfl hb
      · show 6656 + (j.val - 2560) = 4096 + j.val; omega
      rw [show (⟨j.val - 512, by omega⟩ : Fin 7216) = ⟨2048 + (j.val - 2560), by omega⟩ from Fin.ext (by dsimp only; omega)]
      refine extractStridedSlice_apply _ _ _ _ _ fun a => ?_
      match a with
      | 0 => exact (Nat.zero_add _).symm
      | 1 => rfl

variable (m : (ℓ : Loc nD τ sig) → Buf (Elt Ideal) ℓ) (c : Dev nD)

abbrev xs : Rows := m ((c.tc : Thread nD τ).loc main_arg0)
abbrev gs : Gain := m ((c.tc : Thread nD τ).loc main_arg1)
abbrev ws : InW := m ((c.tc : Thread nD τ).loc main_arg2)

theorem V_g : (V m c main_v16 : (⟨2, ![1, 2048]⟩ : Shape).Idx → EReal) = shapeCast S1x2048 (gs m c) shapeCasts_S2048_S1x2048 := by
  show StableHlo.after (hostOps0 ++ (hostOps0_1 ++ (hostOps0_2 ++ []))) (fun b => m (c, b)) (Proc.devRef .tc main_v16) = _
  after_reads_simp
  rfl

theorem V_w : (V m c main_v15 : (⟨3, ![1, 2048, 7680]⟩ : Shape).Idx → EReal)
    = broadcastInDim S1x2048x7680 ![1, 2] bcast_S2048x7680_S1x2048x7680_1_2 (weights (ws m c)) := by
  show StableHlo.after (hostOps0 ++ (hostOps0_1 ++ (hostOps0_2 ++ []))) (fun b => m (c, b)) (Proc.devRef .tc main_v15) = _
  after_reads_simp
  rfl

/-- The factors of the columns. -/
def factors : (⟨1, ![7680]⟩ : Shape).Idx → EReal :=
  concatenate S7680 0 [⟨S2048, fun _ => scale⟩, ⟨S5632, fun _ => Ideal.ofBits .f32 0x3F800000#32⟩] concatenates_S2048_S5632_S7680_d0

theorem factors_apply (j : Fin 7680) : factors (ix1 j) = if j.val < 2048 then scale else 1 := by
  have h := j.isLt
  unfold factors
  split
  next hj =>
    exact concatenate_apply_piece _ _ _ _ 0 (by simp) S2048 (fun _ => scale) (by rfl) (by rfl) 0 (by rfl)
      (ix1 ⟨j.val, hj⟩) (fun b hb => by match b with | 0 => exact absurd rfl hb) (by exact Nat.zero_add _)
  next hj =>
    refine Eq.trans (concatenate_apply_piece _ _ _ _ 1 (by simp) S5632
      (fun _ => Ideal.ofBits .f32 0x3F800000#32) (by rfl) (by rfl) 2048 (by rfl) (ix1 ⟨j.val - 2048, by omega⟩)
      (fun b hb => by match b with | 0 => exact absurd rfl hb) ?_) Ideal.ofBits_one_f32
    show 2048 + (j.val - 2048) = j.val
    omega

theorem V_s : (V m c main_v17 : (⟨2, ![1, 7680]⟩ : Shape).Idx → EReal) = shapeCast S1x7680 factors shapeCasts_S7680_S1x7680 := by
  show StableHlo.after (hostOps0 ++ (hostOps0_1 ++ (hostOps0_2 ++ []))) (fun b => m (c, b)) (Proc.devRef .tc main_v17) = _
  after_reads_simp
  rfl

/-- Where the blocks of a point lie. -/
theorem index_facts : ∀ t : Fin grid0.N,
    (win0_0.index t 0 = t.val / 15 ∧ win0_0.index t 1 = 0)
    ∧ (win0_1.index t 0 = 0 ∧ win0_1.index t 1 = 0)
    ∧ (win0_2.index t 0 = 0 ∧ win0_2.index t 1 = 0 ∧ win0_2.index t 2 = t.val % 15)
    ∧ (win0_3.index t 0 = 0 ∧ win0_3.index t 1 = t.val % 15)
    ∧ (win0_4.index t 0 = t.val / 15 ∧ win0_4.index t 1 = min (t.val % 15) 7)
    ∧ (win0_5.index t 0 = t.val / 15 ∧ win0_5.index t 1 = t.val % 15 - 8) := by
  decide +kernel

theorem size_left : ∀ t : Fin grid0.N, ∀ a, win0_4.xsize (grid0.coords t) a = S1024x512.size a := by decide +kernel
theorem size_right : ∀ t : Fin grid0.N, ∀ a, win0_5.xsize (grid0.coords t) a = S1024x512.size a := by decide +kernel

theorem point_lt (t : Fin cfg0.N) : t.val < 240 := t.isLt

/-- The row and the column of a point's element. -/
abbrev rowOf (t : Fin cfg0.N) (r : Fin 1024) : Fin 16384 := ⟨1024 * (t.val / 15) + r.val, by have := point_lt t; omega⟩
abbrev colOf (t : Fin cfg0.N) (j : Fin 512) : Fin 7680 := ⟨512 * (t.val % 15) + j.val, by omega⟩

theorem x_block (t : Fin cfg0.N) (r : Fin 1024) (k : Fin 2048) :
    iblk m c 0 t (ix2 r k) = xs m c (ix2 (rowOf t r) k) := by
  have e := (index_facts t).1
  unfold iblk
  refine (congrFun (V_main_arg0 m c) _).trans (congrArg (xs m c) (funext fun a => Fin.ext ?_))
  match a with
  | 0 => show win0_0.index t 0 * 1024 + 1 * r.val = 1024 * (t.val / 15) + r.val; rw [e.1]; omega
  | 1 => show win0_0.index t 1 * 2048 + 1 * k.val = k.val; rw [e.2]; omega

theorem g_block (t : Fin cfg0.N) (j : Fin 2048) : iblk m c 1 t (ix2 0 j) = gs m c (ix1 j) := by
  have e := (index_facts t).2.1
  unfold iblk
  refine (congrFun (V_g m c) _).trans (shapeCast_apply (gs m c) _ _ _ ?_)
  rw [Shape.rowMajor_val_one, Shape.rowMajor_val_two]
  show j.val = (win0_1.index t 0 * 1 + 1 * 0) * 2048 + (win0_1.index t 1 * 2048 + 1 * j.val)
  rw [e.1, e.2]
  omega

theorem w_block (t : Fin cfg0.N) (k : Fin 2048) (j : Fin 512) :
    iblk m c 2 t (ix3 0 k j) = weights (ws m c) (ix2 k (colOf t j)) := by
  have e := (index_facts t).2.2.1
  unfold iblk
  refine (congrFun (V_w m c) _).trans (broadcastInDim_apply _ _ _ _ (ix2 k (colOf t j)) fun a => ?_)
  match a with
  | 0 => show k.val = win0_2.index t 1 * 2048 + 1 * k.val; rw [e.2.1]; omega
  | 1 => show 512 * (t.val % 15) + j.val = win0_2.index t 2 * 512 + 1 * j.val; rw [e.2.2]; omega

theorem s_block (t : Fin cfg0.N) (j : Fin 512) :
    iblk m c 3 t (ix2 0 j) = if (colOf t j).val < 2048 then scale else 1 := by
  have e := (index_facts t).2.2.2.1
  unfold iblk
  refine (congrFun (V_s m c) _).trans ((shapeCast_apply factors _ _ (ix1 (colOf t j)) ?_).trans (factors_apply _))
  rw [Shape.rowMajor_val_one, Shape.rowMajor_val_two]
  show 512 * (t.val % 15) + j.val = (win0_3.index t 0 * 1 + 1 * 0) * 7680 + (win0_3.index t 1 * 512 + 1 * j.val)
  rw [e.1, e.2]
  omega

theorem pay1_apply (x : Vec Ideal S1024x2048 .f32) (g : Vec Ideal S1x2048 .f32) (h : Gain)
    (hg : ∀ j, g (ix2 0 j) = h (ix1 j)) (r : Fin 1024) (k : Fin 2048) :
    k0_pay1 x g (ix2 r k) = normed (fun l => x (ix2 r l)) h k := by
  pointwise [k0_pay1]
  rw [hg]
  unfold normed
  rfl

theorem pay2_apply (n : Vec Ideal S1024x2048 .bf16) (w : Vec Ideal S1x2048x512 .bf16) (s : Vec Ideal S1x512 .f32)
    (r : Fin 1024) (j : Fin 512) : k0_pay2 n w s (ix2 r j) = (∑ k : Fin 2048, n (ix2 r k) * w (ix3 0 k j)) * s (ix2 0 j) := by
  pointwise [k0_pay2]

theorem pay3_apply (n : Vec Ideal S1024x2048 .bf16) (w : Vec Ideal S1x2048x512 .bf16) (s : Vec Ideal S1x512 .f32)
    (r : Fin 1024) (j : Fin 512) : k0_pay3 n w s (ix2 r j) = (∑ k : Fin 2048, n (ix2 r k) * w (ix3 0 k j)) * s (ix2 0 j) := by
  pointwise [k0_pay3]

/-- The scratch's rows are the stream's, normalised. -/
theorem normAt_apply (t : Fin cfg0.N) (r : Fin 1024) (k : Fin 2048) :
    normAt m c t (ix2 r k) = normed (fun l => xs m c (ix2 (rowOf t r) l)) (gs m c) k := by
  have hr : rowOf (row t) r = rowOf t r := Fin.ext (by simp only [row]; omega)
  unfold normAt
  rw [pay1_apply _ _ (gs m c) (g_block m c _)]
  congr 1
  funext l
  rw [x_block, hr]

theorem left_apply (t : Fin cfg0.N) (h : t.val % 15 < 8) (r : Fin 1024) (j : Fin 512) :
    leftAt m c t (ix2 r j) = left (xs m c) (gs m c) (ws m c)
      (ix2 (rowOf t r) ⟨512 * (t.val % 15) + j.val, by omega⟩) := by
  unfold leftAt
  rw [pay2_apply, s_block, left_at]
  exact congrArg (fun a : EReal => a * _) (Finset.sum_congr rfl fun k _ => by
    rw [normAt_apply, w_block]
    exact congrArg (fun a : EReal => _ * a) (weights_left (ws m c) k ⟨512 * (t.val % 15) + j.val, by omega⟩))

theorem right_apply (t : Fin cfg0.N) (h : 8 ≤ t.val % 15) (r : Fin 1024) (j : Fin 512) :
    rightAt m c t (ix2 r j) = right (xs m c) (gs m c) (ws m c)
      (ix2 (rowOf t r) ⟨512 * (t.val % 15 - 8) + j.val, by omega⟩) := by
  have hj : ¬ (colOf t j).val < 2048 := by show ¬ 512 * (t.val % 15) + j.val < 2048; omega
  unfold rightAt
  rw [pay3_apply, s_block, if_neg hj, mul_one, right_at]
  have hc : colOf t j = ⟨4096 + (512 * (t.val % 15 - 8) + j.val), by omega⟩ :=
    Fin.ext (by show 512 * (t.val % 15) + j.val = 4096 + (512 * (t.val % 15 - 8) + j.val); omega)
  exact Finset.sum_congr rfl fun k _ => by
    rw [normAt_apply, w_block, hc]
    exact congrArg (fun a : EReal => _ * a) (weights_right (ws m c) k ⟨512 * (t.val % 15 - 8) + j.val, by omega⟩)

theorem flushed_left (t : Fin cfg0.N) :
    (dats m 0 c).flushed 4 t = (win0_4.blk t).view.read (Elt Ideal) (left (xs m c) (gs m c) (ws m c)) := by
  show (cfg0.win 4).cut (grid0.coords t) ((dats m 0 c).after 4 t) = _
  rw [after_4]
  refine funext fun y : (⟨2, ![1024, 512]⟩ : Shape).Idx => ?_
  obtain ⟨r, j, rfl⟩ : ∃ (r : Fin 1024) (j : Fin 512), y = ix2 r j := ⟨y 0, y 1, funext fun a => by match a with | 0 => rfl | 1 => rfl⟩
  have e := (index_facts t).2.2.2.2.1
  have hs : (stored t).val % 15 = min (t.val % 15) 7 ∧ (stored t).val / 15 = t.val / 15 := by simp only [stored]; omega
  refine (left_apply m c (stored t) (by omega) r j).trans (congrArg (left _ _ _) (funext fun a => Fin.ext ?_))
  match a with
  | 0 => show 1024 * ((stored t).val / 15) + r.val = win0_4.index t 0 * 1024 + 1 * r.val; rw [e.1, hs.2]; omega
  | 1 => show 512 * ((stored t).val % 15) + j.val = win0_4.index t 1 * 512 + 1 * j.val; rw [e.2, hs.1]; omega

theorem flushed_right (t : Fin cfg0.N) (h : (cfg0.win 5).flush t = true) :
    (dats m 0 c).flushed 5 t = (win0_5.blk t).view.read (Elt Ideal) (right (xs m c) (gs m c) (ws m c)) := by
  rw [flush_right, decide_eq_true_eq] at h
  show (cfg0.win 5).cut (grid0.coords t) ((dats m 0 c).after 5 t) = _
  rw [after_5]
  refine funext fun y : (⟨2, ![1024, 512]⟩ : Shape).Idx => ?_
  obtain ⟨r, j, rfl⟩ : ∃ (r : Fin 1024) (j : Fin 512), y = ix2 r j := ⟨y 0, y 1, funext fun a => by match a with | 0 => rfl | 1 => rfl⟩
  have e := (index_facts t).2.2.2.2.2
  refine (right_apply m c t h r j).trans (congrArg (right _ _ _) (funext fun a => Fin.ext ?_))
  match a with
  | 0 => show 1024 * (t.val / 15) + r.val = win0_5.index t 0 * 1024 + 1 * r.val; rw [e.1]; omega
  | 1 => show 512 * (t.val % 15 - 8) + j.val = win0_5.index t 1 * 512 + 1 * j.val; rw [e.2]; omega

/-- Every element of the first result is in some point's block. -/
theorem cover_left (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  obtain ⟨n, hn, hq, hm, hf⟩ : ∃ n, n < 240 ∧ n / 15 = (i 0).val / 1024 ∧ min (n % 15) 7 = (i 1).val / 512
      ∧ (n % 15 < 7 ∨ n % 15 = 14) :=
    if hb : (i 1).val < 3584 then ⟨15 * ((i 0).val / 1024) + (i 1).val / 512, by omega, by omega, by omega, by omega⟩
    else ⟨15 * ((i 0).val / 1024) + 14, by omega, by omega, by omega, by omega⟩
  refine ⟨⟨n, hn⟩, by rw [flush_left]; exact decide_eq_true hf, ?_⟩
  show i ∈ ((View.whole main_v18_0).slice (win0_4.rect ⟨n, hn⟩)).set
  rw [View.set_slice_whole, Rect.mem_set_unit]
  obtain ⟨e0, e1⟩ := (index_facts ⟨n, hn⟩).2.2.2.2.1
  have hs := size_left ⟨n, hn⟩
  dsimp only at e0 e1
  intro a
  show win0_4.index ⟨n, hn⟩ a * win0_4.size a ≤ (i a : Nat) ∧ (i a : Nat) < win0_4.index ⟨n, hn⟩ a * win0_4.size a + win0_4.xsize (grid0.coords ⟨n, hn⟩) a
  rw [hs a]
  match a with
  | 0 =>
    show win0_4.index ⟨n, hn⟩ 0 * 1024 ≤ (i 0).val ∧ (i 0).val < win0_4.index ⟨n, hn⟩ 0 * 1024 + 1024
    rw [e0]; omega
  | 1 =>
    show win0_4.index ⟨n, hn⟩ 1 * 512 ≤ (i 1).val ∧ (i 1).val < win0_4.index ⟨n, hn⟩ 1 * 512 + 512
    rw [e1]; omega

/-- Every element of the second result is in some point's block. -/
theorem cover_right (i : S16384x3584.Idx) :
    ∃ t : Fin cfg0.N, (cfg0.win 5).flush t = true ∧ i ∈ ((cfg0.win 5).blk t).view.set := by
  have h0 : (i 0).val < 16384 := (i 0).isLt
  have h1 : (i 1).val < 3584 := (i 1).isLt
  obtain ⟨n, hn, hq, hm, hf⟩ : ∃ n, n < 240 ∧ n / 15 = (i 0).val / 1024 ∧ n % 15 - 8 = (i 1).val / 512 ∧ 8 ≤ n % 15 :=
    ⟨15 * ((i 0).val / 1024) + (8 + (i 1).val / 512), by omega, by omega, by omega, by omega⟩
  refine ⟨⟨n, hn⟩, by rw [flush_right]; exact decide_eq_true hf, ?_⟩
  show i ∈ ((View.whole main_v18_1).slice (win0_5.rect ⟨n, hn⟩)).set
  rw [View.set_slice_whole, Rect.mem_set_unit]
  obtain ⟨e0, e1⟩ := (index_facts ⟨n, hn⟩).2.2.2.2.2
  have hs := size_right ⟨n, hn⟩
  dsimp only at e0 e1
  intro a
  show win0_5.index ⟨n, hn⟩ a * win0_5.size a ≤ (i a : Nat) ∧ (i a : Nat) < win0_5.index ⟨n, hn⟩ a * win0_5.size a + win0_5.xsize (grid0.coords ⟨n, hn⟩) a
  rw [hs a]
  match a with
  | 0 =>
    show win0_5.index ⟨n, hn⟩ 0 * 1024 ≤ (i 0).val ∧ (i 0).val < win0_5.index ⟨n, hn⟩ 0 * 1024 + 1024
    rw [e0]; omega
  | 1 =>
    show win0_5.index ⟨n, hn⟩ 1 * 512 ≤ (i 1).val ∧ (i 1).val < win0_5.index ⟨n, hn⟩ 1 * 512 + 512
    rw [e1]; omega

theorem final_left : (dats m 0 c).arrAt 4 cfg0.N = left (xs m c) (gs m c) (ws m c) :=
  (dats m 0 c).arrAt_eq_of_cover 4 _ (fun t _ => flushed_left m c t) cover_left

theorem final_right : (dats m 0 c).arrAt 5 cfg0.N = right (xs m c) (gs m c) (ws m c) :=
  (dats m 0 c).arrAt_eq_of_cover 5 _ (fun t h => flushed_right m c t h) cover_right

end Cert.Kernel6Ideal.Hand

namespace Cert.Reference6Ideal.Hand

open Cert.Reference6Ideal Cert.Reference6Ideal.Gen Cert.Reference6Ideal.Read
open Idealize.ShloMosaic Cert.Mix
open Cert.Kernel6Ideal.Hand (InW left right scale leftWeight gateWeight rightWeight)

variable (x : Rows) (g : Gain) (w : InW)

theorem sum_apply (r : Fin 16384) :
    val_main_v1 (F := Ideal) x (ix1 r) = ∑ k : Fin 2048, x (ix2 r k) * x (ix2 r k) := by
  have e0 : (FloatOps.ofBits (F := Ideal) .f32 0x00000000#32) = (0 : EReal) := Ideal.ofBits_zero_f32
  rw [val_main_v1_apply, val_main_cst_apply, e0, zero_add]
  refine Finset.sum_congr rfl fun k _ => ?_
  have e1 : idx_main_v1 (ix1 r) k = ix2 r k := by funext a; match a with | 0 => rfl | 1 => rfl
  rw [e1, val_main_v0_apply]
  rfl

theorem normed_apply (r : Fin 16384) (k : Fin 2048) :
    val_main_v12 (F := Ideal) x g (ix2 r k) = normed (fun l => x (ix2 r l)) g k := by
  have e1 : idx_main_v2 (idx_main_v8 (ix2 r k)) = ix1 r := by
    funext a; match a with | 0 => exact Fin.ext (by dsimp only [idx_main_v2, idx_main_v8, ix1, ix2])
  have e2 : idx_main_v10 (idx_main_v11 (ix2 r k)) = ix1 k := by
    funext a; match a with | 0 => exact Fin.ext (by dsimp only [idx_main_v10, idx_main_v11, ix1, ix2])
  simp only [val_main_v12_apply, val_main_v11_apply, val_main_v10_apply, val_main_v9_apply, val_main_v8_apply,
    val_main_v7_apply, val_main_v6_apply, val_main_v5_apply, val_main_cst_1_apply, val_main_v4_apply, val_main_v3_apply,
    val_main_cst_0_apply, val_main_v2_apply, e1, e2, sum_apply]
  unfold normed
  rfl

theorem projected_apply (r : Fin 16384) (j : Fin 7216) :
    val_main_v13 (F := Ideal) x g w (ix2 r j) = projected x g (fun k => w (ix2 k j)) r := by
  rw [val_main_v13_apply]
  refine Finset.sum_congr rfl fun k _ => ?_
  have e1 : lidx_main_v13 (ix2 r j) k = ix2 r k := by funext a; match a with | 0 => rfl | 1 => rfl
  have e2 : ridx_main_v13 (ix2 r j) k = ix2 k j := by funext a; match a with | 0 => rfl | 1 => rfl
  rw [e1, e2, normed_apply]

/-- A group's twelve gates, padded, are the projection by `gateWeight`. -/
theorem gates_apply (r : Fin 16384) (q : Fin 512) :
    val_main_v29 (F := Ideal) x g w (ix2 r q) = projected x g (gateWeight w q) r := by
  have hr := r.isLt
  have hq := q.isLt
  rw [val_main_v29_apply, show idx_main_v29 (ix2 r q) = ix3 r ⟨q.val / 128, by omega⟩ ⟨q.val % 128, by omega⟩ from by
    funext a
    match a with
    | 0 => exact Fin.ext (by show (r.val * 512 + q.val) / 512 = r.val; omega)
    | 1 => exact Fin.ext (by show (r.val * 512 + q.val) / 128 % 4 = q.val / 128; omega)
    | 2 => exact Fin.ext (by show (r.val * 512 + q.val) % 128 = q.val % 128; omega)]
  unfold val_main_v28
  by_cases h : q.val % 128 < 12
  · refine (pad_apply_of_inside _ _ _ _ _ _ _ _ (ix3 r ⟨q.val / 128, by omega⟩ ⟨q.val % 128, h⟩) fun a => ?_).trans ?_
    · match a with
      | 0 => show r.val = 0 + r.val * (0 + 1); omega
      | 1 => show q.val / 128 = 0 + q.val / 128 * (0 + 1); omega
      | 2 => show q.val % 128 = 0 + q.val % 128 * (0 + 1); omega
    rw [val_main_v27_apply, show idx_main_v27 (ix3 r ⟨q.val / 128, by omega⟩ ⟨q.val % 128, h⟩)
        = ix4 r ⟨q.val / 128, by omega⟩ ⟨q.val % 128 / 4, by omega⟩ ⟨q.val % 4, by omega⟩ from by
      funext a
      match a with
      | 0 => exact Fin.ext (by show ((r.val * 4 + q.val / 128) * 12 + q.val % 128) / 48 = r.val; omega)
      | 1 => exact Fin.ext (by show ((r.val * 4 + q.val / 128) * 12 + q.val % 128) / 12 % 4 = q.val / 128; omega)
      | 2 => exact Fin.ext (by show ((r.val * 4 + q.val / 128) * 12 + q.val % 128) / 4 % 3 = q.val % 128 / 4; omega)
      | 3 => exact Fin.ext (by show ((r.val * 4 + q.val / 128) * 12 + q.val % 128) % 4 = q.val % 4; omega),
      val_main_v26_apply, show idx_main_v26 (ix4 r ⟨q.val / 128, by omega⟩ ⟨q.val % 128 / 4, by omega⟩ ⟨q.val % 4, by omega⟩)
        = ix4 r ⟨q.val % 128 / 4, by omega⟩ ⟨q.val / 128, by omega⟩ ⟨q.val % 4, by omega⟩ from by
      funext a; match a with | 0 => rfl | 1 => rfl | 2 => rfl | 3 => rfl,
      val_main_v25_apply, show idx_main_v25 (ix4 r ⟨q.val % 128 / 4, by omega⟩ ⟨q.val / 128, by omega⟩ ⟨q.val % 4, by omega⟩)
        = ix2 r ⟨q.val % 128 / 4 * 16 + q.val / 128 * 4 + q.val % 4, by omega⟩ from by
      funext a
      match a with
      | 0 => exact Fin.ext (by
          show (((r.val * 3 + q.val % 128 / 4) * 4 + q.val / 128) * 4 + q.val % 4) / 48 = r.val; omega)
      | 1 => exact Fin.ext (by
          show (((r.val * 3 + q.val % 128 / 4) * 4 + q.val / 128) * 4 + q.val % 4) % 48
            = q.val % 128 / 4 * 16 + q.val / 128 * 4 + q.val % 4
          omega),
      val_main_v21_apply, show idx_main_v21 (ix2 r ⟨q.val % 128 / 4 * 16 + q.val / 128 * 4 + q.val % 4, by omega⟩)
        = ix2 r ⟨5120 + (q.val % 128 / 4 * 16 + q.val / 128 * 4 + q.val % 4), by omega⟩ from by
      funext a; match a with | 0 => rfl | 1 => rfl, projected_apply]
    exact congrArg (fun v => projected x g v r) (funext fun k => by unfold gateWeight; rw [dif_pos h])
  · refine (pad_apply_of_not_inside _ _ _ _ _ _ _ _ 2 fun hin => h ?_).trans ?_
    · have h2 : (q.val % 128 - 0) / (0 + 1) < 12 := hin.2.2
      omega
    · refine Eq.trans (Cert.Kernel6Ideal.Hand.zero_pad) (Eq.symm (Finset.sum_eq_zero fun k _ => ?_))
      rw [show gateWeight w q k = 0 from dif_neg h, mul_zero]

theorem right_eq : val_main_v32 (F := Ideal) x g w = right x g w := by
  refine funext fun i : (⟨2, ![16384, 3584]⟩ : Shape).Idx => ?_
  obtain ⟨r, j, rfl⟩ : ∃ (r : Fin 16384) (j : Fin 3584), i = ix2 r j :=
    ⟨i 0, i 1, funext fun a => by match a with | 0 => rfl | 1 => rfl⟩
  have hj := j.isLt
  rw [Cert.Kernel6Ideal.Hand.right_at]
  unfold val_main_v32
  by_cases h : j.val < 2048
  · refine Eq.trans (concatenate_apply_piece _ _ _ _ 0 (by simp) S16384x2048 (val_main_v22 (F := Ideal) x g w)
      (by rfl) (by rfl) 0 (by rfl) (ix2 r ⟨j.val, h⟩) (fun b hb => ?_) ?_) ?_
    · match b with | 0 => rfl | 1 => exact absurd rfl hb
    · show 0 + j.val = j.val; omega
    · rw [val_main_v22_apply, show idx_main_v22 (ix2 r ⟨j.val, h⟩) = ix2 r ⟨5168 + j.val, by omega⟩ from by
        funext a; match a with | 0 => rfl | 1 => rfl, projected_apply]
      exact congrArg (fun v => projected x g v r) (funext fun k => by unfold rightWeight; rw [dif_pos h])
  · by_cases h' : j.val < 2560
    · refine Eq.trans (concatenate_apply_piece _ _ _ _ 1 (by simp) S16384x512 (val_main_v29 (F := Ideal) x g w)
        (by rfl) (by rfl) 2048 (by rfl) (ix2 r ⟨j.val - 2048, by omega⟩) (fun b hb => ?_) ?_) ?_
      · match b with | 0 => rfl | 1 => exact absurd rfl hb
      · show 2048 + (j.val - 2048) = j.val; omega
      · rw [gates_apply]
        exact congrArg (fun v => projected x g v r) (funext fun k => ((dif_neg h).trans (dif_pos h')).symm)
    · have e : ∀ k, rightWeight w j k = w (ix2 k ⟨j.val - 512, by omega⟩) := fun k => (dif_neg h).trans (dif_neg h')
      by_cases h'' : j.val < 3072
      · refine Eq.trans (concatenate_apply_piece _ _ _ _ 2 (by simp) S16384x512 (val_main_v15 (F := Ideal) x g w)
          (by rfl) (by rfl) 2560 (by rfl) (ix2 r ⟨j.val - 2560, by omega⟩) (fun b hb => ?_) ?_) ?_
        · match b with | 0 => rfl | 1 => exact absurd rfl hb
        · show 2560 + (j.val - 2560) = j.val; omega
        · rw [val_main_v15_apply, show idx_main_v15 (ix2 r ⟨j.val - 2560, by omega⟩) = ix2 r ⟨j.val - 512, by omega⟩ from by
            funext a; match a with | 0 => rfl | 1 => exact Fin.ext (by show 2048 + (j.val - 2560) = j.val - 512; omega),
            projected_apply]
          exact congrArg (fun v => projected x g v r) (funext fun k => (e k).symm)
      · refine Eq.trans (concatenate_apply_piece _ _ _ _ 3 (by simp) S16384x512 (val_main_v16 (F := Ideal) x g w)
          (by rfl) (by rfl) 3072 (by rfl) (ix2 r ⟨j.val - 3072, by omega⟩) (fun b hb => ?_) ?_) ?_
        · match b with | 0 => rfl | 1 => exact absurd rfl hb
        · show 3072 + (j.val - 3072) = j.val; omega
        · rw [val_main_v16_apply, show idx_main_v16 (ix2 r ⟨j.val - 3072, by omega⟩) = ix2 r ⟨j.val - 512, by omega⟩ from by
            funext a; match a with | 0 => rfl | 1 => exact Fin.ext (by show 2560 + (j.val - 3072) = j.val - 512; omega),
            projected_apply]
          exact congrArg (fun v => projected x g v r) (funext fun k => (e k).symm)

theorem left_eq : val_main_v31 (F := Ideal) x g w = left x g w := by
  refine funext fun i : (⟨2, ![16384, 4096]⟩ : Shape).Idx => ?_
  obtain ⟨r, j, rfl⟩ : ∃ (r : Fin 16384) (j : Fin 4096), i = ix2 r j :=
    ⟨i 0, i 1, funext fun a => by match a with | 0 => rfl | 1 => rfl⟩
  have hj := j.isLt
  rw [val_main_v31_apply, Cert.Kernel6Ideal.Hand.left_at]
  show val_main_v30 (F := Ideal) x g w (ix2 r j) = _
  unfold val_main_v30
  by_cases hq : j.val < 2048
  · have e : leftWeight w j = fun k => w (ix2 k ⟨j.val, by omega⟩) := funext fun k =>
      congrArg (fun n => w (ix2 k n)) (Fin.ext (if_pos hq))
    rw [if_pos hq, e]
    refine Eq.trans (concatenate_apply_piece _ _ _ _ 0 (by simp) S16384x2048 (val_main_v24 (F := Ideal) x g w)
      (by rfl) (by rfl) 0 (by rfl) (ix2 r ⟨j.val, hq⟩) (fun b hb => ?_) ?_) ?_
    · match b with | 0 => rfl | 1 => exact absurd rfl hb
    · show 0 + j.val = j.val; omega
    · rw [val_main_v24_apply, val_main_v23_apply, val_main_cst_2_apply, val_main_v14_apply,
        show idx_main_v14 (ix2 r ⟨j.val, hq⟩) = ix2 r ⟨j.val, by omega⟩ from by
          funext a; match a with | 0 => rfl | 1 => rfl, projected_apply]
      rfl
  · have e : leftWeight w j = fun k => w (ix2 k ⟨1024 + j.val, by omega⟩) := funext fun k =>
      congrArg (fun n => w (ix2 k n)) (Fin.ext (if_neg hq))
    rw [if_neg hq, mul_one, e]
    by_cases h0 : j.val < 2560
    · refine Eq.trans (concatenate_apply_piece _ _ _ _ 1 (by simp) S16384x512 (val_main_v17 (F := Ideal) x g w)
        (by rfl) (by rfl) 2048 (by rfl) (ix2 r ⟨j.val - 2048, by omega⟩) (fun b hb => ?_) ?_) ?_
      · match b with | 0 => rfl | 1 => exact absurd rfl hb
      · show 2048 + (j.val - 2048) = j.val; omega
      · rw [val_main_v17_apply, show idx_main_v17 (ix2 r ⟨j.val - 2048, by omega⟩) = ix2 r ⟨1024 + j.val, by omega⟩ from by
          funext a; match a with | 0 => rfl | 1 => exact Fin.ext (by show 3072 + (j.val - 2048) = 1024 + j.val; omega),
          projected_apply]
    · by_cases h1 : j.val < 3072
      · refine Eq.trans (concatenate_apply_piece _ _ _ _ 2 (by simp) S16384x512 (val_main_v18 (F := Ideal) x g w)
          (by rfl) (by rfl) 2560 (by rfl) (ix2 r ⟨j.val - 2560, by omega⟩) (fun b hb => ?_) ?_) ?_
        · match b with | 0 => rfl | 1 => exact absurd rfl hb
        · show 2560 + (j.val - 2560) = j.val; omega
        · rw [val_main_v18_apply, show idx_main_v18 (ix2 r ⟨j.val - 2560, by omega⟩) = ix2 r ⟨1024 + j.val, by omega⟩ from by
            funext a; match a with | 0 => rfl | 1 => exact Fin.ext (by show 3584 + (j.val - 2560) = 1024 + j.val; omega),
            projected_apply]
      · by_cases h2 : j.val < 3584
        · refine Eq.trans (concatenate_apply_piece _ _ _ _ 3 (by simp) S16384x512 (val_main_v19 (F := Ideal) x g w)
            (by rfl) (by rfl) 3072 (by rfl) (ix2 r ⟨j.val - 3072, by omega⟩) (fun b hb => ?_) ?_) ?_
          · match b with | 0 => rfl | 1 => exact absurd rfl hb
          · show 3072 + (j.val - 3072) = j.val; omega
          · rw [val_main_v19_apply, show idx_main_v19 (ix2 r ⟨j.val - 3072, by omega⟩) = ix2 r ⟨1024 + j.val, by omega⟩ from by
              funext a; match a with | 0 => rfl | 1 => exact Fin.ext (by show 4096 + (j.val - 3072) = 1024 + j.val; omega),
              projected_apply]
        · refine Eq.trans (concatenate_apply_piece _ _ _ _ 4 (by simp) S16384x512 (val_main_v20 (F := Ideal) x g w)
            (by rfl) (by rfl) 3584 (by rfl) (ix2 r ⟨j.val - 3584, by omega⟩) (fun b hb => ?_) ?_) ?_
          · match b with | 0 => rfl | 1 => exact absurd rfl hb
          · show 3584 + (j.val - 3584) = j.val; omega
          · rw [val_main_v20_apply, show idx_main_v20 (ix2 r ⟨j.val - 3584, by omega⟩) = ix2 r ⟨1024 + j.val, by omega⟩ from by
              funext a; match a with | 0 => rfl | 1 => exact Fin.ext (by show 4608 + (j.val - 3584) = 1024 + j.val; omega),
              projected_apply]

end Cert.Reference6Ideal.Hand

namespace Cert.Proof

open Idealize.ShloMosaic Idealize.ShloMosaic.TcCoe Idealize.SL.Sem

theorem frame_kernel6 : Cert.quiescent_Kernel6 := fun m g _ => Cert.Kernel6.Hand.frame m g

theorem frame_ideal6 : Cert.quiescent_Kernel6Ideal := fun m g _ => Cert.Kernel6Ideal.Hand.frame m g

theorem frame_reference6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

theorem algebraic6 : Cert.algebraic_Kernel6Ideal_Reference6Ideal := by
  intro m g m' g' _ harg
  refine ⟨fun c => Cert.Kernel6Ideal.Hand.left (Cert.Kernel6Ideal.Hand.xs m c) (Cert.Kernel6Ideal.Hand.gs m c)
      (Cert.Kernel6Ideal.Hand.ws m c),
    fun c => Cert.Kernel6Ideal.Hand.right (Cert.Kernel6Ideal.Hand.xs m c) (Cert.Kernel6Ideal.Hand.gs m c)
      (Cert.Kernel6Ideal.Hand.ws m c), ?_, ?_⟩
  · refine (θ_run Cert.Kernel6Ideal.defs _ _).mono (fun r h c => ?_) (Cert.Kernel6Ideal.Hand.run_main m g)
    exact ⟨((h.1 c).1 4).trans (Cert.Kernel6Ideal.Hand.final_left m c),
      ((h.1 c).1 5).trans (Cert.Kernel6Ideal.Hand.final_right m c), Cert.Kernel6Ideal.Hand.kept m c r h.1⟩
  · refine (θ_run Cert.Reference6Ideal.defs _ _).mono (fun r h c => ?_) (Cert.Reference6Ideal.Value.run m' g')
    obtain ⟨h0, h1, h2⟩ := harg c
    refine ⟨(h c).1.trans ((Cert.Reference6Ideal.Read.val_main_v31_eq _ _).trans ?_),
      (h c).2.1.trans ((Cert.Reference6Ideal.Read.val_main_v32_eq _ _).trans ?_), (h c).2.2⟩
    · rw [h0, h1, h2]
      exact Cert.Reference6Ideal.Hand.left_eq _ _ _
    · rw [h0, h1, h2]
      exact Cert.Reference6Ideal.Hand.right_eq _ _ _

end Cert.Proof

end
-- ==== Proof.Gate.lean ====
module

public import proofs.«01_k».proof.Proof.Mix

/-!
# The chunked gating

What the mixing inside the gated layer computes, element by element, from its projection's three parts.
-/

@[expose] public section

noncomputable section

namespace Cert.Gate

open Idealize.ShloMosaic Cert.Mix

/-- The projection: the gate's, the mixed and the outer part side by side. -/
abbrev Parts := (⟨2, ![16384, 6144]⟩ : Shape).Idx → EReal
/-- The mixing weights of a chunk's 128 rows, one square for each of the 16 groups of columns. -/
abbrev ChunkW := (⟨3, ![16, 128, 128]⟩ : Shape).Idx → EReal
/-- Their offsets. -/
abbrev ChunkB := (⟨2, ![16, 128]⟩ : Shape).Idx → EReal

/-- The exact Gaussian unit, with the two constants as the programs write them. -/
def gelu (a : EReal) : EReal :=
  Ideal.ofBits .f32 0x3F000000#32 * a * (1 + Ideal.erf (a * Ideal.ofBits .f32 0x3F3504F3#32))

/-- A value times its logistic. -/
def silu (a : EReal) : EReal := a * Ideal.logistic a

/-- One row of a chunk's mixing: rows after `t` do not count. -/
def chunkSum (w v : Fin 128 → EReal) (t : Fin 128) : EReal := ∑ s : Fin 128, (if s ≤ t then w s else 0) * v s

/-- The result at a row and a column. -/
def gatedAt (x : Parts) (g : Gain) (w : ChunkW) (b : ChunkB) (r : Fin 16384) (c : Fin 2048) : EReal :=
  gelu (x (ix2 r ⟨c.val, by omega⟩))
    * (chunkSum (fun s => w (ix3 ⟨c.val / 128, by omega⟩ ⟨r.val % 128, by omega⟩ s))
        (fun s => normed (fun l => gelu (x (ix2 ⟨128 * (r.val / 128) + s.val, by omega⟩ ⟨2048 + l.val, by omega⟩))) g c)
        ⟨r.val % 128, by omega⟩
      + b (ix2 ⟨c.val / 128, by omega⟩ ⟨r.val % 128, by omega⟩))
    * silu (x (ix2 r ⟨4096 + c.val, by omega⟩))

/-- The result. -/
def gated (x : Parts) (g : Gain) (w : ChunkW) (b : ChunkB) (i : (⟨2, ![16384, 2048]⟩ : Shape).Idx) : EReal :=
  gatedAt x g w b (i 0) (i 1)

/-- The two programs compare a row with a row by their numbers as words. -/
theorem le_word : ∀ s t : Fin 128, IntOp.cmpi .sle (BitVec.ofNat 32 s.val) (BitVec.ofNat 32 t.val) = if s ≤ t then 1#1 else 0#1 := by
  decide +kernel

theorem ge_word : ∀ s t : Fin 128, IntOp.cmpi .sge (IntOp.addi (BitVec.ofNat 32 t.val) 0#32) (BitVec.ofNat 32 s.val) = if s ≤ t then 1#1 else 0#1 := by
  decide +kernel

end Cert.Gate

end
-- ==== Proof.Gating.lean ====
module

public import proofs.«01_k».proof.Defs
public import proofs.«01_k».proof.Proof.Gate
public import Idealize.ShloMosaic.Lib.StableHlo.RunRead
public import Idealize.ShloMosaic.Lib.Pipeline.ValueKit.Acc
public import proofs.«01_k».proof.Proof.Gen.Kernel7Ideal.Frame
public import proofs.«01_k».proof.Proof.Gen.Kernel7Ideal.Value

/-!
# What the chunked gating leaves in its result

A point takes 256 rows, two chunks, and stores its result in 32 square tiles: one for each chunk and each group of
columns. Every tile is the tile of one function of the point's blocks, so the block is that function.
-/

@[expose] public section

set_option maxRecDepth 16384

noncomputable section

namespace Cert.Kernel7Ideal.Hand

open Cert.Kernel7Ideal Cert.Kernel7Ideal.Gen
open Idealize.ShloMosaic Idealize.ShloMosaic.TcCoe Idealize.SL.Sem Cert.Mix Cert.Gate

theorem gate_apply (a : FVec Ideal S128x128 .f32) (u z : Vec Ideal S128x128 .f32) (t j : Fin 128) :
    k0_pay7 a u z (ix2 t j) = gelu (u (ix2 t j)) * a (ix2 t j) * silu (z (ix2 t j)) := by
  pointwise [k0_pay7]
  unfold gelu silu
  try rw [← Ideal.ofBits_one_f32]
  try rfl

/-- A chunk's mixing of one group, from the group's weights, the chunk's rows and the group's offsets. -/
def mixTile (w : Vec Ideal S1x128x128 .f32) (v : FVec Ideal S128x128 .bf16) (b : FVec Ideal S128x1 .f32) :
    FVec Ideal S128x128 .f32 :=
  addf (matmul dot_S128x128_S128x128_S128x128_1_0_0_1_n_n none (k0_pay5 w) v (constant S128x128 .f32 0x00000000#32))
    (broadcastTo S128x128 b broadcasts_S128x1_S128x128)

theorem weight_apply (w : Vec Ideal S1x128x128 .f32) (t s : Fin 128) :
    k0_pay5 w (ix2 t s) = if s ≤ t then w (ix3 0 t s) else 0 := by
  pointwise [k0_pay5, k0_pay3]
  rw [le_word s t]
  by_cases h : s ≤ t
  · rw [if_pos h, if_pos h]; rfl
  · rw [if_neg h, if_neg h]; rfl

theorem mix_apply (w : Vec Ideal S1x128x128 .f32) (v : FVec Ideal S128x128 .bf16) (b : FVec Ideal S128x1 .f32) (t j : Fin 128) :
    mixTile w v b (ix2 t j) = chunkSum (fun s => w (ix3 0 t s)) (fun s => v (ix2 s j)) t + b (ix2 t 0) := by
  pointwise [mixTile]
  unfold chunkSum
  simp only [weight_apply]

theorem norm_apply (x : Vec Ideal S256x2048 .f32) (g : Vec Ideal S1x2048 .f32) (h : Gain)
    (hg : ∀ j, g (ix2 0 j) = h (ix1 j)) (r : Fin 256) (k : Fin 2048) :
    k0_pay2 x g (ix2 r k) = normed (fun l => gelu (x (ix2 r l))) h k := by
  pointwise [k0_pay2]
  rw [hg]
  unfold normed gelu
  try rw [← Ideal.ofBits_one_f32]
  try rfl

/-- The block's value at a row and a column: the gating over a point's blocks. -/
def blockAt (x0 x1 x2 : Vec Ideal S256x2048 .f32) (x3 : Vec Ideal S1x2048 .f32) (x4 : Vec Ideal S16x128x128 .f32)
    (x5 : Vec Ideal S128x16 .f32) (r : Fin 256) (c : Fin 2048) : EReal :=
  gelu (x0 (ix2 r c))
    * (chunkSum (fun s => x4 (ix3 ⟨c.val / 128, by omega⟩ ⟨r.val % 128, by omega⟩ s))
        (fun s => k0_pay2 x1 x3 (ix2 ⟨128 * (r.val / 128) + s.val, by omega⟩ c)) ⟨r.val % 128, by omega⟩
      + x5 (ix2 ⟨r.val % 128, by omega⟩ ⟨c.val / 128, by omega⟩))
    * silu (x2 (ix2 r c))

/-- The block's value. -/
def blockVal (x0 x1 x2 : Vec Ideal S256x2048 .f32) (x3 : Vec Ideal S1x2048 .f32) (x4 : Vec Ideal S16x128x128 .f32)
    (x5 : Vec Ideal S128x16 .f32) (q : S256x2048.Idx) : Elt Ideal .bf16 := blockAt x0 x1 x2 x3 x4 x5 (q 0) (q 1)

/-- A stored tile: the chunk `a` and the group `k`. -/
theorem tile_eq (x0 x1 x2 : Vec Ideal S256x2048 .f32) (x3 : Vec Ideal S1x2048 .f32) (x4 : Vec Ideal S16x128x128 .f32)
    (x5 : Vec Ideal S128x16 .f32) (a : Fin 2) (k : Fin 16) {o : Fin 2 → Nat} {p : Fin 2 → Nat} {l : Fin 3 → Nat}
    (ho : S256x2048.Slices o S128x128) (hp : S128x16.Slices p S128x1)
    (hi : ∀ d, o d + S128x128.size d ≤ S256x2048.size d) (hl : ∀ d, l d + S1x128x128.size d ≤ S16x128x128.size d)
    (eo : o = ![128 * a.val, 128 * k.val]) (ep : p = ![0, k.val]) (el : l = ![k.val, 0, 0]) (q : S128x128.Idx) :
    k0_pay7 (mixTile (View.ld x4 (Rect.unit (s := S16x128x128) l S1x128x128.size hl))
        (extractStridedSlice S128x128 o (k0_pay2 (View.ld x1 r0_0) (View.ld x3 r0_1)) ho)
        (extractStridedSlice S128x1 p (k0_pay4 (View.ld x5 r0_2)) hp))
      (View.ld x0 (Rect.unit (s := S256x2048) o S128x128.size hi)) (View.ld x2 (Rect.unit (s := S256x2048) o S128x128.size hi)) q
      = blockVal x0 x1 x2 x3 x4 x5 ((Rect.unit (s := S256x2048) o S128x128.size hi).emb q) := by
  subst eo ep el
  have ha := a.isLt
  have hk := k.isLt
  obtain ⟨t, j, rfl⟩ : ∃ (t j : Fin 128), q = ix2 t j := ⟨q 0, q 1, funext fun d => by match d with | 0 => rfl | 1 => rfl⟩
  have ht := t.isLt
  have hj := j.isLt
  rw [View.ld_unit_lit _ _ (by decide), View.ld_unit_lit _ _ (by decide), View.ld_unit_lit _ _ (by decide)]
  rw [gate_apply, mix_apply]
  have e : (Rect.unit (s := S256x2048) ![128 * a.val, 128 * k.val] S128x128.size hi).emb (ix2 t j)
      = ix2 (⟨128 * a.val + t.val, by omega⟩ : Fin 256) (⟨128 * k.val + j.val, by omega⟩ : Fin 2048) := by
    funext d
    match d with
    | 0 => exact Fin.ext (show 128 * a.val + 1 * t.val = 128 * a.val + t.val by omega)
    | 1 => exact Fin.ext (show 128 * k.val + 1 * j.val = 128 * k.val + j.val by omega)
  have eu : ∀ x : Vec Ideal S256x2048 .f32, View.ld x (Rect.unit (s := S256x2048) ![128 * a.val, 128 * k.val] S128x128.size hi) (ix2 t j)
      = x (ix2 (⟨128 * a.val + t.val, by omega⟩ : Fin 256) (⟨128 * k.val + j.val, by omega⟩ : Fin 2048)) :=
    fun x => congrArg x e
  have ew : ∀ s : Fin 128, View.ld x4 (Rect.unit (s := S16x128x128) ![k.val, 0, 0] S1x128x128.size hl) (ix3 0 t s) = x4 (ix3 k t s) := by
    intro s
    refine congrArg x4 (funext fun d => ?_)
    match d with
    | 0 => exact Fin.ext (show k.val + 1 * 0 = k.val by omega)
    | 1 => exact Fin.ext (show 0 + 1 * t.val = t.val by omega)
    | 2 => exact Fin.ext (show 0 + 1 * s.val = s.val by omega)
  have ev : ∀ s : Fin 128, extractStridedSlice S128x128 ![128 * a.val, 128 * k.val] (k0_pay2 x1 x3) ho (ix2 s j)
      = k0_pay2 x1 x3 (ix2 (⟨128 * a.val + s.val, by omega⟩ : Fin 256) (⟨128 * k.val + j.val, by omega⟩ : Fin 2048)) :=
    fun s => extractStridedSlice_apply _ _ _ _ _ fun d => by match d with | 0 => rfl | 1 => rfl
  have eb : extractStridedSlice S128x1 ![0, k.val] (k0_pay4 x5) hp (ix2 t 0) = x5 (ix2 t k) := by
    refine (extractStridedSlice_apply _ _ _ _ (ix2 t k) fun d => by
      match d with
      | 0 => show t.val = 0 + t.val; omega
      | 1 => rfl).trans ?_
    pointwise [k0_pay4]
  rw [e, eu, eu, eb]
  simp only [ew, ev]
  have i0 : (⟨(128 * a.val + t.val) % 128, by omega⟩ : Fin 128) = t := Fin.ext (by dsimp only; omega)
  have i1 : (⟨(128 * k.val + j.val) / 128, by omega⟩ : Fin 16) = k := Fin.ext (by dsimp only; omega)
  have i2 : ∀ s : Fin 128, (⟨128 * ((128 * a.val + t.val) / 128) + s.val, by omega⟩ : Fin 256) = ⟨128 * a.val + s.val, by omega⟩ :=
    fun s => Fin.ext (by dsimp only; omega)
  show _ = blockAt x0 x1 x2 x3 x4 x5 ⟨128 * a.val + t.val, by omega⟩ ⟨128 * k.val + j.val, by omega⟩
  unfold blockAt
  simp only [i0, i1, i2]

set_option maxHeartbeats 1000000 in
/-- Whatever the order of the stores, the block is `blockVal`. -/
theorem out_eq (x0 x1 x2 : Vec Ideal S256x2048 .f32) (x3 : Vec Ideal S1x2048 .f32) (x4 : Vec Ideal S16x128x128 .f32)
    (x5 : Vec Ideal S128x16 .f32) (y : S256x2048.Idx) : out0_6 x0 x1 x2 x3 x4 x5 y = blockVal x0 x1 x2 x3 x4 x5 y := by
  unfold out0_6
  refine View.canon_apply_of_pieces (Val := Elt Ideal) (e := .bf16) (blockVal x0 x1 x2 x3 x4 x5) _ ?_ y (cover0_6 _ _ _ _ _ _ _ _ _ _ _ _ _ _ _ _ _ _ _ _ _ _ _ _ _ _ _ _ _ _ _ _ y)
  refine List.forall_mem_cons.2 ⟨fun q => tile_eq x0 x1 x2 x3 x4 x5 1 15 slices_S256x2048_o128_1920_S128x128 slices_S128x16_o0_15_S128x1 inb_S256x2048_S128x128_128_1920 inb_S16x128x128_S1x128x128_15_0_0 rfl rfl rfl q, ?_⟩
  refine List.forall_mem_cons.2 ⟨fun q => tile_eq x0 x1 x2 x3 x4 x5 0 15 slices_S256x2048_o0_1920_S128x128 slices_S128x16_o0_15_S128x1 inb_S256x2048_S128x128_0_1920 inb_S16x128x128_S1x128x128_15_0_0 rfl rfl rfl q, ?_⟩
  refine List.forall_mem_cons.2 ⟨fun q => tile_eq x0 x1 x2 x3 x4 x5 1 14 slices_S256x2048_o128_1792_S128x128 slices_S128x16_o0_14_S128x1 inb_S256x2048_S128x128_128_1792 inb_S16x128x128_S1x128x128_14_0_0 rfl rfl rfl q, ?_⟩
  refine List.forall_mem_cons.2 ⟨fun q => tile_eq x0 x1 x2 x3 x4 x5 0 14 slices_S256x2048_o0_1792_S128x128 slices_S128x16_o0_14_S128x1 inb_S256x2048_S128x128_0_1792 inb_S16x128x128_S1x128x128_14_0_0 rfl rfl rfl q, ?_⟩
  refine List.forall_mem_cons.2 ⟨fun q => tile_eq x0 x1 x2 x3 x4 x5 1 13 slices_S256x2048_o128_1664_S128x128 slices_S128x16_o0_13_S128x1 inb_S256x2048_S128x128_128_1664 inb_S16x128x128_S1x128x128_13_0_0 rfl rfl rfl q, ?_⟩
  refine List.forall_mem_cons.2 ⟨fun q => tile_eq x0 x1 x2 x3 x4 x5 0 13 slices_S256x2048_o0_1664_S128x128 slices_S128x16_o0_13_S128x1 inb_S256x2048_S128x128_0_1664 inb_S16x128x128_S1x128x128_13_0_0 rfl rfl rfl q, ?_⟩
  refine List.forall_mem_cons.2 ⟨fun q => tile_eq x0 x1 x2 x3 x4 x5 1 12 slices_S256x2048_o128_1536_S128x128 slices_S128x16_o0_12_S128x1 inb_S256x2048_S128x128_128_1536 inb_S16x128x128_S1x128x128_12_0_0 rfl rfl rfl q, ?_⟩
  refine List.forall_mem_cons.2 ⟨fun q => tile_eq x0 x1 x2 x3 x4 x5 0 12 slices_S256x2048_o0_1536_S128x128 slices_S128x16_o0_12_S128x1 inb_S256x2048_S128x128_0_1536 inb_S16x128x128_S1x128x128_12_0_0 rfl rfl rfl q, ?_⟩
  refine List.forall_mem_cons.2 ⟨fun q => tile_eq x0 x1 x2 x3 x4 x5 1 11 slices_S256x2048_o128_1408_S128x128 slices_S128x16_o0_11_S128x1 inb_S256x2048_S128x128_128_1408 inb_S16x128x128_S1x128x128_11_0_0 rfl rfl rfl q, ?_⟩
  refine List.forall_mem_cons.2 ⟨fun q => tile_eq x0 x1 x2 x3 x4 x5 0 11 slices_S256x2048_o0_1408_S128x128 slices_S128x16_o0_11_S128x1 inb_S256x2048_S128x128_0_1408 inb_S16x128x128_S1x128x128_11_0_0 rfl rfl rfl q, ?_⟩
  refine List.forall_mem_cons.2 ⟨fun q => tile_eq x0 x1 x2 x3 x4 x5 1 10 slices_S256x2048_o128_1280_S128x128 slices_S128x16_o0_10_S128x1 inb_S256x2048_S128x128_128_1280 inb_S16x128x128_S1x128x128_10_0_0 rfl rfl rfl q, ?_⟩
  refine List.forall_mem_cons.2 ⟨fun q => tile_eq x0 x1 x2 x3 x4 x5 0 10 slices_S256x2048_o0_1280_S128x128 slices_S128x16_o0_10_S128x1 inb_S256x2048_S128x128_0_1280 inb_S16x128x128_S1x128x128_10_0_0 rfl rfl rfl q, ?_⟩
  refine List.forall_mem_cons.2 ⟨fun q => tile_eq x0 x1 x2 x3 x4 x5 1 9 slices_S256x2048_o128_1152_S128x128 slices_S128x16_o0_9_S128x1 inb_S256x2048_S128x128_128_1152 inb_S16x128x128_S1x128x128_9_0_0 rfl rfl rfl q, ?_⟩
  refine List.forall_mem_cons.2 ⟨fun q => tile_eq x0 x1 x2 x3 x4 x5 0 9 slices_S256x2048_o0_1152_S128x128 slices_S128x16_o0_9_S128x1 inb_S256x2048_S128x128_0_1152 inb_S16x128x128_S1x128x128_9_0_0 rfl rfl rfl q, ?_⟩
  refine List.forall_mem_cons.2 ⟨fun q => tile_eq x0 x1 x2 x3 x4 x5 1 8 slices_S256x2048_o128_1024_S128x128 slices_S128x16_o0_8_S128x1 inb_S256x2048_S128x128_128_1024 inb_S16x128x128_S1x128x128_8_0_0 rfl rfl rfl q, ?_⟩
  refine List.forall_mem_cons.2 ⟨fun q => tile_eq x0 x1 x2 x3 x4 x5 0 8 slices_S256x2048_o0_1024_S128x128 slices_S128x16_o0_8_S128x1 inb_S256x2048_S128x128_0_1024 inb_S16x128x128_S1x128x128_8_0_0 rfl rfl rfl q, ?_⟩
  refine List.forall_mem_cons.2 ⟨fun q => tile_eq x0 x1 x2 x3 x4 x5 1 7 slices_S256x2048_o128_896_S128x128 slices_S128x16_o0_7_S128x1 inb_S256x2048_S128x128_128_896 inb_S16x128x128_S1x128x128_7_0_0 rfl rfl rfl q, ?_⟩
  refine List.forall_mem_cons.2 ⟨fun q => tile_eq x0 x1 x2 x3 x4 x5 0 7 slices_S256x2048_o0_896_S128x128 slices_S128x16_o0_7_S128x1 inb_S256x2048_S128x128_0_896 inb_S16x128x128_S1x128x128_7_0_0 rfl rfl rfl q, ?_⟩
  refine List.forall_mem_cons.2 ⟨fun q => tile_eq x0 x1 x2 x3 x4 x5 1 6 slices_S256x2048_o128_768_S128x128 slices_S128x16_o0_6_S128x1 inb_S256x2048_S128x128_128_768 inb_S16x128x128_S1x128x128_6_0_0 rfl rfl rfl q, ?_⟩
  refine List.forall_mem_cons.2 ⟨fun q => tile_eq x0 x1 x2 x3 x4 x5 0 6 slices_S256x2048_o0_768_S128x128 slices_S128x16_o0_6_S128x1 inb_S256x2048_S128x128_0_768 inb_S16x128x128_S1x128x128_6_0_0 rfl rfl rfl q, ?_⟩
  refine List.forall_mem_cons.2 ⟨fun q => tile_eq x0 x1 x2 x3 x4 x5 1 5 slices_S256x2048_o128_640_S128x128 slices_S128x16_o0_5_S128x1 inb_S256x2048_S128x128_128_640 inb_S16x128x128_S1x128x128_5_0_0 rfl rfl rfl q, ?_⟩
  refine List.forall_mem_cons.2 ⟨fun q => tile_eq x0 x1 x2 x3 x4 x5 0 5 slices_S256x2048_o0_640_S128x128 slices_S128x16_o0_5_S128x1 inb_S256x2048_S128x128_0_640 inb_S16x128x128_S1x128x128_5_0_0 rfl rfl rfl q, ?_⟩
  refine List.forall_mem_cons.2 ⟨fun q => tile_eq x0 x1 x2 x3 x4 x5 1 4 slices_S256x2048_o128_512_S128x128 slices_S128x16_o0_4_S128x1 inb_S256x2048_S128x128_128_512 inb_S16x128x128_S1x128x128_4_0_0 rfl rfl rfl q, ?_⟩
  refine List.forall_mem_cons.2 ⟨fun q => tile_eq x0 x1 x2 x3 x4 x5 0 4 slices_S256x2048_o0_512_S128x128 slices_S128x16_o0_4_S128x1 inb_S256x2048_S128x128_0_512 inb_S16x128x128_S1x128x128_4_0_0 rfl rfl rfl q, ?_⟩
  refine List.forall_mem_cons.2 ⟨fun q => tile_eq x0 x1 x2 x3 x4 x5 1 3 slices_S256x2048_o128_384_S128x128 slices_S128x16_o0_3_S128x1 inb_S256x2048_S128x128_128_384 inb_S16x128x128_S1x128x128_3_0_0 rfl rfl rfl q, ?_⟩
  refine List.forall_mem_cons.2 ⟨fun q => tile_eq x0 x1 x2 x3 x4 x5 0 3 slices_S256x2048_o0_384_S128x128 slices_S128x16_o0_3_S128x1 inb_S256x2048_S128x128_0_384 inb_S16x128x128_S1x128x128_3_0_0 rfl rfl rfl q, ?_⟩
  refine List.forall_mem_cons.2 ⟨fun q => tile_eq x0 x1 x2 x3 x4 x5 1 2 slices_S256x2048_o128_256_S128x128 slices_S128x16_o0_2_S128x1 inb_S256x2048_S128x128_128_256 inb_S16x128x128_S1x128x128_2_0_0 rfl rfl rfl q, ?_⟩
  refine List.forall_mem_cons.2 ⟨fun q => tile_eq x0 x1 x2 x3 x4 x5 0 2 slices_S256x2048_o0_256_S128x128 slices_S128x16_o0_2_S128x1 inb_S256x2048_S128x128_0_256 inb_S16x128x128_S1x128x128_2_0_0 rfl rfl rfl q, ?_⟩
  refine List.forall_mem_cons.2 ⟨fun q => tile_eq x0 x1 x2 x3 x4 x5 1 1 slices_S256x2048_o128_128_S128x128 slices_S128x16_o0_1_S128x1 inb_S256x2048_S128x128_128_128 inb_S16x128x128_S1x128x128_1_0_0 rfl rfl rfl q, ?_⟩
  refine List.forall_mem_cons.2 ⟨fun q => tile_eq x0 x1 x2 x3 x4 x5 0 1 slices_S256x2048_o0_128_S128x128 slices_S128x16_o0_1_S128x1 inb_S256x2048_S128x128_0_128 inb_S16x128x128_S1x128x128_1_0_0 rfl rfl rfl q, ?_⟩
  refine List.forall_mem_cons.2 ⟨fun q => tile_eq x0 x1 x2 x3 x4 x5 1 0 slices_S256x2048_o128_0_S128x128 slices_S128x16_o0_0_S128x1 inb_S256x2048_S128x128_128_0 inb_S16x128x128_S1x128x128_0_0_0 rfl rfl rfl q, ?_⟩
  refine List.forall_mem_cons.2 ⟨fun q => tile_eq x0 x1 x2 x3 x4 x5 0 0 slices_S256x2048_o0_0_S128x128 slices_S128x16_o0_0_S128x1 inb_S256x2048_S128x128_0_0 inb_S16x128x128_S1x128x128_0_0_0 rfl rfl rfl q, ?_⟩
  exact List.forall_mem_nil _

variable (m : (ℓ : Loc nD τ sig) → Buf (Elt Ideal) ℓ) (c : Dev nD)

abbrev xs : Parts := m ((c.tc : Thread nD τ).loc main_arg0)
abbrev gs : Gain := m ((c.tc : Thread nD τ).loc main_arg1)
abbrev ws : ChunkW := m ((c.tc : Thread nD τ).loc main_arg2)
abbrev bs : ChunkB := m ((c.tc : Thread nD τ).loc main_arg3)

theorem V_g : (V m c main_v0 : (⟨2, ![1, 2048]⟩ : Shape).Idx → EReal) = shapeCast S1x2048 (gs m c) shapeCasts_S2048_S1x2048 := by
  show StableHlo.after hostOps0 (fun b => m (c, b)) (Proc.devRef .tc main_v0) = _
  after_reads_simp
  rfl

theorem V_b : (V m c main_v1 : (⟨2, ![128, 16]⟩ : Shape).Idx → EReal)
    = transpose S128x16 [1, 0] (bs m c) transposes_S16x128_S128x16_1_0 := by
  show StableHlo.after hostOps0 (fun b => m (c, b)) (Proc.devRef .tc main_v1) = _
  after_reads_simp

/-- Where the blocks of a point lie. -/
theorem index_facts : ∀ t : Fin grid0.N,
    (win0_0.index t 0 = t.val ∧ win0_0.index t 1 = 0)
    ∧ (win0_1.index t 0 = t.val ∧ win0_1.index t 1 = 1)
    ∧ (win0_2.index t 0 = t.val ∧ win0_2.index t 1 = 2)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0)
    ∧ (win0_6.index t 0 = t.val ∧ win0_6.index t 1 = 0) := by
  decide +kernel

theorem size_facts : ∀ t : Fin grid0.N, ∀ a, win0_6.xsize (grid0.coords t) a = S256x2048.size a := by decide +kernel

theorem point_lt (t : Fin cfg0.N) : t.val < 64 := t.isLt

/-- The row of a point's element. -/
abbrev rowOf (t : Fin cfg0.N) (r : Fin 256) : Fin 16384 := ⟨256 * t.val + r.val, by have := point_lt t; omega⟩

theorem u_block (t : Fin cfg0.N) (r : Fin 256) (k : Fin 2048) :
    iblk m c 0 t (ix2 r k) = xs m c (ix2 (rowOf t r) ⟨k.val, by omega⟩) := by
  have e := (index_facts t).1
  unfold iblk
  refine (congrFun (V_main_arg0 m c) _).trans (congrArg (xs m c) (funext fun a => Fin.ext ?_))
  match a with
  | 0 => show win0_0.index t 0 * 256 + 1 * r.val = 256 * t.val + r.val; rw [e.1]; omega
  | 1 => show win0_0.index t 1 * 2048 + 1 * k.val = k.val; rw [e.2]; omega

theorem v_block (t : Fin cfg0.N) (r : Fin 256) (k : Fin 2048) :
    iblk m c 1 t (ix2 r k) = xs m c (ix2 (rowOf t r) ⟨2048 + k.val, by omega⟩) := by
  have e := (index_facts t).2.1
  unfold iblk
  refine (congrFun (V_main_arg0 m c) _).trans (congrArg (xs m c) (funext fun a => Fin.ext ?_))
  match a with
  | 0 => show win0_1.index t 0 * 256 + 1 * r.val = 256 * t.val + r.val; rw [e.1]; omega
  | 1 => show win0_1.index t 1 * 2048 + 1 * k.val = 2048 + k.val; rw [e.2]; omega

theorem z_block (t : Fin cfg0.N) (r : Fin 256) (k : Fin 2048) :
    iblk m c 2 t (ix2 r k) = xs m c (ix2 (rowOf t r) ⟨4096 + k.val, by omega⟩) := by
  have e := (index_facts t).2.2.1
  unfold iblk
  refine (congrFun (V_main_arg0 m c) _).trans (congrArg (xs m c) (funext fun a => Fin.ext ?_))
  match a with
  | 0 => show win0_2.index t 0 * 256 + 1 * r.val = 256 * t.val + r.val; rw [e.1]; omega
  | 1 => show win0_2.index t 1 * 2048 + 1 * k.val = 4096 + k.val; rw [e.2]; omega

theorem g_block (t : Fin cfg0.N) (j : Fin 2048) : iblk m c 3 t (ix2 0 j) = gs m c (ix1 j) := by
  have e := (index_facts t).2.2.2.1
  unfold iblk
  refine (congrFun (V_g m c) _).trans (shapeCast_apply (gs m c) _ _ _ ?_)
  rw [Shape.rowMajor_val_one, Shape.rowMajor_val_two]
  show j.val = (win0_3.index t 0 * 1 + 1 * 0) * 2048 + (win0_3.index t 1 * 2048 + 1 * j.val)
  rw [e.1, e.2]
  omega

theorem w_block (t : Fin cfg0.N) (k : Fin 16) (i s : Fin 128) : iblk m c 4 t (ix3 k i s) = ws m c (ix3 k i s) := by
  have e := (index_facts t).2.2.2.2.1
  unfold iblk
  refine (congrFun (V_main_arg2 m c) _).trans (congrArg (ws m c) (funext fun a => Fin.ext ?_))
  match a with
  | 0 => show win0_4.index t 0 * 16 + 1 * k.val = k.val; rw [e.1]; omega
  | 1 => show win0_4.index t 1 * 128 + 1 * i.val = i.val; rw [e.2.1]; omega
  | 2 => show win0_4.index t 2 * 128 + 1 * s.val = s.val; rw [e.2.2]; omega

theorem b_block (t : Fin cfg0.N) (i : Fin 128) (k : Fin 16) : iblk m c 5 t (ix2 i k) = bs m c (ix2 k i) := by
  have e := (index_facts t).2.2.2.2.2.1
  unfold iblk
  refine (congrFun (V_b m c) _).trans (transpose_apply [1, 0] (bs m c) transposes_S16x128_S128x16_1_0 _ (ix2 k i) fun d => ?_)
  match d with
  | ⟨0, _⟩ => show i.val = win0_5.index t 0 * 128 + 1 * i.val; rw [e.1]; omega
  | ⟨1, _⟩ => show k.val = win0_5.index t 1 * 16 + 1 * k.val; rw [e.2]; omega

/-- The whole result. -/
def val : Rows := gated (xs m c) (gs m c) (ws m c) (bs m c)

theorem out_apply (t : Fin cfg0.N) (r : Fin 256) (j : Fin 2048) :
    out0_6 (iblk m c 0 t) (iblk m c 1 t) (iblk m c 2 t) (iblk m c 3 t) (iblk m c 4 t) (iblk m c 5 t) (ix2 r j)
      = val m c (ix2 (rowOf t r) j) := by
  have hr := r.isLt
  have hq : (rowOf t r).val % 128 = r.val % 128 := by dsimp only; omega
  have hc : ∀ s : Fin 128, rowOf t ⟨128 * (r.val / 128) + s.val, by omega⟩
      = ⟨128 * ((rowOf t r).val / 128) + s.val, by have := point_lt t; omega⟩ :=
    fun s => Fin.ext (by dsimp only; omega)
  rw [out_eq]
  show blockAt _ _ _ _ _ _ r j = gatedAt _ _ _ _ (rowOf t r) j
  unfold blockAt gatedAt
  simp only [norm_apply _ _ (gs m c) (g_block m c t), u_block, v_block, z_block, w_block, b_block, hc]
  simp only [hq]

theorem flushed_eq (t : Fin cfg0.N) :
    (dats m 0 c).flushed 6 t = (win0_6.blk t).view.read (Elt Ideal) (val m c) := by
  rw [Cert.Kernel7Ideal.Value.flushed6]
  refine funext fun y : (⟨2, ![256, 2048]⟩ : Shape).Idx => ?_
  obtain ⟨r, j, rfl⟩ : ∃ (r : Fin 256) (j : Fin 2048), y = ix2 r j := ⟨y 0, y 1, funext fun a => by match a with | 0 => rfl | 1 => rfl⟩
  have e := (index_facts t).2.2.2.2.2.2
  refine (out_apply m c t r j).trans (congrArg (val m c) (funext fun a => Fin.ext ?_))
  match a with
  | 0 => show 256 * t.val + r.val = win0_6.index t 0 * 256 + 1 * r.val; rw [e.1]; omega
  | 1 => show j.val = win0_6.index t 1 * 2048 + 1 * j.val; rw [e.2]; omega

/-- Every element is in some point's block. -/
theorem cover (i : S16384x2048.Idx) :
    ∃ t : Fin cfg0.N, (cfg0.win 6).flush t = true ∧ i ∈ ((cfg0.win 6).blk t).view.set := by
  have h0 : (i 0).val < 16384 := (i 0).isLt
  have h1 : (i 1).val < 2048 := (i 1).isLt
  have ht : (i 0).val / 256 < 64 := by omega
  refine ⟨⟨(i 0).val / 256, ht⟩, flush0_6 _, ?_⟩
  show i ∈ ((View.whole main_v2).slice (win0_6.rect ⟨_, ht⟩)).set
  rw [View.set_slice_whole, Rect.mem_set_unit]
  obtain ⟨e0, e1⟩ := (index_facts ⟨(i 0).val / 256, ht⟩).2.2.2.2.2.2
  have hs := size_facts ⟨(i 0).val / 256, ht⟩
  dsimp only at e0 e1
  intro a
  show win0_6.index ⟨_, ht⟩ a * win0_6.size a ≤ (i a : Nat) ∧ (i a : Nat) < win0_6.index ⟨_, ht⟩ a * win0_6.size a + win0_6.xsize (grid0.coords ⟨_, ht⟩) a
  rw [hs a]
  match a with
  | 0 =>
    show win0_6.index ⟨_, ht⟩ 0 * 256 ≤ (i 0).val ∧ (i 0).val < win0_6.index ⟨_, ht⟩ 0 * 256 + 256
    rw [e0]; omega
  | 1 =>
    show win0_6.index ⟨_, ht⟩ 1 * 2048 ≤ (i 1).val ∧ (i 1).val < win0_6.index ⟨_, ht⟩ 1 * 2048 + 2048
    rw [e1]; omega

theorem final_eq : (dats m 0 c).arrAt 6 cfg0.N = val m c :=
  (dats m 0 c).arrAt_eq_of_cover 6 (val m c) (fun t _ => flushed_eq m c t) cover

end Cert.Kernel7Ideal.Hand

end
-- ==== Proof.GatingRef.lean ====
module

public import proofs.«01_k».proof.Defs
public import proofs.«01_k».proof.Proof.Gating
public import Idealize.ShloMosaic.Lib.Quiescent
public import proofs.«01_k».proof.Proof.Gen.Kernel7.Frame
public import proofs.«01_k».proof.Proof.Gen.Reference7Ideal.Run
public import proofs.«01_k».proof.Proof.Gen.Reference7Ideal.Read

/-!
# The chunked gating of the two programs

The reference lays the rows out as batches, chunks, groups and columns and mixes them in one product; read at a row and a
column it is the same sum as the kernel's.
-/

@[expose] public section

set_option maxRecDepth 16384

noncomputable section

namespace Cert.Reference7Ideal.Hand

open Cert.Reference7Ideal Cert.Reference7Ideal.Gen Cert.Reference7Ideal.Read
open Idealize.ShloMosaic Cert.Mix Cert.Gate

variable (x : Parts) (g : Gain) (w : ChunkW) (b : ChunkB)

/-- The reference writes the Gaussian unit with the complementary error function of the negated value. -/
theorem gelu_erfc (a : EReal) :
    Ideal.ofBits .f32 0x3F000000#32 * a * Ideal.erfc (-a * Ideal.ofBits .f32 0x3F3504F3#32) = gelu a := by
  unfold gelu
  rw [EReal.neg_mul, Ideal.erfc_neg]

theorem u_apply (r : Fin 16384) (k : Fin 2048) :
    val_main_v9 (F := Ideal) x (ix2 r k) = gelu (x (ix2 r ⟨k.val, by omega⟩)) := by
  have e : idx_main_v0 (ix2 r k) = ix2 r ⟨k.val, by omega⟩ := by funext a; match a with | 0 => rfl | 1 => rfl
  simp only [val_main_v9_apply, val_main_v4_apply, val_main_v8_apply, val_main_v7_apply, val_main_v5_apply,
    val_main_v6_apply, val_main_v3_apply, val_main_cst_apply, val_main_cst_0_apply, val_main_v0_apply, e]
  rw [← gelu_erfc]
  rfl

theorem v_apply (r : Fin 16384) (k : Fin 2048) :
    val_main_v16 (F := Ideal) x (ix2 r k) = gelu (x (ix2 r ⟨2048 + k.val, by omega⟩)) := by
  have e : idx_main_v1 (ix2 r k) = ix2 r ⟨2048 + k.val, by omega⟩ := by funext a; match a with | 0 => rfl | 1 => rfl
  simp only [val_main_v16_apply, val_main_v11_apply, val_main_v15_apply, val_main_v14_apply, val_main_v12_apply,
    val_main_v13_apply, val_main_v10_apply, val_main_cst_1_apply, val_main_cst_2_apply, val_main_v1_apply, e]
  rw [← gelu_erfc]
  rfl

theorem sum_apply (r : Fin 16384) :
    val_main_v18 (F := Ideal) x (ix1 r)
      = ∑ k : Fin 2048, gelu (x (ix2 r ⟨2048 + k.val, by omega⟩)) * gelu (x (ix2 r ⟨2048 + k.val, by omega⟩)) := by
  have e0 : (FloatOps.ofBits (F := Ideal) .f32 0x00000000#32) = (0 : EReal) := Ideal.ofBits_zero_f32
  rw [val_main_v18_apply, val_main_cst_3_apply, e0, zero_add]
  refine Finset.sum_congr rfl fun k _ => ?_
  have e1 : idx_main_v18 (ix1 r) k = ix2 r k := by funext a; match a with | 0 => rfl | 1 => rfl
  rw [e1, val_main_v17_apply, v_apply]
  rfl

theorem normed_apply (r : Fin 16384) (k : Fin 2048) :
    val_main_v29 (F := Ideal) x g (ix2 r k) = normed (fun l => gelu (x (ix2 r ⟨2048 + l.val, by omega⟩))) g k := by
  have e1 : idx_main_v19 (idx_main_v25 (ix2 r k)) = ix1 r := by
    funext a; match a with | 0 => exact Fin.ext (by dsimp only [idx_main_v19, idx_main_v25, ix1, ix2])
  have e2 : idx_main_v27 (idx_main_v28 (ix2 r k)) = ix1 k := by
    funext a; match a with | 0 => exact Fin.ext (by dsimp only [idx_main_v27, idx_main_v28, ix1, ix2])
  simp only [val_main_v29_apply, val_main_v28_apply, val_main_v27_apply, val_main_v26_apply, val_main_v25_apply,
    val_main_v24_apply, val_main_v23_apply, val_main_v22_apply, val_main_cst_5_apply, val_main_v21_apply, val_main_v20_apply,
    val_main_cst_4_apply, val_main_v19_apply, e1, e2, sum_apply, v_apply]
  unfold normed
  rfl

theorem weight_apply (k : Fin 16) (t s : Fin 128) :
    val_main_v33 (F := Ideal) w (ix3 k t s) = if s ≤ t then w (ix3 k t s) else 0 := by
  have e1 : idx_main_call1_v1 (ix3 k t s) = ix2 t s := by funext a; match a with | 0 => rfl | 1 => rfl
  simp only [val_main_v33_apply, val_main_call1_v1_apply, val_main_call1_v2_apply, val_main_call1_v0_apply,
    val_main_cst_6_apply, e1, val_main_v32_apply, val_main_v31_apply, val_main_c_apply, val_main_call0_v5_apply,
    val_main_call0_c_0_apply, val_main_call0_v4_apply, val_main_call0_v3_apply, val_main_call0_v2_apply,
    val_main_call0_v1_apply, val_main_call0_v0_apply, val_main_call0_c_apply]
  have e2 : IntOp.cmpi .sge (IntOp.addi (BitVec.ofNat 32 ((ix2 t s) 0).val) 0#32) (BitVec.ofNat 32 ((ix2 t s) 1).val)
      = if s ≤ t then 1#1 else 0#1 := ge_word s t
  rw [e2]
  by_cases h : s ≤ t
  · rw [if_pos h, if_pos h]; rfl
  · rw [if_neg h, if_neg h]; exact Ideal.ofBits_zero_f32

theorem mix_apply (r : Fin 16384) (c : Fin 2048) :
    val_main_v41 (F := Ideal) x g w b (ix2 r c)
      = chunkSum (fun s => w (ix3 ⟨c.val / 128, by omega⟩ ⟨r.val % 128, by omega⟩ s))
          (fun s => normed (fun l => gelu (x (ix2 ⟨128 * (r.val / 128) + s.val, by omega⟩ ⟨2048 + l.val, by omega⟩))) g c)
          ⟨r.val % 128, by omega⟩
        + b (ix2 ⟨c.val / 128, by omega⟩ ⟨r.val % 128, by omega⟩) := by
  have hr := r.isLt
  have hc := c.isLt
  have e : idx_main_v41 (ix2 r c) = ix5 ⟨r.val / 8192, by omega⟩ ⟨r.val / 128 % 64, by omega⟩ ⟨r.val % 128, by omega⟩
      ⟨c.val / 128, by omega⟩ ⟨c.val % 128, by omega⟩ := by
    funext a
    match a with
    | 0 => exact Fin.ext (by dsimp only [idx_main_v41, ix2, ix5]; omega)
    | 1 => exact Fin.ext (by dsimp only [idx_main_v41, ix2, ix5]; omega)
    | 2 => exact Fin.ext (by dsimp only [idx_main_v41, ix2, ix5]; omega)
    | 3 => exact Fin.ext (by dsimp only [idx_main_v41, ix2, ix5]; omega)
    | 4 => exact Fin.ext (by dsimp only [idx_main_v41, ix2, ix5]; omega)
  rw [val_main_v41_apply, e, val_main_v40_apply, val_main_v35_apply, val_main_v34_apply, val_main_v39_apply,
    val_main_v38_apply, val_main_v37_apply, val_main_v36_apply]
  refine congrArg₂ (· + ·) ?_ (congrArg b (funext fun a => by match a with | 0 => rfl | 1 => rfl))
  unfold chunkSum
  refine Finset.sum_congr rfl fun s _ => ?_
  have hs := s.isLt
  rw [val_main_v30_apply]
  refine (congrArg₂ (· * ·) ((congrArg (val_main_v29 (F := Ideal) x g) ?_).trans
    (normed_apply x g ⟨128 * (r.val / 128) + s.val, by omega⟩ c))
    ((congrArg (val_main_v33 (F := Ideal) w) ?_).trans
      (weight_apply w ⟨c.val / 128, by omega⟩ ⟨r.val % 128, by omega⟩ s))).trans (mul_comm _ _)
  · funext a
    match a with
    | 0 => exact Fin.ext (by dsimp only [idx_main_v30, lidx_main_v34, idx_main_v35, ix2, ix5]; omega)
    | 1 => exact Fin.ext (by dsimp only [idx_main_v30, lidx_main_v34, idx_main_v35, ix2, ix5]; omega)
  · funext a
    match a with
    | 0 => rfl
    | 1 => rfl
    | 2 => rfl

theorem result_apply (r : Fin 16384) (c : Fin 2048) :
    val_main_v45 (F := Ideal) x g w b (ix2 r c) = gatedAt x g w b r c := by
  have e : idx_main_v2 (ix2 r c) = ix2 r ⟨4096 + c.val, by omega⟩ := by funext a; match a with | 0 => rfl | 1 => rfl
  have e1 : (FloatOps.ofBits (F := Ideal) .f32 0x3F800000#32) = (1 : EReal) := Ideal.ofBits_one_f32
  simp only [val_main_v45_apply, val_main_v44_apply, val_main_v43_apply, val_main_call2_v5_apply, val_main_call2_v4_apply,
    val_main_call2_v3_apply, val_main_call2_v2_apply, val_main_call2_v1_apply, val_main_call2_v0_apply,
    val_main_call2_cst_apply, val_main_call2_cst_0_apply, val_main_v42_apply, u_apply, mix_apply, val_main_v2_apply, e1, e]
  unfold gatedAt silu
  rfl

theorem result_eq : val_main_v45 (F := Ideal) x g w b = gated x g w b := by
  refine funext fun i : (⟨2, ![16384, 2048]⟩ : Shape).Idx => ?_
  obtain ⟨r, j, rfl⟩ : ∃ (r : Fin 16384) (j : Fin 2048), i = ix2 r j :=
    ⟨i 0, i 1, funext fun a => by match a with | 0 => rfl | 1 => rfl⟩
  exact result_apply x g w b r j

end Cert.Reference7Ideal.Hand

namespace Cert.Proof

open Idealize.ShloMosaic Idealize.ShloMosaic.TcCoe Idealize.SL.Sem

theorem frame_kernel7 : Cert.quiescent_Kernel7 := fun m g _ => Cert.Kernel7.Gen.frame m g

theorem frame_ideal7 : Cert.quiescent_Kernel7Ideal := fun m g _ => Cert.Kernel7Ideal.Gen.frame m g

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem algebraic7 : Cert.algebraic_Kernel7Ideal_Reference7Ideal := by
  intro m g m' g' _ harg
  refine ⟨fun c => Cert.Kernel7Ideal.Hand.val m c, ?_, ?_⟩
  · exact (θ_run Cert.Kernel7Ideal.defs _ _).mono
      (fun r h c => ⟨(h c).1.trans (Cert.Kernel7Ideal.Hand.final_eq m c), (h c).2⟩) (Cert.Kernel7Ideal.Value.run_blocks m g)
  · refine (θ_run Cert.Reference7Ideal.defs _ _).mono (fun r h c => ?_) (Cert.Reference7Ideal.Value.run m' g')
    obtain ⟨h0, h1, h2, h3⟩ := harg c
    refine ⟨(h c).1.trans ((Cert.Reference7Ideal.Read.val_main_v45_eq _ _).trans ?_), (h c).2⟩
    rw [h0, h1, h2, h3]
    exact Cert.Reference7Ideal.Hand.result_eq _ _ _ _

end Cert.Proof

end
-- ==== Proof.Out3.lean ====
module

public import proofs.«01_k».proof.Defs
public import proofs.«01_k».proof.Proof.Mix
public import Idealize.ShloMosaic.Lib.StableHlo.RunRead
public import Idealize.ShloMosaic.Lib.Pipeline.ValueKit.Basic
public import Idealize.ShloMosaic.Lib.Quiescent
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read

/-!
# The output of the first layer

Every point of the grid writes its own rows, and each element is `mixed`.
-/

@[expose] public section

set_option maxRecDepth 16384

noncomputable section

namespace Cert.Kernel3Ideal.Hand

open Cert.Kernel3Ideal Cert.Kernel3Ideal.Gen
open Idealize.ShloMosaic Idealize.ShloMosaic.TcCoe Idealize.SL.Sem Cert.Mix

variable (m : (ℓ : Loc nD τ sig) → Buf (Elt Ideal) ℓ) (c : Dev nD)

abbrev ys : Rows := m ((c.tc : Thread nD τ).loc main_arg0)
abbrev xs : Rows := m ((c.tc : Thread nD τ).loc main_arg1)
abbrev ps : Embeds := m ((c.tc : Thread nD τ).loc main_arg2)
abbrev wo : OutW := m ((c.tc : Thread nD τ).loc main_arg3)
abbrev wg : GateW := m ((c.tc : Thread nD τ).loc main_arg4)
abbrev wp : EmbedW := m ((c.tc : Thread nD τ).loc main_arg5)

theorem V_wo : (V m c main_v1 : OutW) = wo m c := by
  show StableHlo.after hostOps0 (fun b => m (c, b)) (Proc.devRef .tc main_v1) = _
  after_reads_simp
  rfl

theorem V_wg : (V m c main_v2 : GateW) = wg m c := by
  show StableHlo.after hostOps0 (fun b => m (c, b)) (Proc.devRef .tc main_v2) = _
  after_reads_simp
  rfl

theorem V_wp : (V m c main_v3 : EmbedW) = wp m c := by
  show StableHlo.after hostOps0 (fun b => m (c, b)) (Proc.devRef .tc main_v3) = _
  after_reads_simp
  rfl

theorem V_p : (V m c main_v0 : (⟨3, ![4, 16384, 256]⟩ : Shape).Idx → EReal)
    = shapeCast S4x16384x256 (ps m c) shapeCasts_S4x2x8192x256_S4x16384x256 := by
  show StableHlo.after hostOps0 (fun b => m (c, b)) (Proc.devRef .tc main_v0) = _
  after_reads_simp
  rfl

/-- Where the blocks of a point lie. -/
theorem index_facts : ∀ t : Fin grid0.N,
    (win0_0.index t 0 = t.val ∧ win0_0.index t 1 = 0) ∧ (win0_1.index t 0 = t.val ∧ win0_1.index t 1 = 0)
    ∧ (win0_2.index t 0 = 0 ∧ win0_2.index t 1 = t.val ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_7.index t 0 = t.val ∧ win0_7.index t 1 = 0) := by
  decide +kernel

theorem size_facts : ∀ t : Fin grid0.N, ∀ a, win0_7.xsize (grid0.coords t) a = S512x2048.size a := by decide +kernel

theorem point_lt (t : Fin cfg0.N) : t.val < 32 := t.isLt

/-- The row of a point's element. -/
abbrev rowOf (t : Fin cfg0.N) (r : Fin 512) : Fin 16384 := ⟨512 * t.val + r.val, by have := point_lt t; omega⟩

theorem y_block (t : Fin cfg0.N) (r : Fin 512) (k : Fin 2048) :
    iblk m c 0 t (ix2 r k) = ys m c (ix2 (rowOf t r) k) := by
  have e := (index_facts t).1
  unfold iblk
  refine (congrFun (V_main_arg0 m c) _).trans (congrArg (ys m c) (funext fun a => Fin.ext ?_))
  match a with
  | 0 => show win0_0.index t 0 * 512 + 1 * r.val = 512 * t.val + r.val; rw [e.1]; omega
  | 1 => show win0_0.index t 1 * 2048 + 1 * k.val = k.val; rw [e.2]; omega

theorem x_block (t : Fin cfg0.N) (r : Fin 512) (k : Fin 2048) :
    iblk m c 1 t (ix2 r k) = xs m c (ix2 (rowOf t r) k) := by
  have e := (index_facts t).2.1
  unfold iblk
  refine (congrFun (V_main_arg1 m c) _).trans (congrArg (xs m c) (funext fun a => Fin.ext ?_))
  match a with
  | 0 => show win0_1.index t 0 * 512 + 1 * r.val = 512 * t.val + r.val; rw [e.1]; omega
  | 1 => show win0_1.index t 1 * 2048 + 1 * k.val = k.val; rw [e.2]; omega

theorem p_block (t : Fin cfg0.N) (r : Fin 512) (k : Fin 256) :
    iblk m c 2 t (ix3 0 r k)
      = ps m c (ix4 0 ⟨(rowOf t r).val / 8192, by omega⟩ ⟨(rowOf t r).val % 8192, by omega⟩ k) := by
  have e := (index_facts t).2.2.1
  unfold iblk
  refine (congrFun (V_p m c) _).trans (shapeCast_apply (ps m c) _ _ _ ?_)
  rw [Shape.rowMajor_val_four, Shape.rowMajor_val_three]
  show ((0 * 2 + (512 * t.val + r.val) / 8192) * 8192 + (512 * t.val + r.val) % 8192) * 256 + k.val
    = ((win0_2.index t 0 * 1 + 1 * 0) * 16384 + (win0_2.index t 1 * 512 + 1 * r.val)) * 256 + (win0_2.index t 2 * 256 + 1 * k.val)
  rw [e.1, e.2.1, e.2.2]
  omega

theorem wo_block (t : Fin cfg0.N) (k j : Fin 2048) : iblk m c 3 t (ix3 0 k j) = wo m c (ix3 0 k j) := by
  have e := (index_facts t).2.2.2.1
  unfold iblk
  refine (congrFun (V_wo m c) _).trans (congrArg (wo m c) (funext fun a => Fin.ext ?_))
  match a with
  | 0 => show win0_3.index t 0 * 1 + 1 * 0 = 0; rw [e.1]
  | 1 => show win0_3.index t 1 * 2048 + 1 * k.val = k.val; rw [e.2.1]; omega
  | 2 => show win0_3.index t 2 * 2048 + 1 * j.val = j.val; rw [e.2.2]; omega

theorem wg_block (t : Fin cfg0.N) (k j : Fin 2048) : iblk m c 4 t (ix3 0 k j) = wg m c (ix3 0 k j) := by
  have e := (index_facts t).2.2.2.2.1
  unfold iblk
  refine (congrFun (V_wg m c) _).trans (congrArg (wg m c) (funext fun a => Fin.ext ?_))
  match a with
  | 0 => show win0_4.index t 0 * 1 + 1 * 0 = 0; rw [e.1]
  | 1 => show win0_4.index t 1 * 2048 + 1 * k.val = k.val; rw [e.2.1]; omega
  | 2 => show win0_4.index t 2 * 2048 + 1 * j.val = j.val; rw [e.2.2]; omega

theorem wp_block (t : Fin cfg0.N) (k : Fin 256) (j : Fin 2048) :
    iblk m c 5 t (ix3 0 k j) = wp m c (ix3 0 k j) := by
  have e := (index_facts t).2.2.2.2.2.1
  unfold iblk
  refine (congrFun (V_wp m c) _).trans (congrArg (wp m c) (funext fun a => Fin.ext ?_))
  match a with
  | 0 => show win0_5.index t 0 * 1 + 1 * 0 = 0; rw [e.1]
  | 1 => show win0_5.index t 1 * 256 + 1 * k.val = k.val; rw [e.2.1]; omega
  | 2 => show win0_5.index t 2 * 2048 + 1 * j.val = j.val; rw [e.2.2]; omega

/-- The whole result. -/
def val : Rows := fun i => mixed (ys m c) (xs m c) (ps m c) (wo m c) (wg m c) (wp m c) 0 0 (i 0) (i 1)

theorem pay_apply (x0 : Vec Ideal S512x2048 .bf16) (x1 : Vec Ideal S512x2048 .f32) (x2 : Vec Ideal S1x512x256 .f32)
    (x3 x4 : Vec Ideal S1x2048x2048 .bf16) (x5 : Vec Ideal S1x256x2048 .bf16) (r : Fin 512) (j : Fin 2048) :
    k0_pay1 x1 x0 x3 x4 x2 x5 (ix2 r j)
      = x1 (ix2 r j) + ∑ k : Fin 2048, x0 (ix2 r k) * x3 (ix3 0 k j)
        + Ideal.logistic (∑ k : Fin 2048, (x1 (ix2 r k) + ∑ l : Fin 2048, x0 (ix2 r l) * x3 (ix3 0 l k)) * x4 (ix3 0 k j))
          * ∑ k : Fin 256, x2 (ix3 0 r k) * x5 (ix3 0 k j) := by
  pointwise [k0_pay1]

theorem out_apply (t : Fin cfg0.N) (r : Fin 512) (j : Fin 2048) :
    out0_7 (iblk m c 0 t) (iblk m c 1 t) (iblk m c 2 t) (iblk m c 3 t) (iblk m c 4 t) (iblk m c 5 t) (iblk m c 6 t) (ix2 r j)
      = val m c (ix2 (rowOf t r) j) := by
  have e : out0_7 (iblk m c 0 t) (iblk m c 1 t) (iblk m c 2 t) (iblk m c 3 t) (iblk m c 4 t) (iblk m c 5 t) (iblk m c 6 t)
      = k0_pay1 (iblk m c 1 t) (iblk m c 0 t) (iblk m c 3 t) (iblk m c 4 t) (iblk m c 2 t) (iblk m c 5 t) := by
    unfold out0_7
    rw [View.canon_cons_unit_lit _ _ _ (by decide), View.ld_unit_lit _ _ (by decide), View.ld_unit_lit _ _ (by decide),
      View.ld_unit_lit _ _ (by decide), View.ld_unit_lit _ _ (by decide), View.ld_unit_lit _ _ (by decide),
      View.ld_unit_lit _ _ (by decide)]
  rw [e, pay_apply]
  simp only [x_block, y_block, p_block, wo_block, wg_block, wp_block]
  rfl

theorem flushed_eq (t : Fin cfg0.N) :
    (dats m 0 c).flushed 7 t = (win0_7.blk t).view.read (Elt Ideal) (val m c) := by
  rw [Cert.Kernel3Ideal.Value.flushed7]
  refine funext fun y : (⟨2, ![512, 2048]⟩ : Shape).Idx => ?_
  obtain ⟨r, j, rfl⟩ : ∃ (r : Fin 512) (j : Fin 2048), y = ix2 r j := ⟨y 0, y 1, funext fun a => by match a with | 0 => rfl | 1 => rfl⟩
  have e := (index_facts t).2.2.2.2.2.2
  refine (out_apply m c t r j).trans (congrArg (val m c) (funext fun a => Fin.ext ?_))
  match a with
  | 0 => show 512 * t.val + r.val = win0_7.index t 0 * 512 + 1 * r.val; rw [e.1]; omega
  | 1 => show j.val = win0_7.index t 1 * 2048 + 1 * j.val; rw [e.2]; omega

/-- Every element is in some point's block. -/
theorem cover (i : S16384x2048.Idx) :
    ∃ t : Fin cfg0.N, (cfg0.win 7).flush t = true ∧ i ∈ ((cfg0.win 7).blk t).view.set := by
  have h0 : (i 0).val < 16384 := (i 0).isLt
  have h1 : (i 1).val < 2048 := (i 1).isLt
  have ht : (i 0).val / 512 < 32 := by omega
  refine ⟨⟨(i 0).val / 512, ht⟩, flush0_7 _, ?_⟩
  show i ∈ ((View.whole main_v5).slice (win0_7.rect ⟨_, ht⟩)).set
  rw [View.set_slice_whole, Rect.mem_set_unit]
  obtain ⟨e0, e1⟩ := (index_facts ⟨(i 0).val / 512, ht⟩).2.2.2.2.2.2
  have hs := size_facts ⟨(i 0).val / 512, ht⟩
  dsimp only at e0 e1
  intro a
  show win0_7.index ⟨_, ht⟩ a * win0_7.size a ≤ (i a : Nat) ∧ (i a : Nat) < win0_7.index ⟨_, ht⟩ a * win0_7.size a + win0_7.xsize (grid0.coords ⟨_, ht⟩) a
  rw [hs a]
  match a with
  | 0 =>
    show win0_7.index ⟨_, ht⟩ 0 * 512 ≤ (i 0).val ∧ (i 0).val < win0_7.index ⟨_, ht⟩ 0 * 512 + 512
    rw [e0]; omega
  | 1 =>
    show win0_7.index ⟨_, ht⟩ 1 * 2048 ≤ (i 1).val ∧ (i 1).val < win0_7.index ⟨_, ht⟩ 1 * 2048 + 2048
    rw [e1]; omega

theorem final_eq : (dats m 0 c).arrAt 7 cfg0.N = val m c :=
  (dats m 0 c).arrAt_eq_of_cover 7 (val m c) (fun t _ => flushed_eq m c t) cover

end Cert.Kernel3Ideal.Hand

namespace Cert.Reference3Ideal.Hand

open Cert.Reference3Ideal Cert.Reference3Ideal.Gen Cert.Reference3Ideal.Read
open Idealize.ShloMosaic Cert.Mix

variable (y x : Rows) (p : Embeds) (wo : OutW) (wg : GateW) (wp : EmbedW)

theorem wo_apply (k j : Fin 2048) : val_main_v2 (F := Ideal) wo (ix2 k j) = wo (ix3 0 k j) := by
  rw [val_main_v2_apply, val_main_v1_apply]
  refine congrArg wo (funext fun a => Fin.ext ?_)
  have hk := k.isLt; have hj := j.isLt
  match a with
  | 0 => rfl
  | 1 => show (k.val * 2048 + j.val) / 2048 % 2048 = k.val; omega
  | 2 => show (k.val * 2048 + j.val) % 2048 = j.val; omega

theorem wg_apply (k j : Fin 2048) : val_main_v6 (F := Ideal) wg (ix2 k j) = wg (ix3 0 k j) := by
  rw [val_main_v6_apply, val_main_v5_apply]
  refine congrArg wg (funext fun a => Fin.ext ?_)
  have hk := k.isLt; have hj := j.isLt
  match a with
  | 0 => rfl
  | 1 => show (k.val * 2048 + j.val) / 2048 % 2048 = k.val; omega
  | 2 => show (k.val * 2048 + j.val) % 2048 = j.val; omega

theorem wp_apply (k : Fin 256) (j : Fin 2048) : val_main_v18 (F := Ideal) wp (ix2 k j) = wp (ix3 0 k j) := by
  rw [val_main_v18_apply, val_main_v17_apply]
  refine congrArg wp (funext fun a => Fin.ext ?_)
  have hk := k.isLt; have hj := j.isLt
  match a with
  | 0 => rfl
  | 1 => show (k.val * 2048 + j.val) / 2048 % 256 = k.val; omega
  | 2 => show (k.val * 2048 + j.val) % 2048 = j.val; omega

theorem p_apply (r : Fin 16384) (k : Fin 256) :
    val_main_v16 (F := Ideal) p (ix2 r k) = p (ix4 0 ⟨r.val / 8192, by omega⟩ ⟨r.val % 8192, by omega⟩ k) := by
  rw [val_main_v16_apply, val_main_v15_apply, val_main_v14_apply]
  refine congrArg p (funext fun a => Fin.ext ?_)
  have hr := r.isLt; have hk := k.isLt
  match a with
  | 0 => rfl
  | 1 => dsimp only [idx_main_v14, idx_main_v15, idx_main_v16, ix2, ix4]; omega
  | 2 => dsimp only [idx_main_v14, idx_main_v15, idx_main_v16, ix2, ix4]; omega
  | 3 => dsimp only [idx_main_v14, idx_main_v15, idx_main_v16, ix2, ix4]; omega

theorem mid_apply (r : Fin 16384) (j : Fin 2048) : val_main_v4 (F := Ideal) y x wo (ix2 r j) = mid y x wo 0 r j := by
  rw [val_main_v4_apply, val_main_v3_apply]
  refine congrArg (x (ix2 r j) + ·) (Finset.sum_congr rfl fun k _ => ?_)
  have e1 : lidx_main_v3 (ix2 r j) k = ix2 r k := by funext a; match a with | 0 => rfl | 1 => rfl
  have e2 : ridx_main_v3 (ix2 r j) k = ix2 k j := by funext a; match a with | 0 => rfl | 1 => rfl
  rw [e1, e2, wo_apply]
  rfl

theorem gate_apply (r : Fin 16384) (j : Fin 2048) :
    val_main_v7 (F := Ideal) y x wo wg (ix2 r j) = ∑ k : Fin 2048, mid y x wo 0 r k * wg (ix3 0 k j) := by
  rw [val_main_v7_apply]
  refine Finset.sum_congr rfl fun k _ => ?_
  have e1 : lidx_main_v7 (ix2 r j) k = ix2 r k := by funext a; match a with | 0 => rfl | 1 => rfl
  have e2 : ridx_main_v7 (ix2 r j) k = ix2 k j := by funext a; match a with | 0 => rfl | 1 => rfl
  rw [e1, e2, wg_apply, mid_apply]

theorem embed_apply (r : Fin 16384) (j : Fin 2048) :
    val_main_v19 (F := Ideal) p wp (ix2 r j) = embed p wp 0 r j := by
  rw [val_main_v19_apply]
  refine Finset.sum_congr rfl fun k _ => ?_
  have e1 : lidx_main_v19 (ix2 r j) k = ix2 r k := by funext a; match a with | 0 => rfl | 1 => rfl
  have e2 : ridx_main_v19 (ix2 r j) k = ix2 k j := by funext a; match a with | 0 => rfl | 1 => rfl
  rw [e1, e2, wp_apply, p_apply]

theorem result_apply (r : Fin 16384) (j : Fin 2048) :
    val_main_v21 (F := Ideal) y x p wo wg wp (ix2 r j) = mixed y x p wo wg wp 0 0 r j := by
  have e1 : (FloatOps.ofBits (F := Ideal) .f32 0x3F800000#32) = (1 : EReal) := Ideal.ofBits_one_f32
  simp only [val_main_v21_apply, val_main_v20_apply, val_main_v13_apply, val_main_v12_apply, val_main_cst_0_apply,
    val_main_v11_apply, val_main_v10_apply, val_main_cst_apply, val_main_v9_apply, val_main_v8_apply, mid_apply,
    gate_apply, embed_apply, e1]
  rfl

end Cert.Reference3Ideal.Hand

namespace Cert.Proof

open Idealize.ShloMosaic Idealize.ShloMosaic.TcCoe Idealize.SL.Sem

theorem frame_kernel3 : Cert.quiescent_Kernel3 := fun m g _ => Cert.Kernel3.Gen.frame m g

theorem frame_ideal3 : Cert.quiescent_Kernel3Ideal := fun m g _ => Cert.Kernel3Ideal.Gen.frame m g

theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

theorem algebraic3 : Cert.algebraic_Kernel3Ideal_Reference3Ideal := by
  intro m g m' g' _ harg
  refine ⟨fun c => Cert.Kernel3Ideal.Hand.val m c, ?_, ?_⟩
  · refine (θ_run Cert.Kernel3Ideal.defs _ _).mono (fun r h c => ⟨(h c).1.trans ?_, (h c).2⟩)
      (Cert.Kernel3Ideal.Value.run_blocks m g)
    exact Cert.Kernel3Ideal.Hand.final_eq m c
  · refine (θ_run Cert.Reference3Ideal.defs _ _).mono (fun r h c => ⟨(h c).1.trans ?_, (h c).2⟩)
      (Cert.Reference3Ideal.Value.run m' g')
    refine (Cert.Reference3Ideal.Read.val_main_v21_eq _ _ _ _ _ _).trans ?_
    obtain ⟨h0, h1, h2, h3, h4, h5, _⟩ := harg c
    rw [h0, h1, h2, h3, h4, h5]
    refine funext fun i : (⟨2, ![16384, 2048]⟩ : Shape).Idx => ?_
    obtain ⟨r, j, rfl⟩ : ∃ (r : Fin 16384) (j : Fin 2048), i = ix2 r j :=
      ⟨i 0, i 1, funext fun a => by match a with | 0 => rfl | 1 => rfl⟩
    exact Cert.Reference3Ideal.Hand.result_apply _ _ _ _ _ _ r j

end Cert.Proof

end
-- ==== Proof.Out4.lean ====
module

public import proofs.«01_k».proof.Defs
public import proofs.«01_k».proof.Proof.Mix
public import Idealize.ShloMosaic.Lib.StableHlo.RunRead
public import Idealize.ShloMosaic.Lib.Pipeline.ValueKit.Basic
public import Idealize.ShloMosaic.Lib.Quiescent
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read

/-!
# The output of the last layer, which is the model's result

Every point of the grid writes its own rows, and each row is `mixed`, normalised.
-/

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem Cert.Mix

variable (m : (ℓ : Loc nD τ sig) → Buf (Elt Ideal) ℓ) (c : Dev nD)

abbrev ys : Rows := m ((c.tc : Thread nD τ).loc main_arg0)
abbrev xs : Rows := m ((c.tc : Thread nD τ).loc main_arg1)
abbrev ps : Embeds := m ((c.tc : Thread nD τ).loc main_arg2)
abbrev wo : OutW := m ((c.tc : Thread nD τ).loc main_arg3)
abbrev wg : GateW := m ((c.tc : Thread nD τ).loc main_arg4)
abbrev wp : EmbedW := m ((c.tc : Thread nD τ).loc main_arg5)
abbrev fg : Gain := m ((c.tc : Thread nD τ).loc main_arg6)

theorem V_wo : (V m c main_v1 : OutW) = wo m c := by
  show StableHlo.after hostOps0 (fun b => m (c, b)) (Proc.devRef .tc main_v1) = _
  after_reads_simp
  rfl

theorem V_wg : (V m c main_v2 : GateW) = wg m c := by
  show StableHlo.after hostOps0 (fun b => m (c, b)) (Proc.devRef .tc main_v2) = _
  after_reads_simp
  rfl

theorem V_wp : (V m c main_v3 : EmbedW) = wp m c := by
  show StableHlo.after hostOps0 (fun b => m (c, b)) (Proc.devRef .tc main_v3) = _
  after_reads_simp
  rfl

theorem V_p : (V m c main_v0 : (⟨3, ![4, 16384, 256]⟩ : Shape).Idx → EReal)
    = shapeCast S4x16384x256 (ps m c) shapeCasts_S4x2x8192x256_S4x16384x256 := by
  show StableHlo.after hostOps0 (fun b => m (c, b)) (Proc.devRef .tc main_v0) = _
  after_reads_simp
  rfl

theorem V_fg : (V m c main_v4 : (⟨2, ![1, 2048]⟩ : Shape).Idx → EReal) = shapeCast S1x2048 (fg m c) shapeCasts_S2048_S1x2048 := by
  show StableHlo.after hostOps0 (fun b => m (c, b)) (Proc.devRef .tc main_v4) = _
  after_reads_simp
  rfl

/-- Where the blocks of a point lie. -/
theorem index_facts : ∀ t : Fin grid0.N,
    (win0_0.index t 0 = t.val ∧ win0_0.index t 1 = 0) ∧ (win0_1.index t 0 = t.val ∧ win0_1.index t 1 = 0)
    ∧ (win0_2.index t 0 = 3 ∧ win0_2.index t 1 = t.val ∧ win0_2.index t 2 = 0)
    ∧ (win0_3.index t 0 = 1 ∧ win0_3.index t 1 = 0 ∧ win0_3.index t 2 = 0)
    ∧ (win0_4.index t 0 = 3 ∧ win0_4.index t 1 = 0 ∧ win0_4.index t 2 = 0)
    ∧ (win0_5.index t 0 = 3 ∧ win0_5.index t 1 = 0 ∧ win0_5.index t 2 = 0)
    ∧ (win0_6.index t 0 = 0 ∧ win0_6.index t 1 = 0)
    ∧ (win0_7.index t 0 = t.val ∧ win0_7.index t 1 = 0) := by
  decide +kernel

theorem size_facts : ∀ t : Fin grid0.N, ∀ a, win0_7.xsize (grid0.coords t) a = S512x2048.size a := by decide +kernel

theorem point_lt (t : Fin cfg0.N) : t.val < 32 := t.isLt

/-- The row of a point's element. -/
abbrev rowOf (t : Fin cfg0.N) (r : Fin 512) : Fin 16384 := ⟨512 * t.val + r.val, by have := point_lt t; omega⟩

theorem y_block (t : Fin cfg0.N) (r : Fin 512) (k : Fin 2048) :
    iblk m c 0 t (ix2 r k) = ys m c (ix2 (rowOf t r) k) := by
  have e := (index_facts t).1
  unfold iblk
  refine (congrFun (V_main_arg0 m c) _).trans (congrArg (ys m c) (funext fun a => Fin.ext ?_))
  match a with
  | 0 => show win0_0.index t 0 * 512 + 1 * r.val = 512 * t.val + r.val; rw [e.1]; omega
  | 1 => show win0_0.index t 1 * 2048 + 1 * k.val = k.val; rw [e.2]; omega

theorem x_block (t : Fin cfg0.N) (r : Fin 512) (k : Fin 2048) :
    iblk m c 1 t (ix2 r k) = xs m c (ix2 (rowOf t r) k) := by
  have e := (index_facts t).2.1
  unfold iblk
  refine (congrFun (V_main_arg1 m c) _).trans (congrArg (xs m c) (funext fun a => Fin.ext ?_))
  match a with
  | 0 => show win0_1.index t 0 * 512 + 1 * r.val = 512 * t.val + r.val; rw [e.1]; omega
  | 1 => show win0_1.index t 1 * 2048 + 1 * k.val = k.val; rw [e.2]; omega

theorem p_block (t : Fin cfg0.N) (r : Fin 512) (k : Fin 256) :
    iblk m c 2 t (ix3 0 r k)
      = ps m c (ix4 3 ⟨(rowOf t r).val / 8192, by omega⟩ ⟨(rowOf t r).val % 8192, by omega⟩ k) := by
  have e := (index_facts t).2.2.1
  unfold iblk
  refine (congrFun (V_p m c) _).trans (shapeCast_apply (ps m c) _ _ _ ?_)
  rw [Shape.rowMajor_val_four, Shape.rowMajor_val_three]
  show ((3 * 2 + (512 * t.val + r.val) / 8192) * 8192 + (512 * t.val + r.val) % 8192) * 256 + k.val
    = ((win0_2.index t 0 * 1 + 1 * 0) * 16384 + (win0_2.index t 1 * 512 + 1 * r.val)) * 256 + (win0_2.index t 2 * 256 + 1 * k.val)
  rw [e.1, e.2.1, e.2.2]
  omega

theorem wo_block (t : Fin cfg0.N) (k j : Fin 2048) : iblk m c 3 t (ix3 0 k j) = wo m c (ix3 1 k j) := by
  have e := (index_facts t).2.2.2.1
  unfold iblk
  refine (congrFun (V_wo m c) _).trans (congrArg (wo m c) (funext fun a => Fin.ext ?_))
  match a with
  | 0 => show win0_3.index t 0 * 1 + 1 * 0 = 1; rw [e.1]
  | 1 => show win0_3.index t 1 * 2048 + 1 * k.val = k.val; rw [e.2.1]; omega
  | 2 => show win0_3.index t 2 * 2048 + 1 * j.val = j.val; rw [e.2.2]; omega

theorem wg_block (t : Fin cfg0.N) (k j : Fin 2048) : iblk m c 4 t (ix3 0 k j) = wg m c (ix3 3 k j) := by
  have e := (index_facts t).2.2.2.2.1
  unfold iblk
  refine (congrFun (V_wg m c) _).trans (congrArg (wg m c) (funext fun a => Fin.ext ?_))
  match a with
  | 0 => show win0_4.index t 0 * 1 + 1 * 0 = 3; rw [e.1]
  | 1 => show win0_4.index t 1 * 2048 + 1 * k.val = k.val; rw [e.2.1]; omega
  | 2 => show win0_4.index t 2 * 2048 + 1 * j.val = j.val; rw [e.2.2]; omega

theorem wp_block (t : Fin cfg0.N) (k : Fin 256) (j : Fin 2048) :
    iblk m c 5 t (ix3 0 k j) = wp m c (ix3 3 k j) := by
  have e := (index_facts t).2.2.2.2.2.1
  unfold iblk
  refine (congrFun (V_wp m c) _).trans (congrArg (wp m c) (funext fun a => Fin.ext ?_))
  match a with
  | 0 => show win0_5.index t 0 * 1 + 1 * 0 = 3; rw [e.1]
  | 1 => show win0_5.index t 1 * 256 + 1 * k.val = k.val; rw [e.2.1]; omega
  | 2 => show win0_5.index t 2 * 2048 + 1 * j.val = j.val; rw [e.2.2]; omega

theorem fg_block (t : Fin cfg0.N) (j : Fin 2048) : iblk m c 6 t (ix2 0 j) = fg m c (ix1 j) := by
  have e := (index_facts t).2.2.2.2.2.2.1
  unfold iblk
  refine (congrFun (V_fg m c) _).trans (shapeCast_apply (fg m c) _ _ _ ?_)
  rw [Shape.rowMajor_val_one, Shape.rowMajor_val_two]
  show j.val = (win0_6.index t 0 * 1 + 1 * 0) * 2048 + (win0_6.index t 1 * 2048 + 1 * j.val)
  rw [e.1, e.2]
  omega

/-- The whole result. -/
def val : Rows := fun i =>
  normed (fun k => mixed (ys m c) (xs m c) (ps m c) (wo m c) (wg m c) (wp m c) 3 1 (i 0) k) (fg m c) (i 1)

/-- A row before the norm. -/
def row (x0 : Vec Ideal S512x2048 .bf16) (x1 : Vec Ideal S512x2048 .f32) (x2 : Vec Ideal S1x512x256 .f32)
    (x3 x4 : Vec Ideal S1x2048x2048 .bf16) (x5 : Vec Ideal S1x256x2048 .bf16) (r : Fin 512) (j : Fin 2048) : EReal :=
  x1 (ix2 r j) + ∑ k : Fin 2048, x0 (ix2 r k) * x3 (ix3 0 k j)
    + Ideal.logistic (∑ k : Fin 2048, (x1 (ix2 r k) + ∑ l : Fin 2048, x0 (ix2 r l) * x3 (ix3 0 l k)) * x4 (ix3 0 k j))
      * ∑ k : Fin 256, x2 (ix3 0 r k) * x5 (ix3 0 k j)

theorem pay_apply (x0 : Vec Ideal S512x2048 .bf16) (x1 : Vec Ideal S512x2048 .f32) (x2 : Vec Ideal S1x512x256 .f32)
    (x3 x4 : Vec Ideal S1x2048x2048 .bf16) (x5 : Vec Ideal S1x256x2048 .bf16) (x6 : Vec Ideal S1x2048 .f32) (g : Gain)
    (hg : ∀ j, x6 (ix2 0 j) = g (ix1 j)) (r : Fin 512) (j : Fin 2048) :
    k0_pay1 x1 x0 x3 x4 x2 x5 x6 (ix2 r j) = normed (row x0 x1 x2 x3 x4 x5 r) g j := by
  pointwise [k0_pay1]
  rw [hg]
  unfold normed row
  rfl

theorem out_apply (t : Fin cfg0.N) (r : Fin 512) (j : Fin 2048) :
    out0_7 (iblk m c 0 t) (iblk m c 1 t) (iblk m c 2 t) (iblk m c 3 t) (iblk m c 4 t) (iblk m c 5 t) (iblk m c 6 t) (ix2 r j)
      = val m c (ix2 (rowOf t r) j) := by
  have e : out0_7 (iblk m c 0 t) (iblk m c 1 t) (iblk m c 2 t) (iblk m c 3 t) (iblk m c 4 t) (iblk m c 5 t) (iblk m c 6 t)
      = k0_pay1 (iblk m c 1 t) (iblk m c 0 t) (iblk m c 3 t) (iblk m c 4 t) (iblk m c 2 t) (iblk m c 5 t) (iblk m c 6 t) := by
    unfold out0_7
    rw [View.canon_cons_unit_lit _ _ _ (by decide), View.ld_unit_lit _ _ (by decide), View.ld_unit_lit _ _ (by decide),
      View.ld_unit_lit _ _ (by decide), View.ld_unit_lit _ _ (by decide), View.ld_unit_lit _ _ (by decide),
      View.ld_unit_lit _ _ (by decide), View.ld_unit_lit _ _ (by decide)]
  have er : row (iblk m c 0 t) (iblk m c 1 t) (iblk m c 2 t) (iblk m c 3 t) (iblk m c 4 t) (iblk m c 5 t) r
      = mixed (ys m c) (xs m c) (ps m c) (wo m c) (wg m c) (wp m c) 3 1 (rowOf t r) := by
    funext k
    unfold row
    simp only [x_block, y_block, p_block, wo_block, wg_block, wp_block]
    rfl
  rw [e, pay_apply _ _ _ _ _ _ _ (fg m c) (fg_block m c t), er]
  rfl

theorem flushed_eq (t : Fin cfg0.N) :
    (dats m 0 c).flushed 7 t = (win0_7.blk t).view.read (Elt Ideal) (val m c) := by
  rw [Cert.Kernel4Ideal.Value.flushed7]
  refine funext fun y : (⟨2, ![512, 2048]⟩ : Shape).Idx => ?_
  obtain ⟨r, j, rfl⟩ : ∃ (r : Fin 512) (j : Fin 2048), y = ix2 r j := ⟨y 0, y 1, funext fun a => by match a with | 0 => rfl | 1 => rfl⟩
  have e := (index_facts t).2.2.2.2.2.2.2
  refine (out_apply m c t r j).trans (congrArg (val m c) (funext fun a => Fin.ext ?_))
  match a with
  | 0 => show 512 * t.val + r.val = win0_7.index t 0 * 512 + 1 * r.val; rw [e.1]; omega
  | 1 => show j.val = win0_7.index t 1 * 2048 + 1 * j.val; rw [e.2]; omega

/-- Every element is in some point's block. -/
theorem cover (i : S16384x2048.Idx) :
    ∃ t : Fin cfg0.N, (cfg0.win 7).flush t = true ∧ i ∈ ((cfg0.win 7).blk t).view.set := by
  have h0 : (i 0).val < 16384 := (i 0).isLt
  have h1 : (i 1).val < 2048 := (i 1).isLt
  have ht : (i 0).val / 512 < 32 := by omega
  refine ⟨⟨(i 0).val / 512, ht⟩, flush0_7 _, ?_⟩
  show i ∈ ((View.whole main_v5).slice (win0_7.rect ⟨_, ht⟩)).set
  rw [View.set_slice_whole, Rect.mem_set_unit]
  obtain ⟨e0, e1⟩ := (index_facts ⟨(i 0).val / 512, ht⟩).2.2.2.2.2.2.2
  have hs := size_facts ⟨(i 0).val / 512, ht⟩
  dsimp only at e0 e1
  intro a
  show win0_7.index ⟨_, ht⟩ a * win0_7.size a ≤ (i a : Nat) ∧ (i a : Nat) < win0_7.index ⟨_, ht⟩ a * win0_7.size a + win0_7.xsize (grid0.coords ⟨_, ht⟩) a
  rw [hs a]
  match a with
  | 0 =>
    show win0_7.index ⟨_, ht⟩ 0 * 512 ≤ (i 0).val ∧ (i 0).val < win0_7.index ⟨_, ht⟩ 0 * 512 + 512
    rw [e0]; omega
  | 1 =>
    show win0_7.index ⟨_, ht⟩ 1 * 2048 ≤ (i 1).val ∧ (i 1).val < win0_7.index ⟨_, ht⟩ 1 * 2048 + 2048
    rw [e1]; omega

theorem final_eq : (dats m 0 c).arrAt 7 cfg0.N = val m c :=
  (dats m 0 c).arrAt_eq_of_cover 7 (val m c) (fun t _ => flushed_eq m c t) cover

end Cert.Kernel4Ideal.Hand

namespace Cert.Reference4Ideal.Hand

open Cert.Reference4Ideal Cert.Reference4Ideal.Gen Cert.Reference4Ideal.Read
open Idealize.ShloMosaic Cert.Mix

variable (y x : Rows) (p : Embeds) (wo : OutW) (wg : GateW) (wp : EmbedW)

theorem wo_apply (k j : Fin 2048) : val_main_v2 (F := Ideal) wo (ix2 k j) = wo (ix3 1 k j) := by
  rw [val_main_v2_apply, val_main_v1_apply]
  refine congrArg wo (funext fun a => Fin.ext ?_)
  have hk := k.isLt; have hj := j.isLt
  match a with
  | 0 => rfl
  | 1 => show (k.val * 2048 + j.val) / 2048 % 2048 = k.val; omega
  | 2 => show (k.val * 2048 + j.val) % 2048 = j.val; omega

theorem wg_apply (k j : Fin 2048) : val_main_v6 (F := Ideal) wg (ix2 k j) = wg (ix3 3 k j) := by
  rw [val_main_v6_apply, val_main_v5_apply]
  refine congrArg wg (funext fun a => Fin.ext ?_)
  have hk := k.isLt; have hj := j.isLt
  match a with
  | 0 => rfl
  | 1 => show (k.val * 2048 + j.val) / 2048 % 2048 = k.val; omega
  | 2 => show (k.val * 2048 + j.val) % 2048 = j.val; omega

theorem wp_apply (k : Fin 256) (j : Fin 2048) : val_main_v18 (F := Ideal) wp (ix2 k j) = wp (ix3 3 k j) := by
  rw [val_main_v18_apply, val_main_v17_apply]
  refine congrArg wp (funext fun a => Fin.ext ?_)
  have hk := k.isLt; have hj := j.isLt
  match a with
  | 0 => rfl
  | 1 => show (k.val * 2048 + j.val) / 2048 % 256 = k.val; omega
  | 2 => show (k.val * 2048 + j.val) % 2048 = j.val; omega

theorem p_apply (r : Fin 16384) (k : Fin 256) :
    val_main_v16 (F := Ideal) p (ix2 r k) = p (ix4 3 ⟨r.val / 8192, by omega⟩ ⟨r.val % 8192, by omega⟩ k) := by
  rw [val_main_v16_apply, val_main_v15_apply, val_main_v14_apply]
  refine congrArg p (funext fun a => Fin.ext ?_)
  have hr := r.isLt; have hk := k.isLt
  match a with
  | 0 => rfl
  | 1 => dsimp only [idx_main_v14, idx_main_v15, idx_main_v16, ix2, ix4]; omega
  | 2 => dsimp only [idx_main_v14, idx_main_v15, idx_main_v16, ix2, ix4]; omega
  | 3 => dsimp only [idx_main_v14, idx_main_v15, idx_main_v16, ix2, ix4]; omega

theorem mid_apply (r : Fin 16384) (j : Fin 2048) : val_main_v4 (F := Ideal) y x wo (ix2 r j) = mid y x wo 1 r j := by
  rw [val_main_v4_apply, val_main_v3_apply]
  refine congrArg (x (ix2 r j) + ·) (Finset.sum_congr rfl fun k _ => ?_)
  have e1 : lidx_main_v3 (ix2 r j) k = ix2 r k := by funext a; match a with | 0 => rfl | 1 => rfl
  have e2 : ridx_main_v3 (ix2 r j) k = ix2 k j := by funext a; match a with | 0 => rfl | 1 => rfl
  rw [e1, e2, wo_apply]
  rfl

theorem gate_apply (r : Fin 16384) (j : Fin 2048) :
    val_main_v7 (F := Ideal) y x wo wg (ix2 r j) = ∑ k : Fin 2048, mid y x wo 1 r k * wg (ix3 3 k j) := by
  rw [val_main_v7_apply]
  refine Finset.sum_congr rfl fun k _ => ?_
  have e1 : lidx_main_v7 (ix2 r j) k = ix2 r k := by funext a; match a with | 0 => rfl | 1 => rfl
  have e2 : ridx_main_v7 (ix2 r j) k = ix2 k j := by funext a; match a with | 0 => rfl | 1 => rfl
  rw [e1, e2, wg_apply, mid_apply]

theorem embed_apply (r : Fin 16384) (j : Fin 2048) :
    val_main_v19 (F := Ideal) p wp (ix2 r j) = embed p wp 3 r j := by
  rw [val_main_v19_apply]
  refine Finset.sum_congr rfl fun k _ => ?_
  have e1 : lidx_main_v19 (ix2 r j) k = ix2 r k := by funext a; match a with | 0 => rfl | 1 => rfl
  have e2 : ridx_main_v19 (ix2 r j) k = ix2 k j := by funext a; match a with | 0 => rfl | 1 => rfl
  rw [e1, e2, wp_apply, p_apply]

theorem mixed_apply (r : Fin 16384) (j : Fin 2048) :
    val_main_v21 (F := Ideal) y x p wo wg wp (ix2 r j) = mixed y x p wo wg wp 3 1 r j := by
  have e1 : (FloatOps.ofBits (F := Ideal) .f32 0x3F800000#32) = (1 : EReal) := Ideal.ofBits_one_f32
  simp only [val_main_v21_apply, val_main_v20_apply, val_main_v13_apply, val_main_v12_apply, val_main_cst_0_apply,
    val_main_v11_apply, val_main_v10_apply, val_main_cst_apply, val_main_v9_apply, val_main_v8_apply, mid_apply,
    gate_apply, embed_apply, e1]
  rfl

theorem sum_apply (r : Fin 16384) :
    val_main_v23 (F := Ideal) y x p wo wg wp (ix1 r)
      = ∑ k : Fin 2048, mixed y x p wo wg wp 3 1 r k * mixed y x p wo wg wp 3 1 r k := by
  have e0 : (FloatOps.ofBits (F := Ideal) .f32 0x00000000#32) = (0 : EReal) := Ideal.ofBits_zero_f32
  rw [val_main_v23_apply, val_main_cst_1_apply, e0, zero_add]
  refine Finset.sum_congr rfl fun k _ => ?_
  have e1 : idx_main_v23 (ix1 r) k = ix2 r k := by funext a; match a with | 0 => rfl | 1 => rfl
  rw [e1, val_main_v22_apply, mixed_apply]
  rfl

theorem result_apply (g : Gain) (r : Fin 16384) (j : Fin 2048) :
    val_main_v34 (F := Ideal) y x p wo wg wp g (ix2 r j) = normed (mixed y x p wo wg wp 3 1 r) g j := by
  have e1 : idx_main_v24 (idx_main_v30 (ix2 r j)) = ix1 r := by
    funext a; match a with | 0 => exact Fin.ext (by dsimp only [idx_main_v24, idx_main_v30, ix1, ix2])
  have e2 : idx_main_v32 (idx_main_v33 (ix2 r j)) = ix1 j := by
    funext a; match a with | 0 => exact Fin.ext (by dsimp only [idx_main_v32, idx_main_v33, ix1, ix2])
  simp only [val_main_v34_apply, val_main_v31_apply, val_main_v30_apply, val_main_v29_apply, val_main_v28_apply,
    val_main_v27_apply, val_main_cst_3_apply, val_main_v26_apply, val_main_v25_apply, val_main_cst_2_apply,
    val_main_v24_apply, val_main_v33_apply, val_main_v32_apply, mixed_apply, e1, e2, sum_apply]
  unfold normed
  rfl

end Cert.Reference4Ideal.Hand

namespace Cert.Proof

open Idealize.ShloMosaic Idealize.ShloMosaic.TcCoe Idealize.SL.Sem

theorem frame_kernel4 : Cert.quiescent_Kernel4 := fun m g _ => Cert.Kernel4.Gen.frame m g

theorem frame_ideal4 : Cert.quiescent_Kernel4Ideal := fun m g _ => Cert.Kernel4Ideal.Gen.frame m g

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem algebraic4 : Cert.algebraic_Kernel4Ideal_Reference4Ideal := by
  intro m g m' g' _ harg
  refine ⟨fun c => Cert.Kernel4Ideal.Hand.val m c, ?_, ?_⟩
  · refine (θ_run Cert.Kernel4Ideal.defs _ _).mono (fun r h c => ⟨(h c).1.trans ?_, (h c).2⟩)
      (Cert.Kernel4Ideal.Value.run_blocks m g)
    exact Cert.Kernel4Ideal.Hand.final_eq m c
  · refine (θ_run Cert.Reference4Ideal.defs _ _).mono (fun r h c => ⟨(h c).1.trans ?_, (h c).2⟩)
      (Cert.Reference4Ideal.Value.run m' g')
    refine (Cert.Reference4Ideal.Read.val_main_v34_eq m' c).trans ?_
    obtain ⟨h0, h1, h2, h3, h4, h5, h6⟩ := harg c
    rw [h0, h1, h2, h3, h4, h5, h6]
    refine funext fun i : (⟨2, ![16384, 2048]⟩ : Shape).Idx => ?_
    obtain ⟨r, j, rfl⟩ : ∃ (r : Fin 16384) (j : Fin 2048), i = ix2 r j :=
      ⟨i 0, i 1, funext fun a => by match a with | 0 => rfl | 1 => rfl⟩
    exact Cert.Reference4Ideal.Hand.result_apply _ _ _ _ _ _ _ r j

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_scores
public import proofs.«01_k».proof.Proof.Gen.ReferenceIdeal.Run
public import proofs.«01_k».proof.Proof.Gen.ReferenceIdeal.Read
public import proofs.«01_k».proof.Proof.Value
public import proofs.«01_k».proof.Proof.Project
public import proofs.«01_k».proof.Proof.Project5
public import proofs.«01_k».proof.Proof.Project6
public import proofs.«01_k».proof.Proof.GatingRef
public import proofs.«01_k».proof.Proof.Out3
public import proofs.«01_k».proof.Proof.Out4
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite_scores.Gen.facts,
  frame_kernel, frame_ideal, frame_ideal_pre, frame_reference, frame_reference_pre,
  frame_kernel2, frame_ideal2, frame_reference2, frame_kernel3, frame_ideal3, frame_reference3,
  frame_kernel4, frame_ideal4, frame_reference4, frame_kernel5, frame_ideal5, frame_reference5,
  frame_kernel6, frame_ideal6, frame_reference6, frame_kernel7, frame_ideal7, frame_reference7,
  preserves, algebraic, trivial, algebraic2, trivial, algebraic3, trivial, algebraic4, trivial, algebraic5,
  trivial, algebraic6, trivial, algebraic7⟩

end Cert.Proof

end
